-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Experts [hPre_tables : Cert.Pre_tables.Facts] (m : (ℓ : Loc Cert.Experts.nD Cert.Experts.τ Cert.Experts.sig) → Buf (Elt Bits) ℓ) : Prop :=
  ∀ c : Dev Cert.Experts.nD,
    (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_tables : Cert.Pre_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_tables [hPre_tables : Cert.Pre_tables.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_tables.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_Mixed (m : (ℓ : Loc Cert.Mixed.nD Cert.Mixed.τ Cert.Mixed.sig) → Buf (Elt Bits) ℓ) : Prop :=
  True

def Pre_MixedIdeal (m : (ℓ : Loc Cert.MixedIdeal.nD Cert.MixedIdeal.τ Cert.MixedIdeal.sig) → Buf (Elt Ideal) ℓ) : Prop :=
  True

def Pre_MixedRefIdeal (m : (ℓ : Loc Cert.MixedRefIdeal.nD Cert.MixedRefIdeal.τ Cert.MixedRefIdeal.sig) → Buf (Elt Ideal) ℓ) : Prop :=
  True

def Pre_Ins (m : (ℓ : Loc Cert.Ins.nD Cert.Ins.τ Cert.Ins.sig) → Buf (Elt Bits) ℓ) : Prop :=
  True

def Pre_InsIdeal (m : (ℓ : Loc Cert.InsIdeal.nD Cert.InsIdeal.τ Cert.InsIdeal.sig) → Buf (Elt Ideal) ℓ) : Prop :=
  True

def Pre_InsRefIdeal (m : (ℓ : Loc Cert.InsRefIdeal.nD Cert.InsRefIdeal.τ Cert.InsRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] [hPre_tables : Cert.Pre_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_tables [hExpertsRefIdeal : Cert.ExpertsRefIdeal.Facts] [hPre_tables : Cert.Pre_tables.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_tables m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4)
      ∧ r.2.mem ((c.tc : Thread Cert.DenseRefIdeal.nD Cert.DenseRefIdeal.τ).loc Cert.DenseRefIdeal.main_arg5) = m ((c.tc : Thread Cert.DenseRefIdeal.nD Cert.DenseRefIdeal.τ).loc Cert.DenseRefIdeal.main_arg5)
      ∧ r.2.mem ((c.tc : Thread Cert.DenseRefIdeal.nD Cert.DenseRefIdeal.τ).loc Cert.DenseRefIdeal.main_arg6) = m ((c.tc : Thread Cert.DenseRefIdeal.nD Cert.DenseRefIdeal.τ).loc Cert.DenseRefIdeal.main_arg6))
      ∧ r.2.sem = fun _ => 0)

def quiescent_Mixed [hMixed : Cert.Mixed.Facts] : Prop :=
  ∀ (m : (ℓ : Loc Cert.Mixed.nD Cert.Mixed.τ Cert.Mixed.sig) → Buf (Elt Bits) ℓ) (g : Dev Cert.Mixed.nD → PrngReg), Pre_Mixed m →
    θ_run (Cert.Mixed.defs (F := Bits)) (onTc (τ := Cert.Mixed.τ) (Cert.Mixed.main (F := Bits))) ⟨m, fun _ => 0, g⟩ (fun r => (∀ c : Dev Cert.Mixed.nD,
      r.2.mem ((c.tc : Thread Cert.Mixed.nD Cert.Mixed.τ).loc Cert.Mixed.main_arg0) = m ((c.tc : Thread Cert.Mixed.nD Cert.Mixed.τ).loc Cert.Mixed.main_arg0)
      ∧ r.2.mem ((c.tc : Thread Cert.Mixed.nD Cert.Mixed.τ).loc Cert.Mixed.main_arg1) = m ((c.tc : Thread Cert.Mixed.nD Cert.Mixed.τ).loc Cert.Mixed.main_arg1)
      ∧ r.2.mem ((c.tc : Thread Cert.Mixed.nD Cert.Mixed.τ).loc Cert.Mixed.main_arg2) = m ((c.tc : Thread Cert.Mixed.nD Cert.Mixed.τ).loc Cert.Mixed.main_arg2)
      ∧ r.2.mem ((c.tc : Thread Cert.Mixed.nD Cert.Mixed.τ).loc Cert.Mixed.main_arg3) = m ((c.tc : Thread Cert.Mixed.nD Cert.Mixed.τ).loc Cert.Mixed.main_arg3)
      ∧ r.2.mem ((c.tc : Thread Cert.Mixed.nD Cert.Mixed.τ).loc Cert.Mixed.main_arg4) = m ((c.tc : Thread Cert.Mixed.nD Cert.Mixed.τ).loc Cert.Mixed.main_arg4)
      ∧ r.2.mem ((c.tc : Thread Cert.Mixed.nD Cert.Mixed.τ).loc Cert.Mixed.main_arg5) = m ((c.tc : Thread Cert.Mixed.nD Cert.Mixed.τ).loc Cert.Mixed.main_arg5)
      ∧ r.2.mem ((c.tc : Thread Cert.Mixed.nD Cert.Mixed.τ).loc Cert.Mixed.main_arg6) = m ((c.tc : Thread Cert.Mixed.nD Cert.Mixed.τ).loc Cert.Mixed.main_arg6)
      ∧ r.2.mem ((c.tc : Thread Cert.Mixed.nD Cert.Mixed.τ).loc Cert.Mixed.main_arg7) = m ((c.tc : Thread Cert.Mixed.nD Cert.Mixed.τ).loc Cert.Mixed.main_arg7)
      ∧ r.2.mem ((c.tc : Thread Cert.Mixed.nD Cert.Mixed.τ).loc Cert.Mixed.main_arg8) = m ((c.tc : Thread Cert.Mixed.nD Cert.Mixed.τ).loc Cert.Mixed.main_arg8)
      ∧ r.2.mem ((c.tc : Thread Cert.Mixed.nD Cert.Mixed.τ).loc Cert.Mixed.main_arg9) = m ((c.tc : Thread Cert.Mixed.nD Cert.Mixed.τ).loc Cert.Mixed.main_arg9)
      ∧ r.2.mem ((c.tc : Thread Cert.Mixed.nD Cert.Mixed.τ).loc Cert.Mixed.main_arg10) = m ((c.tc : Thread Cert.Mixed.nD Cert.Mixed.τ).loc Cert.Mixed.main_arg10))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
      ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
      ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
      ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5)
      ∧ r.2.mem ((c.tc : Thread Cert.MixedIdeal.nD Cert.MixedIdeal.τ).loc Cert.MixedIdeal.main_arg6) = m ((c.tc : Thread Cert.MixedIdeal.nD Cert.MixedIdeal.τ).loc Cert.MixedIdeal.main_arg6)
      ∧ r.2.mem ((c.tc : Thread Cert.MixedIdeal.nD Cert.MixedIdeal.τ).loc Cert.MixedIdeal.main_arg7) = m ((c.tc : Thread Cert.MixedIdeal.nD Cert.MixedIdeal.τ).loc Cert.MixedIdeal.main_arg7)
      ∧ r.2.mem ((c.tc : Thread Cert.MixedIdeal.nD Cert.MixedIdeal.τ).loc Cert.MixedIdeal.main_arg8) = m ((c.tc : Thread Cert.MixedIdeal.nD Cert.MixedIdeal.τ).loc Cert.MixedIdeal.main_arg8)
      ∧ r.2.mem ((c.tc : Thread Cert.MixedIdeal.nD Cert.MixedIdeal.τ).loc Cert.MixedIdeal.main_arg9) = m ((c.tc : Thread Cert.MixedIdeal.nD Cert.MixedIdeal.τ).loc Cert.MixedIdeal.main_arg9)
      ∧ r.2.mem ((c.tc : Thread Cert.MixedIdeal.nD Cert.MixedIdeal.τ).loc Cert.MixedIdeal.main_arg10) = m ((c.tc : Thread Cert.MixedIdeal.nD Cert.MixedIdeal.τ).loc Cert.MixedIdeal.main_arg10))
      ∧ r.2.sem = fun _ => 0)

def quiescent_MixedRefIdeal [hMixedRefIdeal : Cert.MixedRefIdeal.Facts] : Prop :=
  ∀ (m : (ℓ : Loc Cert.MixedRefIdeal.nD Cert.MixedRefIdeal.τ Cert.MixedRefIdeal.sig) → Buf (Elt Ideal) ℓ) (g : Dev Cert.MixedRefIdeal.nD → PrngReg), Pre_MixedRefIdeal m →
    θ_run (Cert.MixedRefIdeal.defs (F := Ideal)) (onTc (τ := Cert.MixedRefIdeal.τ) (Cert.MixedRefIdeal.main (F := Ideal))) ⟨m, fun _ => 0, g⟩ (fun r => (∀ c : Dev Cert.MixedRefIdeal.nD,
      r.2.mem ((c.tc : Thread Cert.MixedRefIdeal.nD Cert.MixedRefIdeal.τ).loc Cert.MixedRefIdeal.main_arg0) = m ((c.tc : Thread Cert.MixedRefIdeal.nD Cert.MixedRefIdeal.τ).loc Cert.MixedRefIdeal.main_arg0)
      ∧ r.2.mem ((c.tc : Thread Cert.MixedRefIdeal.nD Cert.MixedRefIdeal.τ).loc Cert.MixedRefIdeal.main_arg1) = m ((c.tc : Thread Cert.MixedRefIdeal.nD Cert.MixedRefIdeal.τ).loc Cert.MixedRefIdeal.main_arg1)
      ∧ r.2.mem ((c.tc : Thread Cert.MixedRefIdeal.nD Cert.MixedRefIdeal.τ).loc Cert.MixedRefIdeal.main_arg2) = m ((c.tc : Thread Cert.MixedRefIdeal.nD Cert.MixedRefIdeal.τ).loc Cert.MixedRefIdeal.main_arg2)
      ∧ r.2.mem ((c.tc : Thread Cert.MixedRefIdeal.nD Cert.MixedRefIdeal.τ).loc Cert.MixedRefIdeal.main_arg3) = m ((c.tc : Thread Cert.MixedRefIdeal.nD Cert.MixedRefIdeal.τ).loc Cert.MixedRefIdeal.main_arg3)
      ∧ r.2.mem ((c.tc : Thread Cert.MixedRefIdeal.nD Cert.MixedRefIdeal.τ).loc Cert.MixedRefIdeal.main_arg4) = m ((c.tc : Thread Cert.MixedRefIdeal.nD Cert.MixedRefIdeal.τ).loc Cert.MixedRefIdeal.main_arg4)
      ∧ r.2.mem ((c.tc : Thread Cert.MixedRefIdeal.nD Cert.MixedRefIdeal.τ).loc Cert.MixedRefIdeal.main_arg5) = m ((c.tc : Thread Cert.MixedRefIdeal.nD Cert.MixedRefIdeal.τ).loc Cert.MixedRefIdeal.main_arg5)
      ∧ r.2.mem ((c.tc : Thread Cert.MixedRefIdeal.nD Cert.MixedRefIdeal.τ).loc Cert.MixedRefIdeal.main_arg6) = m ((c.tc : Thread Cert.MixedRefIdeal.nD Cert.MixedRefIdeal.τ).loc Cert.MixedRefIdeal.main_arg6)
      ∧ r.2.mem ((c.tc : Thread Cert.MixedRefIdeal.nD Cert.MixedRefIdeal.τ).loc Cert.MixedRefIdeal.main_arg7) = m ((c.tc : Thread Cert.MixedRefIdeal.nD Cert.MixedRefIdeal.τ).loc Cert.MixedRefIdeal.main_arg7)
      ∧ r.2.mem ((c.tc : Thread Cert.MixedRefIdeal.nD Cert.MixedRefIdeal.τ).loc Cert.MixedRefIdeal.main_arg8) = m ((c.tc : Thread Cert.MixedRefIdeal.nD Cert.MixedRefIdeal.τ).loc Cert.MixedRefIdeal.main_arg8)
      ∧ r.2.mem ((c.tc : Thread Cert.MixedRefIdeal.nD Cert.MixedRefIdeal.τ).loc Cert.MixedRefIdeal.main_arg9) = m ((c.tc : Thread Cert.MixedRefIdeal.nD Cert.MixedRefIdeal.τ).loc Cert.MixedRefIdeal.main_arg9)
      ∧ r.2.mem ((c.tc : Thread Cert.MixedRefIdeal.nD Cert.MixedRefIdeal.τ).loc Cert.MixedRefIdeal.main_arg10) = m ((c.tc : Thread Cert.MixedRefIdeal.nD Cert.MixedRefIdeal.τ).loc Cert.MixedRefIdeal.main_arg10))
      ∧ r.2.sem = fun _ => 0)

def quiescent_Ins [hIns : Cert.Ins.Facts] : Prop :=
  ∀ (m : (ℓ : Loc Cert.Ins.nD Cert.Ins.τ Cert.Ins.sig) → Buf (Elt Bits) ℓ) (g : Dev Cert.Ins.nD → PrngReg), Pre_Ins m →
    θ_run (Cert.Ins.defs (F := Bits)) (onTc (τ := Cert.Ins.τ) (Cert.Ins.main (F := Bits))) ⟨m, fun _ => 0, g⟩ (fun r => (∀ c : Dev Cert.Ins.nD,
      r.2.mem ((c.tc : Thread Cert.Ins.nD Cert.Ins.τ).loc Cert.Ins.main_arg0) = m ((c.tc : Thread Cert.Ins.nD Cert.Ins.τ).loc Cert.Ins.main_arg0)
      ∧ r.2.mem ((c.tc : Thread Cert.Ins.nD Cert.Ins.τ).loc Cert.Ins.main_arg1) = m ((c.tc : Thread Cert.Ins.nD Cert.Ins.τ).loc Cert.Ins.main_arg1)
      ∧ r.2.mem ((c.tc : Thread Cert.Ins.nD Cert.Ins.τ).loc Cert.Ins.main_arg2) = m ((c.tc : Thread Cert.Ins.nD Cert.Ins.τ).loc Cert.Ins.main_arg2)
      ∧ r.2.mem ((c.tc : Thread Cert.Ins.nD Cert.Ins.τ).loc Cert.Ins.main_arg3) = m ((c.tc : Thread Cert.Ins.nD Cert.Ins.τ).loc Cert.Ins.main_arg3)
      ∧ r.2.mem ((c.tc : Thread Cert.Ins.nD Cert.Ins.τ).loc Cert.Ins.main_arg4) = m ((c.tc : Thread Cert.Ins.nD Cert.Ins.τ).loc Cert.Ins.main_arg4)
      ∧ r.2.mem ((c.tc : Thread Cert.Ins.nD Cert.Ins.τ).loc Cert.Ins.main_arg5) = m ((c.tc : Thread Cert.Ins.nD Cert.Ins.τ).loc Cert.Ins.main_arg5)
      ∧ r.2.mem ((c.tc : Thread Cert.Ins.nD Cert.Ins.τ).loc Cert.Ins.main_arg6) = m ((c.tc : Thread Cert.Ins.nD Cert.Ins.τ).loc Cert.Ins.main_arg6)
      ∧ r.2.mem ((c.tc : Thread Cert.Ins.nD Cert.Ins.τ).loc Cert.Ins.main_arg7) = m ((c.tc : Thread Cert.Ins.nD Cert.Ins.τ).loc Cert.Ins.main_arg7)
      ∧ r.2.mem ((c.tc : Thread Cert.Ins.nD Cert.Ins.τ).loc Cert.Ins.main_arg8) = m ((c.tc : Thread Cert.Ins.nD Cert.Ins.τ).loc Cert.Ins.main_arg8)
      ∧ r.2.mem ((c.tc : Thread Cert.Ins.nD Cert.Ins.τ).loc Cert.Ins.main_arg9) = m ((c.tc : Thread Cert.Ins.nD Cert.Ins.τ).loc Cert.Ins.main_arg9)
      ∧ r.2.mem ((c.tc : Thread Cert.Ins.nD Cert.Ins.τ).loc Cert.Ins.main_arg10) = m ((c.tc : Thread Cert.Ins.nD Cert.Ins.τ).loc Cert.Ins.main_arg10)
      ∧ r.2.mem ((c.tc : Thread Cert.Ins.nD Cert.Ins.τ).loc Cert.Ins.main_arg11) = m ((c.tc : Thread Cert.Ins.nD Cert.Ins.τ).loc Cert.Ins.main_arg11)
      ∧ r.2.mem ((c.tc : Thread Cert.Ins.nD Cert.Ins.τ).loc Cert.Ins.main_arg12) = m ((c.tc : Thread Cert.Ins.nD Cert.Ins.τ).loc Cert.Ins.main_arg12)
      ∧ r.2.mem ((c.tc : Thread Cert.Ins.nD Cert.Ins.τ).loc Cert.Ins.main_arg13) = m ((c.tc : Thread Cert.Ins.nD Cert.Ins.τ).loc Cert.Ins.main_arg13))
      ∧ r.2.sem = fun _ => 0)

def quiescent_InsIdeal [hInsIdeal : Cert.InsIdeal.Facts] : Prop :=
  ∀ (m : (ℓ : Loc Cert.InsIdeal.nD Cert.InsIdeal.τ Cert.InsIdeal.sig) → Buf (Elt Ideal) ℓ) (g : Dev Cert.InsIdeal.nD → PrngReg), Pre_InsIdeal m →
    θ_run (Cert.InsIdeal.defs (F := Ideal)) (onTc (τ := Cert.InsIdeal.τ) (Cert.InsIdeal.main (F := Ideal))) ⟨m, fun _ => 0, g⟩ (fun r => (∀ c : Dev Cert.InsIdeal.nD,
      r.2.mem ((c.tc : Thread Cert.InsIdeal.nD Cert.InsIdeal.τ).loc Cert.InsIdeal.main_arg0) = m ((c.tc : Thread Cert.InsIdeal.nD Cert.InsIdeal.τ).loc Cert.InsIdeal.main_arg0)
      ∧ r.2.mem ((c.tc : Thread Cert.InsIdeal.nD Cert.InsIdeal.τ).loc Cert.InsIdeal.main_arg1) = m ((c.tc : Thread Cert.InsIdeal.nD Cert.InsIdeal.τ).loc Cert.InsIdeal.main_arg1)
      ∧ r.2.mem ((c.tc : Thread Cert.InsIdeal.nD Cert.InsIdeal.τ).loc Cert.InsIdeal.main_arg2) = m ((c.tc : Thread Cert.InsIdeal.nD Cert.InsIdeal.τ).loc Cert.InsIdeal.main_arg2)
      ∧ r.2.mem ((c.tc : Thread Cert.InsIdeal.nD Cert.InsIdeal.τ).loc Cert.InsIdeal.main_arg3) = m ((c.tc : Thread Cert.InsIdeal.nD Cert.InsIdeal.τ).loc Cert.InsIdeal.main_arg3)
      ∧ r.2.mem ((c.tc : Thread Cert.InsIdeal.nD Cert.InsIdeal.τ).loc Cert.InsIdeal.main_arg4) = m ((c.tc : Thread Cert.InsIdeal.nD Cert.InsIdeal.τ).loc Cert.InsIdeal.main_arg4)
      ∧ r.2.mem ((c.tc : Thread Cert.InsIdeal.nD Cert.InsIdeal.τ).loc Cert.InsIdeal.main_arg5) = m ((c.tc : Thread Cert.InsIdeal.nD Cert.InsIdeal.τ).loc Cert.InsIdeal.main_arg5)
      ∧ r.2.mem ((c.tc : Thread Cert.InsIdeal.nD Cert.InsIdeal.τ).loc Cert.InsIdeal.main_arg6) = m ((c.tc : Thread Cert.InsIdeal.nD Cert.InsIdeal.τ).loc Cert.InsIdeal.main_arg6)
      ∧ r.2.mem ((c.tc : Thread Cert.InsIdeal.nD Cert.InsIdeal.τ).loc Cert.InsIdeal.main_arg7) = m ((c.tc : Thread Cert.InsIdeal.nD Cert.InsIdeal.τ).loc Cert.InsIdeal.main_arg7)
      ∧ r.2.mem ((c.tc : Thread Cert.InsIdeal.nD Cert.InsIdeal.τ).loc Cert.InsIdeal.main_arg8) = m ((c.tc : Thread Cert.InsIdeal.nD Cert.InsIdeal.τ).loc Cert.InsIdeal.main_arg8)
      ∧ r.2.mem ((c.tc : Thread Cert.InsIdeal.nD Cert.InsIdeal.τ).loc Cert.InsIdeal.main_arg9) = m ((c.tc : Thread Cert.InsIdeal.nD Cert.InsIdeal.τ).loc Cert.InsIdeal.main_arg9)
      ∧ r.2.mem ((c.tc : Thread Cert.InsIdeal.nD Cert.InsIdeal.τ).loc Cert.InsIdeal.main_arg10) = m ((c.tc : Thread Cert.InsIdeal.nD Cert.InsIdeal.τ).loc Cert.InsIdeal.main_arg10)
      ∧ r.2.mem ((c.tc : Thread Cert.InsIdeal.nD Cert.InsIdeal.τ).loc Cert.InsIdeal.main_arg11) = m ((c.tc : Thread Cert.InsIdeal.nD Cert.InsIdeal.τ).loc Cert.InsIdeal.main_arg11)
      ∧ r.2.mem ((c.tc : Thread Cert.InsIdeal.nD Cert.InsIdeal.τ).loc Cert.InsIdeal.main_arg12) = m ((c.tc : Thread Cert.InsIdeal.nD Cert.InsIdeal.τ).loc Cert.InsIdeal.main_arg12)
      ∧ r.2.mem ((c.tc : Thread Cert.InsIdeal.nD Cert.InsIdeal.τ).loc Cert.InsIdeal.main_arg13) = m ((c.tc : Thread Cert.InsIdeal.nD Cert.InsIdeal.τ).loc Cert.InsIdeal.main_arg13))
      ∧ r.2.sem = fun _ => 0)

def quiescent_InsRefIdeal [hInsRefIdeal : Cert.InsRefIdeal.Facts] : Prop :=
  ∀ (m : (ℓ : Loc Cert.InsRefIdeal.nD Cert.InsRefIdeal.τ Cert.InsRefIdeal.sig) → Buf (Elt Ideal) ℓ) (g : Dev Cert.InsRefIdeal.nD → PrngReg), Pre_InsRefIdeal m →
    θ_run (Cert.InsRefIdeal.defs (F := Ideal)) (onTc (τ := Cert.InsRefIdeal.τ) (Cert.InsRefIdeal.main (F := Ideal))) ⟨m, fun _ => 0, g⟩ (fun r => (∀ c : Dev Cert.InsRefIdeal.nD,
      r.2.mem ((c.tc : Thread Cert.InsRefIdeal.nD Cert.InsRefIdeal.τ).loc Cert.InsRefIdeal.main_arg0) = m ((c.tc : Thread Cert.InsRefIdeal.nD Cert.InsRefIdeal.τ).loc Cert.InsRefIdeal.main_arg0)
      ∧ r.2.mem ((c.tc : Thread Cert.InsRefIdeal.nD Cert.InsRefIdeal.τ).loc Cert.InsRefIdeal.main_arg1) = m ((c.tc : Thread Cert.InsRefIdeal.nD Cert.InsRefIdeal.τ).loc Cert.InsRefIdeal.main_arg1)
      ∧ r.2.mem ((c.tc : Thread Cert.InsRefIdeal.nD Cert.InsRefIdeal.τ).loc Cert.InsRefIdeal.main_arg2) = m ((c.tc : Thread Cert.InsRefIdeal.nD Cert.InsRefIdeal.τ).loc Cert.InsRefIdeal.main_arg2)
      ∧ r.2.mem ((c.tc : Thread Cert.InsRefIdeal.nD Cert.InsRefIdeal.τ).loc Cert.InsRefIdeal.main_arg3) = m ((c.tc : Thread Cert.InsRefIdeal.nD Cert.InsRefIdeal.τ).loc Cert.InsRefIdeal.main_arg3)
      ∧ r.2.mem ((c.tc : Thread Cert.InsRefIdeal.nD Cert.InsRefIdeal.τ).loc Cert.InsRefIdeal.main_arg4) = m ((c.tc : Thread Cert.InsRefIdeal.nD Cert.InsRefIdeal.τ).loc Cert.InsRefIdeal.main_arg4)
      ∧ r.2.mem ((c.tc : Thread Cert.InsRefIdeal.nD Cert.InsRefIdeal.τ).loc Cert.InsRefIdeal.main_arg5) = m ((c.tc : Thread Cert.InsRefIdeal.nD Cert.InsRefIdeal.τ).loc Cert.InsRefIdeal.main_arg5)
      ∧ r.2.mem ((c.tc : Thread Cert.InsRefIdeal.nD Cert.InsRefIdeal.τ).loc Cert.InsRefIdeal.main_arg6) = m ((c.tc : Thread Cert.InsRefIdeal.nD Cert.InsRefIdeal.τ).loc Cert.InsRefIdeal.main_arg6)
      ∧ r.2.mem ((c.tc : Thread Cert.InsRefIdeal.nD Cert.InsRefIdeal.τ).loc Cert.InsRefIdeal.main_arg7) = m ((c.tc : Thread Cert.InsRefIdeal.nD Cert.InsRefIdeal.τ).loc Cert.InsRefIdeal.main_arg7)
      ∧ r.2.mem ((c.tc : Thread Cert.InsRefIdeal.nD Cert.InsRefIdeal.τ).loc Cert.InsRefIdeal.main_arg8) = m ((c.tc : Thread Cert.InsRefIdeal.nD Cert.InsRefIdeal.τ).loc Cert.InsRefIdeal.main_arg8)
      ∧ r.2.mem ((c.tc : Thread Cert.InsRefIdeal.nD Cert.InsRefIdeal.τ).loc Cert.InsRefIdeal.main_arg9) = m ((c.tc : Thread Cert.InsRefIdeal.nD Cert.InsRefIdeal.τ).loc Cert.InsRefIdeal.main_arg9)
      ∧ r.2.mem ((c.tc : Thread Cert.InsRefIdeal.nD Cert.InsRefIdeal.τ).loc Cert.InsRefIdeal.main_arg10) = m ((c.tc : Thread Cert.InsRefIdeal.nD Cert.InsRefIdeal.τ).loc Cert.InsRefIdeal.main_arg10)
      ∧ r.2.mem ((c.tc : Thread Cert.InsRefIdeal.nD Cert.InsRefIdeal.τ).loc Cert.InsRefIdeal.main_arg11) = m ((c.tc : Thread Cert.InsRefIdeal.nD Cert.InsRefIdeal.τ).loc Cert.InsRefIdeal.main_arg11)
      ∧ r.2.mem ((c.tc : Thread Cert.InsRefIdeal.nD Cert.InsRefIdeal.τ).loc Cert.InsRefIdeal.main_arg12) = m ((c.tc : Thread Cert.InsRefIdeal.nD Cert.InsRefIdeal.τ).loc Cert.InsRefIdeal.main_arg12)
      ∧ r.2.mem ((c.tc : Thread Cert.InsRefIdeal.nD Cert.InsRefIdeal.τ).loc Cert.InsRefIdeal.main_arg13) = m ((c.tc : Thread Cert.InsRefIdeal.nD Cert.InsRefIdeal.τ).loc Cert.InsRefIdeal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  True

def algebraic_ExpertsIdeal_ExpertsRefIdeal [hExpertsIdeal : Cert.ExpertsIdeal.Facts] [hExpertsRefIdeal : Cert.ExpertsRefIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v22) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)
      ∧ m' ((c.tc : Thread Cert.DenseRefIdeal.nD Cert.DenseRefIdeal.τ).loc Cert.DenseRefIdeal.main_arg4) = m ((c.tc : Thread Cert.DenseIdeal.nD Cert.DenseIdeal.τ).loc Cert.DenseIdeal.main_arg4)
      ∧ m' ((c.tc : Thread Cert.DenseRefIdeal.nD Cert.DenseRefIdeal.τ).loc Cert.DenseRefIdeal.main_arg5) = m ((c.tc : Thread Cert.DenseIdeal.nD Cert.DenseIdeal.τ).loc Cert.DenseIdeal.main_arg5)
      ∧ m' ((c.tc : Thread Cert.DenseRefIdeal.nD Cert.DenseRefIdeal.τ).loc Cert.DenseRefIdeal.main_arg6) = m ((c.tc : Thread Cert.DenseIdeal.nD Cert.DenseIdeal.τ).loc Cert.DenseIdeal.main_arg6)) →
    ∃ (v0 : (c : Dev Cert.DenseIdeal.nD) → Buf (Elt Ideal) ((c.tc : Thread Cert.DenseIdeal.nD Cert.DenseIdeal.τ).loc Cert.DenseIdeal.main_v0)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v0) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v26) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3)
          ∧ r.2.mem ((c.tc : Thread Cert.DenseRefIdeal.nD Cert.DenseRefIdeal.τ).loc Cert.DenseRefIdeal.main_arg4) = m' ((c.tc : Thread Cert.DenseRefIdeal.nD Cert.DenseRefIdeal.τ).loc Cert.DenseRefIdeal.main_arg4)
          ∧ r.2.mem ((c.tc : Thread Cert.DenseRefIdeal.nD Cert.DenseRefIdeal.τ).loc Cert.DenseRefIdeal.main_arg5) = m' ((c.tc : Thread Cert.DenseRefIdeal.nD Cert.DenseRefIdeal.τ).loc Cert.DenseRefIdeal.main_arg5)
          ∧ r.2.mem ((c.tc : Thread Cert.DenseRefIdeal.nD Cert.DenseRefIdeal.τ).loc Cert.DenseRefIdeal.main_arg6) = m' ((c.tc : Thread Cert.DenseRefIdeal.nD Cert.DenseRefIdeal.τ).loc Cert.DenseRefIdeal.main_arg6))

def preserves_Mixed_MixedIdeal : Prop :=
  True

def algebraic_MixedIdeal_MixedRefIdeal [hMixedIdeal : Cert.MixedIdeal.Facts] [hMixedRefIdeal : Cert.MixedRefIdeal.Facts] : Prop :=
  ∀ (m : (ℓ : Loc Cert.MixedIdeal.nD Cert.MixedIdeal.τ Cert.MixedIdeal.sig) → Buf (Elt Ideal) ℓ) (g : Dev Cert.MixedIdeal.nD → PrngReg)
    (m' : (ℓ : Loc Cert.MixedRefIdeal.nD Cert.MixedRefIdeal.τ Cert.MixedRefIdeal.sig) → Buf (Elt Ideal) ℓ) (g' : Dev Cert.MixedRefIdeal.nD → PrngReg), Pre_MixedIdeal m →
    (∀ c : Dev Cert.MixedIdeal.nD,
      m' ((c.tc : Thread Cert.MixedRefIdeal.nD Cert.MixedRefIdeal.τ).loc Cert.MixedRefIdeal.main_arg0) = m ((c.tc : Thread Cert.MixedIdeal.nD Cert.MixedIdeal.τ).loc Cert.MixedIdeal.main_arg0)
      ∧ m' ((c.tc : Thread Cert.MixedRefIdeal.nD Cert.MixedRefIdeal.τ).loc Cert.MixedRefIdeal.main_arg1) = m ((c.tc : Thread Cert.MixedIdeal.nD Cert.MixedIdeal.τ).loc Cert.MixedIdeal.main_arg1)
      ∧ m' ((c.tc : Thread Cert.MixedRefIdeal.nD Cert.MixedRefIdeal.τ).loc Cert.MixedRefIdeal.main_arg2) = m ((c.tc : Thread Cert.MixedIdeal.nD Cert.MixedIdeal.τ).loc Cert.MixedIdeal.main_arg2)
      ∧ m' ((c.tc : Thread Cert.MixedRefIdeal.nD Cert.MixedRefIdeal.τ).loc Cert.MixedRefIdeal.main_arg3) = m ((c.tc : Thread Cert.MixedIdeal.nD Cert.MixedIdeal.τ).loc Cert.MixedIdeal.main_arg3)
      ∧ m' ((c.tc : Thread Cert.MixedRefIdeal.nD Cert.MixedRefIdeal.τ).loc Cert.MixedRefIdeal.main_arg4) = m ((c.tc : Thread Cert.MixedIdeal.nD Cert.MixedIdeal.τ).loc Cert.MixedIdeal.main_arg4)
      ∧ m' ((c.tc : Thread Cert.MixedRefIdeal.nD Cert.MixedRefIdeal.τ).loc Cert.MixedRefIdeal.main_arg5) = m ((c.tc : Thread Cert.MixedIdeal.nD Cert.MixedIdeal.τ).loc Cert.MixedIdeal.main_arg5)
      ∧ m' ((c.tc : Thread Cert.MixedRefIdeal.nD Cert.MixedRefIdeal.τ).loc Cert.MixedRefIdeal.main_arg6) = m ((c.tc : Thread Cert.MixedIdeal.nD Cert.MixedIdeal.τ).loc Cert.MixedIdeal.main_arg6)
      ∧ m' ((c.tc : Thread Cert.MixedRefIdeal.nD Cert.MixedRefIdeal.τ).loc Cert.MixedRefIdeal.main_arg7) = m ((c.tc : Thread Cert.MixedIdeal.nD Cert.MixedIdeal.τ).loc Cert.MixedIdeal.main_arg7)
      ∧ m' ((c.tc : Thread Cert.MixedRefIdeal.nD Cert.MixedRefIdeal.τ).loc Cert.MixedRefIdeal.main_arg8) = m ((c.tc : Thread Cert.MixedIdeal.nD Cert.MixedIdeal.τ).loc Cert.MixedIdeal.main_arg8)
      ∧ m' ((c.tc : Thread Cert.MixedRefIdeal.nD Cert.MixedRefIdeal.τ).loc Cert.MixedRefIdeal.main_arg9) = m ((c.tc : Thread Cert.MixedIdeal.nD Cert.MixedIdeal.τ).loc Cert.MixedIdeal.main_arg9)
      ∧ m' ((c.tc : Thread Cert.MixedRefIdeal.nD Cert.MixedRefIdeal.τ).loc Cert.MixedRefIdeal.main_arg10) = m ((c.tc : Thread Cert.MixedIdeal.nD Cert.MixedIdeal.τ).loc Cert.MixedIdeal.main_arg10)) →
    ∃ (v0 : (c : Dev Cert.MixedIdeal.nD) → Buf (Elt Ideal) ((c.tc : Thread Cert.MixedIdeal.nD Cert.MixedIdeal.τ).loc Cert.MixedIdeal.main_v0_0)) (v1 : (c : Dev Cert.MixedIdeal.nD) → Buf (Elt Ideal) ((c.tc : Thread Cert.MixedIdeal.nD Cert.MixedIdeal.τ).loc Cert.MixedIdeal.main_v0_1)),
      θ_run (Cert.MixedIdeal.defs (F := Ideal)) (onTc (τ := Cert.MixedIdeal.τ) (Cert.MixedIdeal.main (F := Ideal))) ⟨m, fun _ => 0, g⟩ (fun r => ∀ c : Dev Cert.MixedIdeal.nD,
          r.2.mem ((c.tc : Thread Cert.MixedIdeal.nD Cert.MixedIdeal.τ).loc Cert.MixedIdeal.main_v0_0) = v0 c
          ∧ r.2.mem ((c.tc : Thread Cert.MixedIdeal.nD Cert.MixedIdeal.τ).loc Cert.MixedIdeal.main_v0_1) = v1 c
          ∧ r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
          ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
          ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
          ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
          ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5)
          ∧ r.2.mem ((c.tc : Thread Cert.MixedIdeal.nD Cert.MixedIdeal.τ).loc Cert.MixedIdeal.main_arg6) = m ((c.tc : Thread Cert.MixedIdeal.nD Cert.MixedIdeal.τ).loc Cert.MixedIdeal.main_arg6)
          ∧ r.2.mem ((c.tc : Thread Cert.MixedIdeal.nD Cert.MixedIdeal.τ).loc Cert.MixedIdeal.main_arg7) = m ((c.tc : Thread Cert.MixedIdeal.nD Cert.MixedIdeal.τ).loc Cert.MixedIdeal.main_arg7)
          ∧ r.2.mem ((c.tc : Thread Cert.MixedIdeal.nD Cert.MixedIdeal.τ).loc Cert.MixedIdeal.main_arg8) = m ((c.tc : Thread Cert.MixedIdeal.nD Cert.MixedIdeal.τ).loc Cert.MixedIdeal.main_arg8)
          ∧ r.2.mem ((c.tc : Thread Cert.MixedIdeal.nD Cert.MixedIdeal.τ).loc Cert.MixedIdeal.main_arg9) = m ((c.tc : Thread Cert.MixedIdeal.nD Cert.MixedIdeal.τ).loc Cert.MixedIdeal.main_arg9)
          ∧ r.2.mem ((c.tc : Thread Cert.MixedIdeal.nD Cert.MixedIdeal.τ).loc Cert.MixedIdeal.main_arg10) = m ((c.tc : Thread Cert.MixedIdeal.nD Cert.MixedIdeal.τ).loc Cert.MixedIdeal.main_arg10))
      ∧ θ_run (Cert.MixedRefIdeal.defs (F := Ideal)) (onTc (τ := Cert.MixedRefIdeal.τ) (Cert.MixedRefIdeal.main (F := Ideal))) ⟨m', fun _ => 0, g'⟩ (fun r => ∀ c : Dev Cert.MixedRefIdeal.nD,
          r.2.mem ((c.tc : Thread Cert.MixedRefIdeal.nD Cert.MixedRefIdeal.τ).loc Cert.MixedRefIdeal.main_v40) = v0 c
          ∧ r.2.mem ((c.tc : Thread Cert.MixedRefIdeal.nD Cert.MixedRefIdeal.τ).loc Cert.MixedRefIdeal.main_v42) = v1 c
          ∧ r.2.mem ((c.tc : Thread Cert.MixedRefIdeal.nD Cert.MixedRefIdeal.τ).loc Cert.MixedRefIdeal.main_arg0) = m' ((c.tc : Thread Cert.MixedRefIdeal.nD Cert.MixedRefIdeal.τ).loc Cert.MixedRefIdeal.main_arg0)
          ∧ r.2.mem ((c.tc : Thread Cert.MixedRefIdeal.nD Cert.MixedRefIdeal.τ).loc Cert.MixedRefIdeal.main_arg1) = m' ((c.tc : Thread Cert.MixedRefIdeal.nD Cert.MixedRefIdeal.τ).loc Cert.MixedRefIdeal.main_arg1)
          ∧ r.2.mem ((c.tc : Thread Cert.MixedRefIdeal.nD Cert.MixedRefIdeal.τ).loc Cert.MixedRefIdeal.main_arg2) = m' ((c.tc : Thread Cert.MixedRefIdeal.nD Cert.MixedRefIdeal.τ).loc Cert.MixedRefIdeal.main_arg2)
          ∧ r.2.mem ((c.tc : Thread Cert.MixedRefIdeal.nD Cert.MixedRefIdeal.τ).loc Cert.MixedRefIdeal.main_arg3) = m' ((c.tc : Thread Cert.MixedRefIdeal.nD Cert.MixedRefIdeal.τ).loc Cert.MixedRefIdeal.main_arg3)
          ∧ r.2.mem ((c.tc : Thread Cert.MixedRefIdeal.nD Cert.MixedRefIdeal.τ).loc Cert.MixedRefIdeal.main_arg4) = m' ((c.tc : Thread Cert.MixedRefIdeal.nD Cert.MixedRefIdeal.τ).loc Cert.MixedRefIdeal.main_arg4)
          ∧ r.2.mem ((c.tc : Thread Cert.MixedRefIdeal.nD Cert.MixedRefIdeal.τ).loc Cert.MixedRefIdeal.main_arg5) = m' ((c.tc : Thread Cert.MixedRefIdeal.nD Cert.MixedRefIdeal.τ).loc Cert.MixedRefIdeal.main_arg5)
          ∧ r.2.mem ((c.tc : Thread Cert.MixedRefIdeal.nD Cert.MixedRefIdeal.τ).loc Cert.MixedRefIdeal.main_arg6) = m' ((c.tc : Thread Cert.MixedRefIdeal.nD Cert.MixedRefIdeal.τ).loc Cert.MixedRefIdeal.main_arg6)
          ∧ r.2.mem ((c.tc : Thread Cert.MixedRefIdeal.nD Cert.MixedRefIdeal.τ).loc Cert.MixedRefIdeal.main_arg7) = m' ((c.tc : Thread Cert.MixedRefIdeal.nD Cert.MixedRefIdeal.τ).loc Cert.MixedRefIdeal.main_arg7)
          ∧ r.2.mem ((c.tc : Thread Cert.MixedRefIdeal.nD Cert.MixedRefIdeal.τ).loc Cert.MixedRefIdeal.main_arg8) = m' ((c.tc : Thread Cert.MixedRefIdeal.nD Cert.MixedRefIdeal.τ).loc Cert.MixedRefIdeal.main_arg8)
          ∧ r.2.mem ((c.tc : Thread Cert.MixedRefIdeal.nD Cert.MixedRefIdeal.τ).loc Cert.MixedRefIdeal.main_arg9) = m' ((c.tc : Thread Cert.MixedRefIdeal.nD Cert.MixedRefIdeal.τ).loc Cert.MixedRefIdeal.main_arg9)
          ∧ r.2.mem ((c.tc : Thread Cert.MixedRefIdeal.nD Cert.MixedRefIdeal.τ).loc Cert.MixedRefIdeal.main_arg10) = m' ((c.tc : Thread Cert.MixedRefIdeal.nD Cert.MixedRefIdeal.τ).loc Cert.MixedRefIdeal.main_arg10))

def preserves_Ins_InsIdeal : Prop :=
  True

def algebraic_InsIdeal_InsRefIdeal [hInsIdeal : Cert.InsIdeal.Facts] [hInsRefIdeal : Cert.InsRefIdeal.Facts] : Prop :=
  ∀ (m : (ℓ : Loc Cert.InsIdeal.nD Cert.InsIdeal.τ Cert.InsIdeal.sig) → Buf (Elt Ideal) ℓ) (g : Dev Cert.InsIdeal.nD → PrngReg)
    (m' : (ℓ : Loc Cert.InsRefIdeal.nD Cert.InsRefIdeal.τ Cert.InsRefIdeal.sig) → Buf (Elt Ideal) ℓ) (g' : Dev Cert.InsRefIdeal.nD → PrngReg), Pre_InsIdeal m →
    (∀ c : Dev Cert.InsIdeal.nD,
      m' ((c.tc : Thread Cert.InsRefIdeal.nD Cert.InsRefIdeal.τ).loc Cert.InsRefIdeal.main_arg0) = m ((c.tc : Thread Cert.InsIdeal.nD Cert.InsIdeal.τ).loc Cert.InsIdeal.main_arg0)
      ∧ m' ((c.tc : Thread Cert.InsRefIdeal.nD Cert.InsRefIdeal.τ).loc Cert.InsRefIdeal.main_arg1) = m ((c.tc : Thread Cert.InsIdeal.nD Cert.InsIdeal.τ).loc Cert.InsIdeal.main_arg1)
      ∧ m' ((c.tc : Thread Cert.InsRefIdeal.nD Cert.InsRefIdeal.τ).loc Cert.InsRefIdeal.main_arg2) = m ((c.tc : Thread Cert.InsIdeal.nD Cert.InsIdeal.τ).loc Cert.InsIdeal.main_arg2)
      ∧ m' ((c.tc : Thread Cert.InsRefIdeal.nD Cert.InsRefIdeal.τ).loc Cert.InsRefIdeal.main_arg3) = m ((c.tc : Thread Cert.InsIdeal.nD Cert.InsIdeal.τ).loc Cert.InsIdeal.main_arg3)
      ∧ m' ((c.tc : Thread Cert.InsRefIdeal.nD Cert.InsRefIdeal.τ).loc Cert.InsRefIdeal.main_arg4) = m ((c.tc : Thread Cert.InsIdeal.nD Cert.InsIdeal.τ).loc Cert.InsIdeal.main_arg4)
      ∧ m' ((c.tc : Thread Cert.InsRefIdeal.nD Cert.InsRefIdeal.τ).loc Cert.InsRefIdeal.main_arg5) = m ((c.tc : Thread Cert.InsIdeal.nD Cert.InsIdeal.τ).loc Cert.InsIdeal.main_arg5)
      ∧ m' ((c.tc : Thread Cert.InsRefIdeal.nD Cert.InsRefIdeal.τ).loc Cert.InsRefIdeal.main_arg6) = m ((c.tc : Thread Cert.InsIdeal.nD Cert.InsIdeal.τ).loc Cert.InsIdeal.main_arg6)
      ∧ m' ((c.tc : Thread Cert.InsRefIdeal.nD Cert.InsRefIdeal.τ).loc Cert.InsRefIdeal.main_arg7) = m ((c.tc : Thread Cert.InsIdeal.nD Cert.InsIdeal.τ).loc Cert.InsIdeal.main_arg7)
      ∧ m' ((c.tc : Thread Cert.InsRefIdeal.nD Cert.InsRefIdeal.τ).loc Cert.InsRefIdeal.main_arg8) = m ((c.tc : Thread Cert.InsIdeal.nD Cert.InsIdeal.τ).loc Cert.InsIdeal.main_arg8)
      ∧ m' ((c.tc : Thread Cert.InsRefIdeal.nD Cert.InsRefIdeal.τ).loc Cert.InsRefIdeal.main_arg9) = m ((c.tc : Thread Cert.InsIdeal.nD Cert.InsIdeal.τ).loc Cert.InsIdeal.main_arg9)
      ∧ m' ((c.tc : Thread Cert.InsRefIdeal.nD Cert.InsRefIdeal.τ).loc Cert.InsRefIdeal.main_arg10) = m ((c.tc : Thread Cert.InsIdeal.nD Cert.InsIdeal.τ).loc Cert.InsIdeal.main_arg10)
      ∧ m' ((c.tc : Thread Cert.InsRefIdeal.nD Cert.InsRefIdeal.τ).loc Cert.InsRefIdeal.main_arg11) = m ((c.tc : Thread Cert.InsIdeal.nD Cert.InsIdeal.τ).loc Cert.InsIdeal.main_arg11)
      ∧ m' ((c.tc : Thread Cert.InsRefIdeal.nD Cert.InsRefIdeal.τ).loc Cert.InsRefIdeal.main_arg12) = m ((c.tc : Thread Cert.InsIdeal.nD Cert.InsIdeal.τ).loc Cert.InsIdeal.main_arg12)
      ∧ m' ((c.tc : Thread Cert.InsRefIdeal.nD Cert.InsRefIdeal.τ).loc Cert.InsRefIdeal.main_arg13) = m ((c.tc : Thread Cert.InsIdeal.nD Cert.InsIdeal.τ).loc Cert.InsIdeal.main_arg13)) →
    ∃ (v0 : (c : Dev Cert.InsIdeal.nD) → Buf (Elt Ideal) ((c.tc : Thread Cert.InsIdeal.nD Cert.InsIdeal.τ).loc Cert.InsIdeal.main_v0_0)) (v1 : (c : Dev Cert.InsIdeal.nD) → Buf (Elt Ideal) ((c.tc : Thread Cert.InsIdeal.nD Cert.InsIdeal.τ).loc Cert.InsIdeal.main_v0_1)) (v2 : (c : Dev Cert.InsIdeal.nD) → Buf (Elt Ideal) ((c.tc : Thread Cert.InsIdeal.nD Cert.InsIdeal.τ).loc Cert.InsIdeal.main_v0_2)) (v3 : (c : Dev Cert.InsIdeal.nD) → Buf (Elt Ideal) ((c.tc : Thread Cert.InsIdeal.nD Cert.InsIdeal.τ).loc Cert.InsIdeal.main_v0_3)) (v4 : (c : Dev Cert.InsIdeal.nD) → Buf (Elt Ideal) ((c.tc : Thread Cert.InsIdeal.nD Cert.InsIdeal.τ).loc Cert.InsIdeal.main_v0_4)) (v5 : (c : Dev Cert.InsIdeal.nD) → Buf (Elt Ideal) ((c.tc : Thread Cert.InsIdeal.nD Cert.InsIdeal.τ).loc Cert.InsIdeal.main_v0_5)) (v6 : (c : Dev Cert.InsIdeal.nD) → Buf (Elt Ideal) ((c.tc : Thread Cert.InsIdeal.nD Cert.InsIdeal.τ).loc Cert.InsIdeal.main_v0_6)) (v7 : (c : Dev Cert.InsIdeal.nD) → Buf (Elt Ideal) ((c.tc : Thread Cert.InsIdeal.nD Cert.InsIdeal.τ).loc Cert.InsIdeal.main_v0_7)) (v8 : (c : Dev Cert.InsIdeal.nD) → Buf (Elt Ideal) ((c.tc : Thread Cert.InsIdeal.nD Cert.InsIdeal.τ).loc Cert.InsIdeal.main_v0_8)),
      θ_run (Cert.InsIdeal.defs (F := Ideal)) (onTc (τ := Cert.InsIdeal.τ) (Cert.InsIdeal.main (F := Ideal))) ⟨m, fun _ => 0, g⟩ (fun r => ∀ c : Dev Cert.InsIdeal.nD,
          r.2.mem ((c.tc : Thread Cert.InsIdeal.nD Cert.InsIdeal.τ).loc Cert.InsIdeal.main_v0_0) = v0 c
          ∧ r.2.mem ((c.tc : Thread Cert.InsIdeal.nD Cert.InsIdeal.τ).loc Cert.InsIdeal.main_v0_1) = v1 c
          ∧ r.2.mem ((c.tc : Thread Cert.InsIdeal.nD Cert.InsIdeal.τ).loc Cert.InsIdeal.main_v0_2) = v2 c
          ∧ r.2.mem ((c.tc : Thread Cert.InsIdeal.nD Cert.InsIdeal.τ).loc Cert.InsIdeal.main_v0_3) = v3 c
          ∧ r.2.mem ((c.tc : Thread Cert.InsIdeal.nD Cert.InsIdeal.τ).loc Cert.InsIdeal.main_v0_4) = v4 c
          ∧ r.2.mem ((c.tc : Thread Cert.InsIdeal.nD Cert.InsIdeal.τ).loc Cert.InsIdeal.main_v0_5) = v5 c
          ∧ r.2.mem ((c.tc : Thread Cert.InsIdeal.nD Cert.InsIdeal.τ).loc Cert.InsIdeal.main_v0_6) = v6 c
          ∧ r.2.mem ((c.tc : Thread Cert.InsIdeal.nD Cert.InsIdeal.τ).loc Cert.InsIdeal.main_v0_7) = v7 c
          ∧ r.2.mem ((c.tc : Thread Cert.InsIdeal.nD Cert.InsIdeal.τ).loc Cert.InsIdeal.main_v0_8) = v8 c
          ∧ r.2.mem ((c.tc : Thread Cert.InsIdeal.nD Cert.InsIdeal.τ).loc Cert.InsIdeal.main_arg0) = m ((c.tc : Thread Cert.InsIdeal.nD Cert.InsIdeal.τ).loc Cert.InsIdeal.main_arg0)
          ∧ r.2.mem ((c.tc : Thread Cert.InsIdeal.nD Cert.InsIdeal.τ).loc Cert.InsIdeal.main_arg1) = m ((c.tc : Thread Cert.InsIdeal.nD Cert.InsIdeal.τ).loc Cert.InsIdeal.main_arg1)
          ∧ r.2.mem ((c.tc : Thread Cert.InsIdeal.nD Cert.InsIdeal.τ).loc Cert.InsIdeal.main_arg2) = m ((c.tc : Thread Cert.InsIdeal.nD Cert.InsIdeal.τ).loc Cert.InsIdeal.main_arg2)
          ∧ r.2.mem ((c.tc : Thread Cert.InsIdeal.nD Cert.InsIdeal.τ).loc Cert.InsIdeal.main_arg3) = m ((c.tc : Thread Cert.InsIdeal.nD Cert.InsIdeal.τ).loc Cert.InsIdeal.main_arg3)
          ∧ r.2.mem ((c.tc : Thread Cert.InsIdeal.nD Cert.InsIdeal.τ).loc Cert.InsIdeal.main_arg4) = m ((c.tc : Thread Cert.InsIdeal.nD Cert.InsIdeal.τ).loc Cert.InsIdeal.main_arg4)
          ∧ r.2.mem ((c.tc : Thread Cert.InsIdeal.nD Cert.InsIdeal.τ).loc Cert.InsIdeal.main_arg5) = m ((c.tc : Thread Cert.InsIdeal.nD Cert.InsIdeal.τ).loc Cert.InsIdeal.main_arg5)
          ∧ r.2.mem ((c.tc : Thread Cert.InsIdeal.nD Cert.InsIdeal.τ).loc Cert.InsIdeal.main_arg6) = m ((c.tc : Thread Cert.InsIdeal.nD Cert.InsIdeal.τ).loc Cert.InsIdeal.main_arg6)
          ∧ r.2.mem ((c.tc : Thread Cert.InsIdeal.nD Cert.InsIdeal.τ).loc Cert.InsIdeal.main_arg7) = m ((c.tc : Thread Cert.InsIdeal.nD Cert.InsIdeal.τ).loc Cert.InsIdeal.main_arg7)
          ∧ r.2.mem ((c.tc : Thread Cert.InsIdeal.nD Cert.InsIdeal.τ).loc Cert.InsIdeal.main_arg8) = m ((c.tc : Thread Cert.InsIdeal.nD Cert.InsIdeal.τ).loc Cert.InsIdeal.main_arg8)
          ∧ r.2.mem ((c.tc : Thread Cert.InsIdeal.nD Cert.InsIdeal.τ).loc Cert.InsIdeal.main_arg9) = m ((c.tc : Thread Cert.InsIdeal.nD Cert.InsIdeal.τ).loc Cert.InsIdeal.main_arg9)
          ∧ r.2.mem ((c.tc : Thread Cert.InsIdeal.nD Cert.InsIdeal.τ).loc Cert.InsIdeal.main_arg10) = m ((c.tc : Thread Cert.InsIdeal.nD Cert.InsIdeal.τ).loc Cert.InsIdeal.main_arg10)
          ∧ r.2.mem ((c.tc : Thread Cert.InsIdeal.nD Cert.InsIdeal.τ).loc Cert.InsIdeal.main_arg11) = m ((c.tc : Thread Cert.InsIdeal.nD Cert.InsIdeal.τ).loc Cert.InsIdeal.main_arg11)
          ∧ r.2.mem ((c.tc : Thread Cert.InsIdeal.nD Cert.InsIdeal.τ).loc Cert.InsIdeal.main_arg12) = m ((c.tc : Thread Cert.InsIdeal.nD Cert.InsIdeal.τ).loc Cert.InsIdeal.main_arg12)
          ∧ r.2.mem ((c.tc : Thread Cert.InsIdeal.nD Cert.InsIdeal.τ).loc Cert.InsIdeal.main_arg13) = m ((c.tc : Thread Cert.InsIdeal.nD Cert.InsIdeal.τ).loc Cert.InsIdeal.main_arg13))
      ∧ θ_run (Cert.InsRefIdeal.defs (F := Ideal)) (onTc (τ := Cert.InsRefIdeal.τ) (Cert.InsRefIdeal.main (F := Ideal))) ⟨m', fun _ => 0, g'⟩ (fun r => ∀ c : Dev Cert.InsRefIdeal.nD,
          r.2.mem ((c.tc : Thread Cert.InsRefIdeal.nD Cert.InsRefIdeal.τ).loc Cert.InsRefIdeal.main_v181) = v0 c
          ∧ r.2.mem ((c.tc : Thread Cert.InsRefIdeal.nD Cert.InsRefIdeal.τ).loc Cert.InsRefIdeal.main_v182) = v1 c
          ∧ r.2.mem ((c.tc : Thread Cert.InsRefIdeal.nD Cert.InsRefIdeal.τ).loc Cert.InsRefIdeal.main_v183) = v2 c
          ∧ r.2.mem ((c.tc : Thread Cert.InsRefIdeal.nD Cert.InsRefIdeal.τ).loc Cert.InsRefIdeal.main_v184) = v3 c
          ∧ r.2.mem ((c.tc : Thread Cert.InsRefIdeal.nD Cert.InsRefIdeal.τ).loc Cert.InsRefIdeal.main_v185) = v4 c
          ∧ r.2.mem ((c.tc : Thread Cert.InsRefIdeal.nD Cert.InsRefIdeal.τ).loc Cert.InsRefIdeal.main_v186) = v5 c
          ∧ r.2.mem ((c.tc : Thread Cert.InsRefIdeal.nD Cert.InsRefIdeal.τ).loc Cert.InsRefIdeal.main_v187) = v6 c
          ∧ r.2.mem ((c.tc : Thread Cert.InsRefIdeal.nD Cert.InsRefIdeal.τ).loc Cert.InsRefIdeal.main_v188) = v7 c
          ∧ r.2.mem ((c.tc : Thread Cert.InsRefIdeal.nD Cert.InsRefIdeal.τ).loc Cert.InsRefIdeal.main_v189) = v8 c
          ∧ r.2.mem ((c.tc : Thread Cert.InsRefIdeal.nD Cert.InsRefIdeal.τ).loc Cert.InsRefIdeal.main_arg0) = m' ((c.tc : Thread Cert.InsRefIdeal.nD Cert.InsRefIdeal.τ).loc Cert.InsRefIdeal.main_arg0)
          ∧ r.2.mem ((c.tc : Thread Cert.InsRefIdeal.nD Cert.InsRefIdeal.τ).loc Cert.InsRefIdeal.main_arg1) = m' ((c.tc : Thread Cert.InsRefIdeal.nD Cert.InsRefIdeal.τ).loc Cert.InsRefIdeal.main_arg1)
          ∧ r.2.mem ((c.tc : Thread Cert.InsRefIdeal.nD Cert.InsRefIdeal.τ).loc Cert.InsRefIdeal.main_arg2) = m' ((c.tc : Thread Cert.InsRefIdeal.nD Cert.InsRefIdeal.τ).loc Cert.InsRefIdeal.main_arg2)
          ∧ r.2.mem ((c.tc : Thread Cert.InsRefIdeal.nD Cert.InsRefIdeal.τ).loc Cert.InsRefIdeal.main_arg3) = m' ((c.tc : Thread Cert.InsRefIdeal.nD Cert.InsRefIdeal.τ).loc Cert.InsRefIdeal.main_arg3)
          ∧ r.2.mem ((c.tc : Thread Cert.InsRefIdeal.nD Cert.InsRefIdeal.τ).loc Cert.InsRefIdeal.main_arg4) = m' ((c.tc : Thread Cert.InsRefIdeal.nD Cert.InsRefIdeal.τ).loc Cert.InsRefIdeal.main_arg4)
          ∧ r.2.mem ((c.tc : Thread Cert.InsRefIdeal.nD Cert.InsRefIdeal.τ).loc Cert.InsRefIdeal.main_arg5) = m' ((c.tc : Thread Cert.InsRefIdeal.nD Cert.InsRefIdeal.τ).loc Cert.InsRefIdeal.main_arg5)
          ∧ r.2.mem ((c.tc : Thread Cert.InsRefIdeal.nD Cert.InsRefIdeal.τ).loc Cert.InsRefIdeal.main_arg6) = m' ((c.tc : Thread Cert.InsRefIdeal.nD Cert.InsRefIdeal.τ).loc Cert.InsRefIdeal.main_arg6)
          ∧ r.2.mem ((c.tc : Thread Cert.InsRefIdeal.nD Cert.InsRefIdeal.τ).loc Cert.InsRefIdeal.main_arg7) = m' ((c.tc : Thread Cert.InsRefIdeal.nD Cert.InsRefIdeal.τ).loc Cert.InsRefIdeal.main_arg7)
          ∧ r.2.mem ((c.tc : Thread Cert.InsRefIdeal.nD Cert.InsRefIdeal.τ).loc Cert.InsRefIdeal.main_arg8) = m' ((c.tc : Thread Cert.InsRefIdeal.nD Cert.InsRefIdeal.τ).loc Cert.InsRefIdeal.main_arg8)
          ∧ r.2.mem ((c.tc : Thread Cert.InsRefIdeal.nD Cert.InsRefIdeal.τ).loc Cert.InsRefIdeal.main_arg9) = m' ((c.tc : Thread Cert.InsRefIdeal.nD Cert.InsRefIdeal.τ).loc Cert.InsRefIdeal.main_arg9)
          ∧ r.2.mem ((c.tc : Thread Cert.InsRefIdeal.nD Cert.InsRefIdeal.τ).loc Cert.InsRefIdeal.main_arg10) = m' ((c.tc : Thread Cert.InsRefIdeal.nD Cert.InsRefIdeal.τ).loc Cert.InsRefIdeal.main_arg10)
          ∧ r.2.mem ((c.tc : Thread Cert.InsRefIdeal.nD Cert.InsRefIdeal.τ).loc Cert.InsRefIdeal.main_arg11) = m' ((c.tc : Thread Cert.InsRefIdeal.nD Cert.InsRefIdeal.τ).loc Cert.InsRefIdeal.main_arg11)
          ∧ r.2.mem ((c.tc : Thread Cert.InsRefIdeal.nD Cert.InsRefIdeal.τ).loc Cert.InsRefIdeal.main_arg12) = m' ((c.tc : Thread Cert.InsRefIdeal.nD Cert.InsRefIdeal.τ).loc Cert.InsRefIdeal.main_arg12)
          ∧ r.2.mem ((c.tc : Thread Cert.InsRefIdeal.nD Cert.InsRefIdeal.τ).loc Cert.InsRefIdeal.main_arg13) = m' ((c.tc : Thread Cert.InsRefIdeal.nD Cert.InsRefIdeal.τ).loc Cert.InsRefIdeal.main_arg13))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsRefIdeal : Cert.ExpertsRefIdeal.Facts) (hDense : Cert.Dense.Facts) (hDenseIdeal : Cert.DenseIdeal.Facts) (hDenseRefIdeal : Cert.DenseRefIdeal.Facts) (hMixed : Cert.Mixed.Facts) (hMixedIdeal : Cert.MixedIdeal.Facts) (hMixedRefIdeal : Cert.MixedRefIdeal.Facts) (hIns : Cert.Ins.Facts) (hInsIdeal : Cert.InsIdeal.Facts) (hInsRefIdeal : Cert.InsRefIdeal.Facts) (hPre_finite : Cert.Pre_finite.Facts) (hPre_tables : Cert.Pre_tables.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_tables := hPre_tables)
    ∧ quiescent_ExpertsIdeal (hExpertsIdeal := hExpertsIdeal) (hPre_tables := hPre_tables)
    ∧ quiescent_ExpertsRefIdeal (hExpertsRefIdeal := hExpertsRefIdeal)
    ∧ quiescent_ExpertsRefIdeal_pre_tables (hExpertsRefIdeal := hExpertsRefIdeal) (hPre_tables := hPre_tables)
    ∧ quiescent_Dense (hDense := hDense)
    ∧ quiescent_DenseIdeal (hDenseIdeal := hDenseIdeal)
    ∧ quiescent_DenseRefIdeal (hDenseRefIdeal := hDenseRefIdeal)
    ∧ quiescent_Mixed (hMixed := hMixed)
    ∧ quiescent_MixedIdeal (hMixedIdeal := hMixedIdeal)
    ∧ quiescent_MixedRefIdeal (hMixedRefIdeal := hMixedRefIdeal)
    ∧ quiescent_Ins (hIns := hIns)
    ∧ quiescent_InsIdeal (hInsIdeal := hInsIdeal)
    ∧ quiescent_InsRefIdeal (hInsRefIdeal := hInsRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsRefIdeal (hExpertsIdeal := hExpertsIdeal) (hExpertsRefIdeal := hExpertsRefIdeal) (hPre_tables := hPre_tables)
    ∧ preserves_Dense_DenseIdeal
    ∧ algebraic_DenseIdeal_DenseRefIdeal (hDenseIdeal := hDenseIdeal) (hDenseRefIdeal := hDenseRefIdeal)
    ∧ preserves_Mixed_MixedIdeal
    ∧ algebraic_MixedIdeal_MixedRefIdeal (hMixedIdeal := hMixedIdeal) (hMixedRefIdeal := hMixedRefIdeal)
    ∧ preserves_Ins_InsIdeal
    ∧ algebraic_InsIdeal_InsRefIdeal (hInsIdeal := hInsIdeal) (hInsRefIdeal := hInsRefIdeal)
-- ==== Pre_finite.lean ====
abbrev S4x8192x4x96 : Shape := ⟨4, ![4, 8192, 4, 96]⟩
abbrev S4x8192x4x64 : Shape := ⟨4, ![4, 8192, 4, 64]⟩
abbrev S4x256x4x96 : Shape := ⟨4, ![4, 256, 4, 96]⟩
abbrev S4x256x4x64 : Shape := ⟨4, ![4, 256, 4, 64]⟩
abbrev S_ : Shape := ⟨0, ![]⟩

class Facts : Prop where
  bcast_S_S4x8192x4x96 : S_.BroadcastsInDim S4x8192x4x96 (![] : Fin 0 → Fin S4x8192x4x96.rank)
  reducesTo_S4x8192x4x96_S_d0_1_2_3 : S4x8192x4x96.ReducesTo [0, 1, 2, 3] S_
  h_S_ : 0 < S_.numel
  bcast_S_S4x256x4x96 : S_.BroadcastsInDim S4x256x4x96 (![] : Fin 0 → Fin S4x256x4x96.rank)
  reducesTo_S4x256x4x96_S_d0_1_2_3 : S4x256x4x96.ReducesTo [0, 1, 2, 3] S_

variable [Facts]

def fn {F : FTy → Type} [FloatOps F] (main_arg0 : FVec F S4x8192x4x96 .f32) (main_arg1 : FVec F S4x8192x4x96 .f32) (main_arg2 : FVec F S4x8192x4x64 .f32) (main_arg3 : FVec F S4x256x4x96 .f32) (main_arg4 : FVec F S4x256x4x64 .f32) : IVec S_ 1 :=
  let main_v0 : FVec F S4x8192x4x96 .f32 := Host.absf main_arg0
  let main_cst : FVec F S_ .f32 := constant S_ .f32 0x7F800000#32
  let main_v1 : FVec F S4x8192x4x96 .f32 := broadcastInDim S4x8192x4x96 ![] bcast_S_S4x8192x4x96 main_cst
  let main_v2 : IVec S4x8192x4x96 1 := cmpf .olt main_v0 main_v1
  let main_c : IVec S_ 1 := constantI S_ 1 1#1
  let main_v3 : IVec S_ 1 := (fun x v => Host.reduce IntOp.andi x v reducesTo_S4x8192x4x96_S_d0_1_2_3 h_S_) main_v2 main_c
  let main_v4 : FVec F S4x8192x4x96 .f32 := Host.absf main_arg1
  let main_cst_0 : FVec F S_ .f32 := constant S_ .f32 0x7F800000#32
  let main_v5 : FVec F S4x8192x4x96 .f32 := broadcastInDim S4x8192x4x96 ![] bcast_S_S4x8192x4x96 main_cst_0
  let main_v6 : IVec S4x8192x4x96 1 := cmpf .olt main_v4 main_v5
  let main_c_1 : IVec S_ 1 := constantI S_ 1 1#1
  let main_v7 : IVec S_ 1 := (fun x v => Host.reduce IntOp.andi x v reducesTo_S4x8192x4x96_S_d0_1_2_3 h_S_) main_v6 main_c_1
  let main_v8 : IVec S_ 1 := andi main_v3 main_v7
  let main_v9 : FVec F S4x256x4x96 .f32 := Host.absf main_arg3
  let main_cst_2 : FVec F S_ .f32 := constant S_ .f32 0x7F800000#32
  let main_v10 : FVec F S4x256x4x96 .f32 := broadcastInDim S4x256x4x96 ![] bcast_S_S4x256x4x96 main_cst_2
  let main_v11 : IVec S4x256x4x96 1 := cmpf .olt main_v9 main_v10
  let main_c_3 : IVec S_ 1 := constantI S_ 1 1#1
  let main_v12 : IVec S_ 1 := (fun x v => Host.reduce IntOp.andi x v reducesTo_S4x256x4x96_S_d0_1_2_3 h_S_) main_v11 main_c_3
  let main_v13 : IVec S_ 1 := andi main_v8 main_v12
  main_v13
-- ==== Pre_tables.lean ====
abbrev S72 : Shape := ⟨1, ![72]⟩
abbrev S1 : Shape := ⟨1, ![1]⟩
abbrev S73728x1024 : Shape := ⟨2, ![73728, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S72 32) (main_arg1 : IVec S1 32) (main_arg2 : FVec F S73728x1024 .f32) (main_arg3 : FVec F S8x1024x3584 .bf16) (main_arg4 : FVec F S8x1024x3584 .bf16) (main_arg5 : FVec F S8x3584x1024 .bf16) : IVec S_ 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 72#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S4x8192x4x96 : Shape := ⟨4, ![4, 8192, 4, 96]⟩
abbrev S4x8192x4x64 : Shape := ⟨4, ![4, 8192, 4, 64]⟩
abbrev S4x256x4x96 : Shape := ⟨4, ![4, 256, 4, 96]⟩
abbrev S4x256x4x64 : Shape := ⟨4, ![4, 256, 4, 64]⟩
abbrev S_ : Shape := ⟨0, ![]⟩
abbrev S4x8192x4x32 : Shape := ⟨4, ![4, 8192, 4, 32]⟩
abbrev S4x8192x4x128 : Shape := ⟨4, ![4, 8192, 4, 128]⟩
abbrev S4x8192x512 : Shape := ⟨3, ![4, 8192, 512]⟩
abbrev S4x8192x4x1 : Shape := ⟨4, ![4, 8192, 4, 1]⟩
abbrev S4x8192x4x65 : Shape := ⟨4, ![4, 8192, 4, 65]⟩
abbrev S4x8192x4x63 : Shape := ⟨4, ![4, 8192, 4, 63]⟩
abbrev S4x256x4x32 : Shape := ⟨4, ![4, 256, 4, 32]⟩
abbrev S4x256x4x128 : Shape := ⟨4, ![4, 256, 4, 128]⟩
abbrev S4x256x512 : Shape := ⟨3, ![4, 256, 512]⟩
abbrev S4x256x4x1 : Shape := ⟨4, ![4, 256, 4, 1]⟩
abbrev S4x256x4x65 : Shape := ⟨4, ![4, 256, 4, 65]⟩
abbrev S4x256x4x63 : Shape := ⟨4, ![4, 256, 4, 63]⟩
abbrev S4x8192x256 : Shape := ⟨3, ![4, 8192, 256]⟩
abbrev S1x1024x256 : Shape := ⟨3, ![1, 1024, 256]⟩
abbrev S1x8192x256 : Shape := ⟨3, ![1, 8192, 256]⟩
abbrev S1x256x256 : Shape := ⟨3, ![1, 256, 256]⟩
abbrev S1x1024x128 : Shape := ⟨3, ![1, 1024, 128]⟩
abbrev S2x2x1024x1024 : Shape := ⟨4, ![2, 2, 1024, 1024]⟩
abbrev S2x1024x256 : Shape := ⟨3, ![2, 1024, 256]⟩
abbrev S1024x128 : Shape := ⟨2, ![1024, 128]⟩
abbrev S1024x1024 : Shape := ⟨2, ![1024, 1024]⟩
abbrev S1x1x1024x1024 : Shape := ⟨4, ![1, 1, 1024, 1024]⟩
abbrev S1024x1 : Shape := ⟨2, ![1024, 1]⟩
abbrev S1024 : Shape := ⟨1, ![1024]⟩
abbrev S1x256x128 : Shape := ⟨3, ![1, 256, 128]⟩
abbrev S256x128 : Shape := ⟨2, ![256, 128]⟩
abbrev S1024x256 : Shape := ⟨2, ![1024, 256]⟩
abbrev S1024x64 : Shape := ⟨2, ![1024, 64]⟩
abbrev S1x1024x64 : Shape := ⟨3, ![1, 1024, 64]⟩

abbrev nBuf : Space → Nat
  | .hbm => 46
  | .vmem => 14
  | .smem => 0
  | _ => 0

abbrev bufTy : (tb : Table) → Fin (tcTables nBuf tb) → BufTy
  | .hbm, ⟨0, _⟩ => ⟨S4x8192x4x96, .f32⟩
  | .hbm, ⟨1, _⟩ => ⟨S4x8192x4x96, .f32⟩
  | .hbm, ⟨2, _⟩ => ⟨S4x8192x4x64, .f32⟩
  | .hbm, ⟨3, _⟩ => ⟨S4x256x4x96, .f32⟩
  | .hbm, ⟨4, _⟩ => ⟨S4x256x4x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x8192x4x96, .f32⟩
  | .hbm, ⟨13, _⟩ => ⟨S4x8192x4x96, .f32⟩
  | .hbm, ⟨14, _⟩ => ⟨S_, .f32⟩
  | .hbm, ⟨15, _⟩ => ⟨S4x8192x4x32, .f32⟩
  | .hbm, ⟨16, _⟩ => ⟨S4x8192x4x128, .f32⟩
  | .hbm, ⟨17, _⟩ => ⟨S4x8192x512, .f32⟩
  | .hbm, ⟨18, _⟩ => ⟨S4x8192x512, .bf16⟩
  | .hbm, ⟨19, _⟩ => ⟨S_, .f32⟩
  | .hbm, ⟨20, _⟩ => ⟨S4x8192x4x32, .f32⟩
  | .hbm, ⟨21, _⟩ => ⟨S4x8192x4x128, .f32⟩
  | .hbm, ⟨22, _⟩ => ⟨S4x8192x512, .f32⟩
  | .hbm, ⟨23, _⟩ => ⟨S4x8192x512, .bf16⟩
  | .hbm, ⟨24, _⟩ => ⟨S_, .f32⟩
  | .hbm, ⟨25, _⟩ => ⟨S4x8192x4x1, .f32⟩
  | .hbm, ⟨26, _⟩ => ⟨S4x8192x4x65, .f32⟩
  | .hbm, ⟨27, _⟩ => ⟨S_, .f32⟩
  | .hbm, ⟨28, _⟩ => ⟨S4x8192x4x63, .f32⟩
  | .hbm, ⟨29, _⟩ => ⟨S4x8192x4x128, .f32⟩
  | .hbm, ⟨30, _⟩ => ⟨S4x8192x512, .f32⟩
  | .hbm, ⟨31, _⟩ => ⟨S4x8192x512, .bf16⟩
  | .hbm, ⟨32, _⟩ => ⟨S_, .f32⟩
  | .hbm, ⟨33, _⟩ => ⟨S4x256x4x32, .f32⟩
  | .hbm, ⟨34, _⟩ => ⟨S4x256x4x128, .f32⟩
  | .hbm, ⟨35, _⟩ => ⟨S4x256x512, .f32⟩
  | .hbm, ⟨36, _⟩ => ⟨S4x256x512, .bf16⟩
  | .hbm, ⟨37, _⟩ => ⟨S_, .f32⟩
  | .hbm, ⟨38, _⟩ => ⟨S4x256x4x1, .f32⟩
  | .hbm, ⟨39, _⟩ => ⟨S4x256x4x65, .f32⟩
  | .hbm, ⟨40, _⟩ => ⟨S_, .f32⟩
  | .hbm, ⟨41, _⟩ => ⟨S4x256x4x63, .f32⟩
  | .hbm, ⟨42, _⟩ => ⟨S4x256x4x128, .f32⟩
  | .hbm, ⟨43, _⟩ => ⟨S4x256x512, .f32⟩
  | .hbm, ⟨44, _⟩ => ⟨S4x256x512, .bf16⟩
  | .hbm, ⟨45, _⟩ => ⟨S4x8192x256, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x256, .bf16⟩
  | .local _ .vmem, ⟨5, _⟩ => ⟨S1x8192x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x1024x128, .bf16⟩
  | .local _ .vmem, ⟨11, _⟩ => ⟨S1x1024x128, .bf16⟩
  | .local _ .vmem, ⟨12, _⟩ => ⟨S2x2x1024x1024, .f32⟩
  | .local _ .vmem, ⟨13, _⟩ => ⟨S2x1024x256, .f32⟩
  | _, _ => ⟨S4x8192x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 8], ![false, false, false]⟩

def k0_mult1 : BitVec 32 :=
  let c0_i32 : BitVec 32 := 0#32
  c0_i32
def k0_mult2 : BitVec 32 :=
  let c1024_i32 : BitVec 32 := 1024#32
  c1024_i32
def k0_mult3 : BitVec 32 :=
  let c0_i32_34 : BitVec 32 := 0#32
  c0_i32_34
def k0_mult4 : BitVec 32 :=
  let c2048_i32 : BitVec 32 := 2048#32
  c2048_i32
def k0_mult5 : BitVec 32 :=
  let c1024_i32_65 : BitVec 32 := 1024#32
  c1024_i32_65
def k0_mult6 : BitVec 32 :=
  let c3072_i32 : BitVec 32 := 3072#32
  c3072_i32
def k0_mult7 : BitVec 32 :=
  let c2048_i32_96 : BitVec 32 := 2048#32
  c2048_i32_96
def k0_mult8 : BitVec 32 :=
  let c4096_i32 : BitVec 32 := 4096#32
  c4096_i32
def k0_mult9 : BitVec 32 :=
  let c3072_i32_127 : BitVec 32 := 3072#32
  c3072_i32_127
def k0_mult10 : BitVec 32 :=
  let c5120_i32 : BitVec 32 := 5120#32
  c5120_i32
def k0_mult11 : BitVec 32 :=
  let c4096_i32_158 : BitVec 32 := 4096#32
  c4096_i32_158
def k0_mult12 : BitVec 32 :=
  let c6144_i32 : BitVec 32 := 6144#32
  c6144_i32
def k0_mult13 : BitVec 32 :=
  let c5120_i32_189 : BitVec 32 := 5120#32
  c5120_i32_189
def k0_mult14 : BitVec 32 :=
  let c7168_i32 : BitVec 32 := 7168#32
  c7168_i32
def k0_mult15 : BitVec 32 :=
  let c6144_i32_220 : BitVec 32 := 6144#32
  c6144_i32_220
def k0_mult16 : BitVec 32 :=
  let c7168_i32_251 : BitVec 32 := 7168#32
  c7168_i32_251
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x8192x4x96 : Shape := ⟨4, ![4, 8192, 4, 96]⟩
abbrev S4x8192x4x64 : Shape := ⟨4, ![4, 8192, 4, 64]⟩
abbrev S4x256x4x96 : Shape := ⟨4, ![4, 256, 4, 96]⟩
abbrev S4x256x4x64 : Shape := ⟨4, ![4, 256, 4, 64]⟩
abbrev S_ : Shape := ⟨0, ![]⟩
abbrev S4x8448x4x96 : Shape := ⟨4, ![4, 8448, 4, 96]⟩
abbrev S4x8448x4x64 : Shape := ⟨4, ![4, 8448, 4, 64]⟩
abbrev S4x4x8192x8448 : Shape := ⟨4, ![4, 4, 8192, 8448]⟩
abbrev S4x4x8192 : Shape := ⟨3, ![4, 4, 8192]⟩
abbrev S4x4x8192x1 : Shape := ⟨4, ![4, 4, 8192, 1]⟩
abbrev S4x4x64x8192 : Shape := ⟨4, ![4, 4, 64, 8192]⟩
abbrev S4x8192x256 : Shape := ⟨3, ![4, 8192, 256]⟩

abbrev nBuf : Space → Nat
  | .hbm => 32
  | .vmem => 0
  | .smem => 0
  | _ => 0

abbrev bufTy : (tb : Table) → Fin (tcTables nBuf tb) → BufTy
  | .hbm, ⟨0, _⟩ => ⟨S4x8192x4x96, .f32⟩
  | .hbm, ⟨1, _⟩ => ⟨S4x8192x4x96, .f32⟩
  | .hbm, ⟨2, _⟩ => ⟨S4x8192x4x64, .f32⟩
  | .hbm, ⟨3, _⟩ => ⟨S4x256x4x96, .f32⟩
  | .hbm, ⟨4, _⟩ => ⟨S4x256x4x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x8192x4x96, .f32⟩
  | .hbm, ⟨10, _⟩ => ⟨S4x8192x4x96, .f32⟩
  | .hbm, ⟨11, _⟩ => ⟨S4x8448x4x96, .f32⟩
  | .hbm, ⟨12, _⟩ => ⟨S4x8448x4x64, .f32⟩
  | .hbm, ⟨13, _⟩ => ⟨S4x4x8192x8448, .f32⟩
  | .hbm, ⟨14, _⟩ => ⟨S_, .f32⟩
  | .hbm, ⟨15, _⟩ => ⟨S4x4x8192, .f32⟩
  | .hbm, ⟨16, _⟩ => ⟨S_, .f32⟩
  | .hbm, ⟨17, _⟩ => ⟨S4x4x8192, .f32⟩
  | .hbm, ⟨18, _⟩ => ⟨S4x4x8192, .f32⟩
  | .hbm, ⟨19, _⟩ => ⟨S4x4x8192x1, .f32⟩
  | .hbm, ⟨20, _⟩ => ⟨S4x4x8192x8448, .f32⟩
  | .hbm, ⟨21, _⟩ => ⟨S4x4x8192x8448, .f32⟩
  | .hbm, ⟨22, _⟩ => ⟨S4x4x8192x8448, .f32⟩
  | .hbm, ⟨23, _⟩ => ⟨S_, .f32⟩
  | .hbm, ⟨24, _⟩ => ⟨S4x4x8192, .f32⟩
  | .hbm, ⟨25, _⟩ => ⟨S4x4x8192x1, .f32⟩
  | .hbm, ⟨26, _⟩ => ⟨S4x4x8192x8448, .f32⟩
  | .hbm, ⟨27, _⟩ => ⟨S4x4x8192x8448, .f32⟩
  | .hbm, ⟨28, _⟩ => ⟨S4x4x64x8192, .f32⟩
  | .hbm, ⟨29, _⟩ => ⟨S4x8192x4x64, .f32⟩
  | .hbm, ⟨30, _⟩ => ⟨S4x8192x256, .f32⟩
  | .hbm, ⟨31, _⟩ => ⟨S4x8192x256, .bf16⟩
  | _, _ => ⟨S4x8192x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Experts.lean ====
abbrev S72 : Shape := ⟨1, ![72]⟩
abbrev S1 : Shape := ⟨1, ![1]⟩
abbrev S73728x1024 : Shape := ⟨2, ![73728, 1024]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S1x1024x1792 : Shape := ⟨3, ![1, 1024, 1792]⟩
abbrev S1x1792x1024 : Shape := ⟨3, ![1, 1792, 1024]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 5
  | .vmem => 10
  | .smem => 2
  | _ => 0

abbrev bufTy : (tb : Table) → Fin (tcTables nBuf tb) → BufTy
  | .hbm, ⟨0, _⟩ => ⟨S73728x1024, .f32⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S73728x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S1024x1024, .f32⟩
  | .local _ .vmem, ⟨9, _⟩ => ⟨S1024x1024, .f32⟩
  | .local _ .smem, ⟨0, _⟩ => ⟨S72, .i32⟩
  | .local _ .smem, ⟨1, _⟩ => ⟨S1, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v_true : BitVec 1 := 1#1
  let v2 : BitVec 1 := Scalar.xori v1 v_true
  let arg1 : BitVec 32 := BitVec.ofNat 32 (i 1).val
  let c0_i32 : BitVec 32 := 0#32
  let v3 : BitVec 1 := Scalar.cmpi .eq arg1 c0_i32
  let v4 : BitVec 1 := Scalar.andi v2 v3
  let v5 : BitVec 32 := Scalar.extui v4
  let c0_i32_0 : BitVec 32 := 0#32
  let v6 : BitVec 1 := Scalar.cmpi .ne v5 c0_i32_0
  v6

def k0_cond2 (i : grid0.Coords) (v0 : BitVec 32) : BitVec 1 :=
  let arg0 : BitVec 32 := BitVec.ofNat 32 (i 0).val
  let v1 : BitVec 1 := Scalar.cmpi .slt arg0 v0
  let v7 : BitVec 32 := Scalar.extui v1
  let c0_i32_1 : BitVec 32 := 0#32
  let v8 : BitVec 1 := Scalar.cmpi .ne v7 c0_i32_1
  v8

def k0_cond3 (i : grid0.Coords) : BitVec 1 :=
  let arg1 : BitVec 32 := BitVec.ofNat 32 (i 1).val
  let c0_i32_95 : BitVec 32 := 0#32
  let v136 : BitVec 1 := Scalar.cmpi .eq arg1 c0_i32_95
  let v137 : BitVec 32 := Scalar.extui v136
  let c0_i32_96 : BitVec 32 := 0#32
  let v138 : BitVec 1 := Scalar.cmpi .ne v137 c0_i32_96
  v138

def k0_cond4 (i : grid0.Coords) : BitVec 1 :=
  let arg1 : BitVec 32 := BitVec.ofNat 32 (i 1).val
  let c0_i32_97 : BitVec 32 := 0#32
  let v139 : BitVec 1 := Scalar.cmpi .sgt arg1 c0_i32_97
  let v140 : BitVec 32 := Scalar.extui v139
  let c0_i32_98 : BitVec 32 := 0#32
  let v141 : BitVec 1 := Scalar.cmpi .ne v140 c0_i32_98
  v141

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsRefIdeal.lean ====
abbrev S72 : Shape := ⟨1, ![72]⟩
abbrev S1 : Shape := ⟨1, ![1]⟩
abbrev S73728x1024 : Shape := ⟨2, ![73728, 1024]⟩
abbrev S8x1024x3584 : Shape := ⟨3, ![8, 1024, 3584]⟩
abbrev S8x3584x1024 : Shape := ⟨3, ![8, 3584, 1024]⟩
abbrev S72x1 : Shape := ⟨2, ![72, 1]⟩
abbrev S1x8 : Shape := ⟨2, ![1, 8]⟩
abbrev S72x8 : Shape := ⟨2, ![72, 8]⟩
abbrev S72x1024x8 : Shape := ⟨3, ![72, 1024, 8]⟩
abbrev S73728x8 : Shape := ⟨2, ![73728, 8]⟩
abbrev S73728x8x3584 : Shape := ⟨3, ![73728, 8, 3584]⟩
abbrev S_ : Shape := ⟨0, ![]⟩
abbrev S8x1024x73728 : Shape := ⟨3, ![8, 1024, 73728]⟩
abbrev S73728x8x1024 : Shape := ⟨3, ![73728, 8, 1024]⟩
abbrev S73728x8x1 : Shape := ⟨3, ![73728, 8, 1]⟩

abbrev nBuf : Space → Nat
  | .hbm => 43
  | .vmem => 0
  | .smem => 0
  | _ => 0

abbrev bufTy : (tb : Table) → Fin (tcTables nBuf tb) → BufTy
  | .hbm, ⟨0, _⟩ => ⟨S72, .i32⟩
  | .hbm, ⟨1, _⟩ => ⟨S1, .i32⟩
  | .hbm, ⟨2, _⟩ => ⟨S73728x1024, .f32⟩
  | .hbm, ⟨3, _⟩ => ⟨S8x1024x3584, .bf16⟩
  | .hbm, ⟨4, _⟩ => ⟨S8x1024x3584, .bf16⟩
  | .hbm, ⟨5, _⟩ => ⟨S8x3584x1024, .bf16⟩
  | .hbm, ⟨6, _⟩ => ⟨S72x1, .i32⟩
  | .hbm, ⟨7, _⟩ => ⟨S1x8, .i32⟩
  | .hbm, ⟨8, _⟩ => ⟨S72x8, .i32⟩
  | .hbm, ⟨9, _⟩ => ⟨S72x8, .i32⟩
  | .hbm, ⟨10, _⟩ => ⟨S72x8, .i1⟩
  | .hbm, ⟨11, _⟩ => ⟨S72x8, .f32⟩
  | .hbm, ⟨12, _⟩ => ⟨S72, .i32⟩
  | .hbm, ⟨13, _⟩ => ⟨S72, .i32⟩
  | .hbm, ⟨14, _⟩ => ⟨S72, .i1⟩
  | .hbm, ⟨15, _⟩ => ⟨S72x1, .i1⟩
  | .hbm, ⟨16, _⟩ => ⟨S72x1, .f32⟩
  | .hbm, ⟨17, _⟩ => ⟨S72x8, .f32⟩
  | .hbm, ⟨18, _⟩ => ⟨S72x8, .f32⟩
  | .hbm, ⟨19, _⟩ => ⟨S72x1024x8, .f32⟩
  | .hbm, ⟨20, _⟩ => ⟨S73728x8, .f32⟩
  | .hbm, ⟨21, _⟩ => ⟨S8x1024x3584, .f32⟩
  | .hbm, ⟨22, _⟩ => ⟨S73728x8x3584, .f32⟩
  | .hbm, ⟨23, _⟩ => ⟨S8x1024x3584, .f32⟩
  | .hbm, ⟨24, _⟩ => ⟨S73728x8x3584, .f32⟩
  | .hbm, ⟨25, _⟩ => ⟨S73728x8x3584, .f32⟩
  | .hbm, ⟨26, _⟩ => ⟨S73728x8x3584, .f32⟩
  | .hbm, ⟨27, _⟩ => ⟨S_, .f32⟩
  | .hbm, ⟨28, _⟩ => ⟨S73728x8x3584, .f32⟩
  | .hbm, ⟨29, _⟩ => ⟨S73728x8x3584, .f32⟩
  | .hbm, ⟨30, _⟩ => ⟨S_, .f32⟩
  | .hbm, ⟨31, _⟩ => ⟨S73728x8x3584, .f32⟩
  | .hbm, ⟨32, _⟩ => ⟨S73728x8x3584, .f32⟩
  | .hbm, ⟨33, _⟩ => ⟨S73728x8x3584, .f32⟩
  | .hbm, ⟨34, _⟩ => ⟨S73728x8x3584, .f32⟩
  | .hbm, ⟨35, _⟩ => ⟨S8x3584x1024, .f32⟩
  | .hbm, ⟨36, _⟩ => ⟨S8x1024x73728, .f32⟩
  | .hbm, ⟨37, _⟩ => ⟨S73728x8x1024, .f32⟩
  | .hbm, ⟨38, _⟩ => ⟨S73728x8x1, .f32⟩
  | .hbm, ⟨39, _⟩ => ⟨S73728x8x1024, .f32⟩
  | .hbm, ⟨40, _⟩ => ⟨S73728x8x1024, .f32⟩
  | .hbm, ⟨41, _⟩ => ⟨S_, .f32⟩
  | .hbm, ⟨42, _⟩ => ⟨S73728x1024, .f32⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst : Ref sig .tc := ⟨.hbm, 41, rfl⟩
abbrev main_v22 : Ref sig .tc := ⟨.hbm, 42, rfl⟩

abbrev nD : Nat := 1
abbrev τ : Topo := Topo.v7x

variable {F : FTy → Type} [FloatOps F]
-- ==== Dense.lean ====
abbrev S32768x1024 : Shape := ⟨2, ![32768, 1024]⟩
abbrev S1024x3584 : Shape := ⟨2, ![1024, 3584]⟩
abbrev S3584x1024 : Shape := ⟨2, ![3584, 1024]⟩
abbrev S4x1x1024 : Shape := ⟨3, ![4, 1, 1024]⟩
abbrev S1x1024 : Shape := ⟨2, ![1, 1024]⟩
abbrev S1024x1024 : Shape := ⟨2, ![1024, 1024]⟩
abbrev S1024x1792 : Shape := ⟨2, ![1024, 1792]⟩
abbrev S1792x1024 : Shape := ⟨2, ![1792, 1024]⟩
abbrev S1x1x1024 : Shape := ⟨3, ![1, 1, 1024]⟩
abbrev S1024x256 : Shape := ⟨2, ![1024, 256]⟩
abbrev S256x1024 : Shape := ⟨2, ![256, 1024]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S32768x1024, .bf16⟩
  | .hbm, ⟨1, _⟩ => ⟨S1024x3584, .bf16⟩
  | .hbm, ⟨2, _⟩ => ⟨S1024x3584, .bf16⟩
  | .hbm, ⟨3, _⟩ => ⟨S3584x1024, .bf16⟩
  | .hbm, ⟨4, _⟩ => ⟨S32768x1024, .f32⟩
  | .hbm, ⟨5, _⟩ => ⟨S4x1x1024, .f32⟩
  | .hbm, ⟨6, _⟩ => ⟨S1x1024, .f32⟩
  | .hbm, ⟨7, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1792, .bf16⟩
  | .local _ .vmem, ⟨5, _⟩ => ⟨S1024x1792, .bf16⟩
  | .local _ .vmem, ⟨6, _⟩ => ⟨S1792x1024, .bf16⟩
  | .local _ .vmem, ⟨7, _⟩ => ⟨S1792x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 2], ![false, false]⟩

def k0_cond1 (i : grid0.Coords) : BitVec 1 :=
  let arg1 : BitVec 32 := BitVec.ofNat 32 (i 1).val
  let c0_i32 : BitVec 32 := 0#32
  let v105 : BitVec 1 := Scalar.cmpi .eq arg1 c0_i32
  let v106 : BitVec 32 := Scalar.extui v105
  let c0_i32_71 : BitVec 32 := 0#32
  let v107 : BitVec 1 := Scalar.cmpi .ne v106 c0_i32_71
  v107

def k0_cond2 (i : grid0.Coords) : BitVec 1 :=
  let arg1 : BitVec 32 := BitVec.ofNat 32 (i 1).val
  let c0_i32_72 : BitVec 32 := 0#32
  let v108 : BitVec 1 := Scalar.cmpi .sgt arg1 c0_i32_72
  let c1_i32 : BitVec 32 := 1#32
  let v109 : BitVec 1 := Scalar.cmpi .slt arg1 c1_i32
  let v110 : BitVec 1 := Scalar.andi v108 v109
  let v111 : BitVec 32 := Scalar.extui v110
  let c0_i32_73 : BitVec 32 := 0#32
  let v112 : BitVec 1 := Scalar.cmpi .ne v111 c0_i32_73
  v112

def k0_cond3 (i : grid0.Coords) : BitVec 1 :=
  let arg1 : BitVec 32 := BitVec.ofNat 32 (i 1).val
  let c1_i32_74 : BitVec 32 := 1#32
  let v113 : BitVec 1 := Scalar.cmpi .eq arg1 c1_i32_74
  let v114 : BitVec 32 := Scalar.extui v113
  let c0_i32_75 : BitVec 32 := 0#32
  let v115 : BitVec 1 := Scalar.cmpi .ne v114 c0_i32_75
  v115

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== DenseRefIdeal.lean ====
abbrev S32768x1024 : Shape := ⟨2, ![32768, 1024]⟩
abbrev S1024x3584 : Shape := ⟨2, ![1024, 3584]⟩
abbrev S3584x1024 : Shape := ⟨2, ![3584, 1024]⟩
abbrev S4x1x1024 : Shape := ⟨3, ![4, 1, 1024]⟩
abbrev S1x1024 : Shape := ⟨2, ![1, 1024]⟩
abbrev S32768x3584 : Shape := ⟨2, ![32768, 3584]⟩
abbrev S_ : Shape := ⟨0, ![]⟩
abbrev S32768 : Shape := ⟨1, ![32768]⟩
abbrev S32768x1 : Shape := ⟨2, ![32768, 1]⟩
abbrev S4x8192x1024 : Shape := ⟨3, ![4, 8192, 1024]⟩

abbrev nBuf : Space → Nat
  | .hbm => 45
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x3584, .bf16⟩
  | .hbm, ⟨2, _⟩ => ⟨S1024x3584, .bf16⟩
  | .hbm, ⟨3, _⟩ => ⟨S3584x1024, .bf16⟩
  | .hbm, ⟨4, _⟩ => ⟨S32768x1024, .f32⟩
  | .hbm, ⟨5, _⟩ => ⟨S4x1x1024, .f32⟩
  | .hbm, ⟨6, _⟩ => ⟨S1x1024, .f32⟩
  | .hbm, ⟨7, _⟩ => ⟨S32768x1024, .f32⟩
  | .hbm, ⟨8, _⟩ => ⟨S1024x3584, .f32⟩
  | .hbm, ⟨9, _⟩ => ⟨S32768x3584, .f32⟩
  | .hbm, ⟨10, _⟩ => ⟨S32768x3584, .f32⟩
  | .hbm, ⟨11, _⟩ => ⟨S32768x3584, .f32⟩
  | .hbm, ⟨12, _⟩ => ⟨S_, .f32⟩
  | .hbm, ⟨13, _⟩ => ⟨S32768x3584, .f32⟩
  | .hbm, ⟨14, _⟩ => ⟨S32768x3584, .f32⟩
  | .hbm, ⟨15, _⟩ => ⟨S_, .f32⟩
  | .hbm, ⟨16, _⟩ => ⟨S32768x3584, .f32⟩
  | .hbm, ⟨17, _⟩ => ⟨S32768x3584, .f32⟩
  | .hbm, ⟨18, _⟩ => ⟨S32768x3584, .f32⟩
  | .hbm, ⟨19, _⟩ => ⟨S1024x3584, .f32⟩
  | .hbm, ⟨20, _⟩ => ⟨S32768x3584, .f32⟩
  | .hbm, ⟨21, _⟩ => ⟨S32768x3584, .f32⟩
  | .hbm, ⟨22, _⟩ => ⟨S3584x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S4x8192x1024, .f32⟩
  | .hbm, ⟨44, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Mixed.lean ====
abbrev S32768x256 : Shape := ⟨2, ![32768, 256]⟩
abbrev S1024x1024 : Shape := ⟨2, ![1024, 1024]⟩
abbrev S32768x1024 : Shape := ⟨2, ![32768, 1024]⟩
abbrev S4x1x1024 : Shape := ⟨3, ![4, 1, 1024]⟩
abbrev S1x1024 : Shape := ⟨2, ![1, 1024]⟩
abbrev S512x256 : Shape := ⟨2, ![512, 256]⟩
abbrev S512x1024 : Shape := ⟨2, ![512, 1024]⟩
abbrev S1x1x1024 : Shape := ⟨3, ![1, 1, 1024]⟩
abbrev S256x1024 : Shape := ⟨2, ![256, 1024]⟩
abbrev S512 : Shape := ⟨1, ![512]⟩
abbrev S512x1 : Shape := ⟨2, ![512, 1]⟩

abbrev nBuf : Space → Nat
  | .hbm => 13
  | .vmem => 23
  | .smem => 0
  | _ => 0

abbrev bufTy : (tb : Table) → Fin (tcTables nBuf tb) → BufTy
  | .hbm, ⟨0, _⟩ => ⟨S32768x256, .bf16⟩
  | .hbm, ⟨1, _⟩ => ⟨S32768x256, .bf16⟩
  | .hbm, ⟨2, _⟩ => ⟨S32768x256, .bf16⟩
  | .hbm, ⟨3, _⟩ => ⟨S32768x256, .bf16⟩
  | .hbm, ⟨4, _⟩ => ⟨S1024x1024, .bf16⟩
  | .hbm, ⟨5, _⟩ => ⟨S32768x1024, .f32⟩
  | .hbm, ⟨6, _⟩ => ⟨S4x1x1024, .f32⟩
  | .hbm, ⟨7, _⟩ => ⟨S1x1024, .f32⟩
  | .hbm, ⟨8, _⟩ => ⟨S1x1024, .f32⟩
  | .hbm, ⟨9, _⟩ => ⟨S4x1x1024, .f32⟩
  | .hbm, ⟨10, _⟩ => ⟨S4x1x1024, .f32⟩
  | .hbm, ⟨11, _⟩ => ⟨S32768x1024, .f32⟩
  | .hbm, ⟨12, _⟩ => ⟨S32768x1024, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | _, _ => ⟨S32768x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixedRefIdeal.lean ====
abbrev S32768x256 : Shape := ⟨2, ![32768, 256]⟩
abbrev S1024x1024 : Shape := ⟨2, ![1024, 1024]⟩
abbrev S32768x1024 : Shape := ⟨2, ![32768, 1024]⟩
abbrev S4x1x1024 : Shape := ⟨3, ![4, 1, 1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩
abbrev S4x8192x1024 : Shape := ⟨3, ![4, 8192, 1024]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S32768x256, .bf16⟩
  | .hbm, ⟨1, _⟩ => ⟨S32768x256, .bf16⟩
  | .hbm, ⟨2, _⟩ => ⟨S32768x256, .bf16⟩
  | .hbm, ⟨3, _⟩ => ⟨S32768x256, .bf16⟩
  | .hbm, ⟨4, _⟩ => ⟨S1024x1024, .bf16⟩
  | .hbm, ⟨5, _⟩ => ⟨S32768x1024, .f32⟩
  | .hbm, ⟨6, _⟩ => ⟨S4x1x1024, .f32⟩
  | .hbm, ⟨7, _⟩ => ⟨S1x1024, .f32⟩
  | .hbm, ⟨8, _⟩ => ⟨S1x1024, .f32⟩
  | .hbm, ⟨9, _⟩ => ⟨S4x1x1024, .f32⟩
  | .hbm, ⟨10, _⟩ => ⟨S4x1x1024, .f32⟩
  | .hbm, ⟨11, _⟩ => ⟨S32768x1024, .bf16⟩
  | .hbm, ⟨12, _⟩ => ⟨S32768x1024, .f32⟩
  | .hbm, ⟨13, _⟩ => ⟨S1024x1024, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S_, .f32⟩
  | .hbm, ⟨37, _⟩ => ⟨S4x8192, .f32⟩
  | .hbm, ⟨38, _⟩ => ⟨S4x8192x1, .f32⟩
  | .hbm, ⟨39, _⟩ => ⟨S_, .f32⟩
  | .hbm, ⟨40, _⟩ => ⟨S4x8192x1, .f32⟩
  | .hbm, ⟨41, _⟩ => ⟨S4x8192x1, .f32⟩
  | .hbm, ⟨42, _⟩ => ⟨S_, .f32⟩
  | .hbm, ⟨43, _⟩ => ⟨S4x8192x1, .f32⟩
  | .hbm, ⟨44, _⟩ => ⟨S4x8192x1, .f32⟩
  | .hbm, ⟨45, _⟩ => ⟨S4x8192x1, .f32⟩
  | .hbm, ⟨46, _⟩ => ⟨S4x8192x1024, .f32⟩
  | .hbm, ⟨47, _⟩ => ⟨S4x8192x1024, .f32⟩
  | .hbm, ⟨48, _⟩ => ⟨S1x1x1024, .f32⟩
  | .hbm, ⟨49, _⟩ => ⟨S4x8192x1024, .f32⟩
  | .hbm, ⟨50, _⟩ => ⟨S4x8192x1024, .f32⟩
  | .hbm, ⟨51, _⟩ => ⟨S_, .f32⟩
  | .hbm, ⟨52, _⟩ => ⟨S4x1x1024, .f32⟩
  | .hbm, ⟨53, _⟩ => ⟨S4x1x1024, .f32⟩
  | .hbm, ⟨54, _⟩ => ⟨S4x8192x1024, .f32⟩
  | .hbm, ⟨55, _⟩ => ⟨S4x8192x1024, .f32⟩
  | .hbm, ⟨56, _⟩ => ⟨S4x8192x1024, .f32⟩
  | .hbm, ⟨57, _⟩ => ⟨S4x8192x1024, .f32⟩
  | .hbm, ⟨58, _⟩ => ⟨S32768x1024, .f32⟩
  | .hbm, ⟨59, _⟩ => ⟨S32768x1024, .f32⟩
  | .hbm, ⟨60, _⟩ => ⟨S32768x1024, .bf16⟩
  | _, _ => ⟨S32768x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Ins.lean ====
abbrev S32768x1024 : Shape := ⟨2, ![32768, 1024]⟩
abbrev S1x1024 : Shape := ⟨2, ![1, 1024]⟩
abbrev S4x1x1024 : Shape := ⟨3, ![4, 1, 1024]⟩
abbrev S1024x1920 : Shape := ⟨2, ![1024, 1920]⟩
abbrev S8192x256 : Shape := ⟨2, ![8192, 256]⟩
abbrev S8192x128 : Shape := ⟨2, ![8192, 128]⟩
abbrev S1x256 : Shape := ⟨2, ![1, 256]⟩
abbrev S1x128 : Shape := ⟨2, ![1, 128]⟩
abbrev S256x512 : Shape := ⟨2, ![256, 512]⟩
abbrev S128x512 : Shape := ⟨2, ![128, 512]⟩
abbrev S32768x256 : Shape := ⟨2, ![32768, 256]⟩
abbrev S32768x128 : Shape := ⟨2, ![32768, 128]⟩
abbrev S32768x512 : Shape := ⟨2, ![32768, 512]⟩
abbrev S512x1024 : Shape := ⟨2, ![512, 1024]⟩
abbrev S1x1x1024 : Shape := ⟨3, ![1, 1, 1024]⟩
abbrev S512x256 : Shape := ⟨2, ![512, 256]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S1024x128 : Shape := ⟨2, ![1024, 128]⟩
abbrev S1024x512 : Shape := ⟨2, ![1024, 512]⟩

abbrev nBuf : Space → Nat
  | .hbm => 23
  | .vmem => 39
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S1024x1920, .bf16⟩
  | .hbm, ⟨5, _⟩ => ⟨S8192x256, .f32⟩
  | .hbm, ⟨6, _⟩ => ⟨S8192x256, .f32⟩
  | .hbm, ⟨7, _⟩ => ⟨S8192x128, .f32⟩
  | .hbm, ⟨8, _⟩ => ⟨S8192x128, .f32⟩
  | .hbm, ⟨9, _⟩ => ⟨S1x256, .f32⟩
  | .hbm, ⟨10, _⟩ => ⟨S1x128, .f32⟩
  | .hbm, ⟨11, _⟩ => ⟨S256x512, .bf16⟩
  | .hbm, ⟨12, _⟩ => ⟨S128x512, .bf16⟩
  | .hbm, ⟨13, _⟩ => ⟨S128x512, .bf16⟩
  | .hbm, ⟨14, _⟩ => ⟨S32768x256, .bf16⟩
  | .hbm, ⟨15, _⟩ => ⟨S32768x256, .bf16⟩
  | .hbm, ⟨16, _⟩ => ⟨S32768x128, .bf16⟩
  | .hbm, ⟨17, _⟩ => ⟨S32768x256, .bf16⟩
  | .hbm, ⟨18, _⟩ => ⟨S32768x512, .bf16⟩
  | .hbm, ⟨19, _⟩ => ⟨S32768x512, .bf16⟩
  | .hbm, ⟨20, _⟩ => ⟨S32768x512, .bf16⟩
  | .hbm, ⟨21, _⟩ => ⟨S32768x256, .bf16⟩
  | .hbm, ⟨22, _⟩ => ⟨S32768x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1920, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S1x256, .f32⟩
  | .local _ .vmem, ⟨17, _⟩ => ⟨S1x128, .f32⟩
  | .local _ .vmem, ⟨18, _⟩ => ⟨S256x512, .bf16⟩
  | .local _ .vmem, ⟨19, _⟩ => ⟨S128x512, .bf16⟩
  | .local _ .vmem, ⟨20, _⟩ => ⟨S128x512, .bf16⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x128, .bf16⟩
  | .local _ .vmem, ⟨26, _⟩ => ⟨S512x128, .bf16⟩
  | .local _ .vmem, ⟨27, _⟩ => ⟨S512x256, .bf16⟩
  | .local _ .vmem, ⟨28, _⟩ => ⟨S512x256, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S512x256, .bf16⟩
  | .local _ .vmem, ⟨36, _⟩ => ⟨S512x256, .bf16⟩
  | .local _ .vmem, ⟨37, _⟩ => ⟨S512x256, .bf16⟩
  | .local _ .vmem, ⟨38, _⟩ => ⟨S512x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev main_v0_8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1920 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== InsRefIdeal.lean ====
abbrev S32768x1024 : Shape := ⟨2, ![32768, 1024]⟩
abbrev S1x1024 : Shape := ⟨2, ![1, 1024]⟩
abbrev S4x1x1024 : Shape := ⟨3, ![4, 1, 1024]⟩
abbrev S1024x1920 : Shape := ⟨2, ![1024, 1920]⟩
abbrev S8192x256 : Shape := ⟨2, ![8192, 256]⟩
abbrev S8192x128 : Shape := ⟨2, ![8192, 128]⟩
abbrev S1x256 : Shape := ⟨2, ![1, 256]⟩
abbrev S1x128 : Shape := ⟨2, ![1, 128]⟩
abbrev S256x512 : Shape := ⟨2, ![256, 512]⟩
abbrev S128x512 : Shape := ⟨2, ![128, 512]⟩
abbrev S_ : Shape := ⟨0, ![]⟩
abbrev S32768 : Shape := ⟨1, ![32768]⟩
abbrev S32768x1 : Shape := ⟨2, ![32768, 1]⟩
abbrev S4x8192x1024 : Shape := ⟨3, ![4, 8192, 1024]⟩
abbrev S32768x1920 : Shape := ⟨2, ![32768, 1920]⟩
abbrev S32768x256 : Shape := ⟨2, ![32768, 256]⟩
abbrev S32768x128 : Shape := ⟨2, ![32768, 128]⟩
abbrev S1x8192x1x256 : Shape := ⟨4, ![1, 8192, 1, 256]⟩
abbrev S4x8192x1x256 : Shape := ⟨4, ![4, 8192, 1, 256]⟩
abbrev S1x8192x1x128 : Shape := ⟨4, ![1, 8192, 1, 128]⟩
abbrev S4x8192x1x128 : Shape := ⟨4, ![4, 8192, 1, 128]⟩
abbrev S32768x128x2 : Shape := ⟨3, ![32768, 128, 2]⟩
abbrev S32768x128x1 : Shape := ⟨3, ![32768, 128, 1]⟩
abbrev S32768x64x2 : Shape := ⟨3, ![32768, 64, 2]⟩
abbrev S32768x64x1 : Shape := ⟨3, ![32768, 64, 1]⟩
abbrev S32768x64 : Shape := ⟨2, ![32768, 64]⟩
abbrev S32768x512 : Shape := ⟨2, ![32768, 512]⟩
abbrev S1x32768x1x128 : Shape := ⟨4, ![1, 32768, 1, 128]⟩
abbrev S1x32768x4x128 : Shape := ⟨4, ![1, 32768, 4, 128]⟩
abbrev S32768x256x2 : Shape := ⟨3, ![32768, 256, 2]⟩
abbrev S32768x256x1 : Shape := ⟨3, ![32768, 256, 1]⟩
abbrev S128 : Shape := ⟨1, ![128]⟩
abbrev S32768x2x128 : Shape := ⟨3, ![32768, 2, 128]⟩
abbrev S32768x4x128 : Shape := ⟨3, ![32768, 4, 128]⟩

abbrev nBuf : Space → Nat
  | .hbm => 237
  | .vmem => 0
  | .smem => 0
  | _ => 0

abbrev hbmTy0_0 (i : Nat) : BufTy := match i % 128 with
  | 0 => ⟨S32768x1024, .f32⟩
  | 1 => ⟨S1x1024, .f32⟩
  | 2 => ⟨S4x1x1024, .f32⟩
  | 3 => ⟨S4x1x1024, .f32⟩
  | 4 => ⟨S1024x1920, .bf16⟩
  | 5 => ⟨S8192x256, .f32⟩
  | 6 => ⟨S8192x256, .f32⟩
  | 7 => ⟨S8192x128, .f32⟩
  | 8 => ⟨S8192x128, .f32⟩
  | 9 => ⟨S1x256, .f32⟩
  | 10 => ⟨S1x128, .f32⟩
  | 11 => ⟨S256x512, .bf16⟩
  | 12 => ⟨S128x512, .bf16⟩
  | 13 => ⟨S128x512, .bf16⟩
  | 14 => ⟨S32768x1024, .f32⟩
  | 15 => ⟨S_, .f32⟩
  | 16 => ⟨S32768, .f32⟩
  | 17 => ⟨S32768x1, .f32⟩
  | 18 => ⟨S_, .f32⟩
  | 19 => ⟨S32768x1, .f32⟩
  | 20 => ⟨S32768x1, .f32⟩
  | 21 => ⟨S_, .f32⟩
  | 22 => ⟨S32768x1, .f32⟩
  | 23 => ⟨S32768x1, .f32⟩
  | 24 => ⟨S32768x1, .f32⟩
  | 25 => ⟨S32768x1024, .f32⟩
  | 26 => ⟨S32768x1024, .f32⟩
  | 27 => ⟨S32768x1024, .f32⟩
  | 28 => ⟨S32768x1024, .f32⟩
  | 29 => ⟨S4x8192x1024, .f32⟩
  | 30 => ⟨S_, .f32⟩
  | 31 => ⟨S4x1x1024, .f32⟩
  | 32 => ⟨S4x1x1024, .f32⟩
  | 33 => ⟨S4x8192x1024, .f32⟩
  | 34 => ⟨S4x8192x1024, .f32⟩
  | 35 => ⟨S4x8192x1024, .f32⟩
  | 36 => ⟨S4x8192x1024, .f32⟩
  | 37 => ⟨S32768x1024, .f32⟩
  | 38 => ⟨S1024x1920, .f32⟩
  | 39 => ⟨S32768x1920, .f32⟩
  | 40 => ⟨S32768x256, .f32⟩
  | 41 => ⟨S32768x256, .f32⟩
  | 42 => ⟨S32768x128, .f32⟩
  | 43 => ⟨S32768x256, .f32⟩
  | 44 => ⟨S32768x256, .f32⟩
  | 45 => ⟨S32768x128, .f32⟩
  | 46 => ⟨S32768x128, .f32⟩
  | 47 => ⟨S32768x256, .f32⟩
  | 48 => ⟨S32768x256, .f32⟩
  | 49 => ⟨S1x8192x1x256, .f32⟩
  | 50 => ⟨S4x8192x1x256, .f32⟩
  | 51 => ⟨S32768x256, .f32⟩
  | 52 => ⟨S1x8192x1x256, .f32⟩
  | 53 => ⟨S4x8192x1x256, .f32⟩
  | 54 => ⟨S32768x256, .f32⟩
  | 55 => ⟨S1x8192x1x128, .f32⟩
  | 56 => ⟨S4x8192x1x128, .f32⟩
  | 57 => ⟨S32768x128, .f32⟩
  | 58 => ⟨S1x8192x1x128, .f32⟩
  | 59 => ⟨S4x8192x1x128, .f32⟩
  | 60 => ⟨S32768x128, .f32⟩
  | 61 => ⟨S32768x128x2, .f32⟩
  | 62 => ⟨S32768x128x1, .f32⟩
  | 63 => ⟨S32768x128, .f32⟩
  | 64 => ⟨S32768x128x1, .f32⟩
  | 65 => ⟨S32768x128, .f32⟩
  | 66 => ⟨S32768x128x1, .f32⟩
  | 67 => ⟨S32768x128x1, .f32⟩
  | 68 => ⟨S32768x128x2, .f32⟩
  | 69 => ⟨S32768x256, .f32⟩
  | 70 => ⟨S32768x256, .f32⟩
  | 71 => ⟨S32768x256, .f32⟩
  | 72 => ⟨S32768x256, .f32⟩
  | 73 => ⟨S_, .f32⟩
  | 74 => ⟨S32768x256, .f32⟩
  | 75 => ⟨S32768x256, .f32⟩
  | 76 => ⟨S32768x128, .f32⟩
  | 77 => ⟨S32768x128, .f32⟩
  | 78 => ⟨S32768x64x2, .f32⟩
  | 79 => ⟨S32768x64x1, .f32⟩
  | 80 => ⟨S32768x64, .f32⟩
  | 81 => ⟨S32768x64x1, .f32⟩
  | 82 => ⟨S32768x64, .f32⟩
  | 83 => ⟨S32768x64x1, .f32⟩
  | 84 => ⟨S32768x64x1, .f32⟩
  | 85 => ⟨S32768x64x2, .f32⟩
  | 86 => ⟨S32768x128, .f32⟩
  | 87 => ⟨S32768x128, .f32⟩
  | 88 => ⟨S32768x128, .f32⟩
  | 89 => ⟨S32768x128, .f32⟩
  | 90 => ⟨S32768x256, .f32⟩
  | 91 => ⟨S_, .f32⟩
  | 92 => ⟨S32768, .f32⟩
  | 93 => ⟨S32768x1, .f32⟩
  | 94 => ⟨S_, .f32⟩
  | 95 => ⟨S32768x1, .f32⟩
  | 96 => ⟨S32768x1, .f32⟩
  | 97 => ⟨S_, .f32⟩
  | 98 => ⟨S32768x1, .f32⟩
  | 99 => ⟨S32768x1, .f32⟩
  | 100 => ⟨S32768x1, .f32⟩
  | 101 => ⟨S32768x256, .f32⟩
  | 102 => ⟨S32768x256, .f32⟩
  | 103 => ⟨S32768x256, .f32⟩
  | 104 => ⟨S32768x256, .f32⟩
  | 105 => ⟨S256x512, .f32⟩
  | 106 => ⟨S32768x512, .f32⟩
  | 107 => ⟨S1x32768x1x128, .f32⟩
  | 108 => ⟨S1x32768x4x128, .f32⟩
  | 109 => ⟨S32768x512, .f32⟩
  | 110 => ⟨S1x32768x1x128, .f32⟩
  | 111 => ⟨S1x32768x4x128, .f32⟩
  | 112 => ⟨S32768x512, .f32⟩
  | 113 => ⟨S32768x256x2, .f32⟩
  | 114 => ⟨S32768x256x1, .f32⟩
  | 115 => ⟨S32768x256, .f32⟩
  | 116 => ⟨S32768x256x1, .f32⟩
  | 117 => ⟨S32768x256, .f32⟩
  | 118 => ⟨S32768x256x1, .f32⟩
  | 119 => ⟨S32768x256x1, .f32⟩
  | 120 => ⟨S32768x256x2, .f32⟩
  | 121 => ⟨S32768x512, .f32⟩
  | 122 => ⟨S32768x512, .f32⟩
  | 123 => ⟨S32768x512, .f32⟩
  | 124 => ⟨S32768x512, .f32⟩
  | 125 => ⟨S_, .f32⟩
  | 126 => ⟨S32768x512, .f32⟩
  | 127 => ⟨S32768x512, .f32⟩
  | _ => ⟨S32768x1024, .f32⟩

abbrev hbmTy0_1 (i : Nat) : BufTy := match i % 128 with
  | 0 => ⟨S32768x128, .f32⟩
  | 1 => ⟨S_, .f32⟩
  | 2 => ⟨S32768, .f32⟩
  | 3 => ⟨S32768x1, .f32⟩
  | 4 => ⟨S_, .f32⟩
  | 5 => ⟨S32768x1, .f32⟩
  | 6 => ⟨S32768x1, .f32⟩
  | 7 => ⟨S_, .f32⟩
  | 8 => ⟨S32768x1, .f32⟩
  | 9 => ⟨S32768x1, .f32⟩
  | 10 => ⟨S32768x1, .f32⟩
  | 11 => ⟨S32768x128, .f32⟩
  | 12 => ⟨S32768x128, .f32⟩
  | 13 => ⟨S32768x128, .f32⟩
  | 14 => ⟨S32768x128, .f32⟩
  | 15 => ⟨S128x512, .f32⟩
  | 16 => ⟨S32768x512, .f32⟩
  | 17 => ⟨S32768x64x2, .f32⟩
  | 18 => ⟨S32768x64x1, .f32⟩
  | 19 => ⟨S32768x64, .f32⟩
  | 20 => ⟨S32768x64x1, .f32⟩
  | 21 => ⟨S32768x64, .f32⟩
  | 22 => ⟨S32768x64x1, .f32⟩
  | 23 => ⟨S32768x64x1, .f32⟩
  | 24 => ⟨S32768x64x2, .f32⟩
  | 25 => ⟨S32768x128, .f32⟩
  | 26 => ⟨S32768x128, .f32⟩
  | 27 => ⟨S32768x128, .f32⟩
  | 28 => ⟨S32768x128, .f32⟩
  | 29 => ⟨S1x32768x1x128, .f32⟩
  | 30 => ⟨S1x32768x4x128, .f32⟩
  | 31 => ⟨S32768x512, .f32⟩
  | 32 => ⟨S32768x512, .f32⟩
  | 33 => ⟨S_, .f32⟩
  | 34 => ⟨S32768x256, .f32⟩
  | 35 => ⟨S32768x256, .f32⟩
  | 36 => ⟨S_, .f32⟩
  | 37 => ⟨S32768x256, .f32⟩
  | 38 => ⟨S32768x256, .f32⟩
  | 39 => ⟨S32768x256, .f32⟩
  | 40 => ⟨S_, .f32⟩
  | 41 => ⟨S32768x256, .f32⟩
  | 42 => ⟨S32768x256, .f32⟩
  | 43 => ⟨S32768x256, .f32⟩
  | 44 => ⟨S_, .f32⟩
  | 45 => ⟨S32768, .f32⟩
  | 46 => ⟨S32768x1, .f32⟩
  | 47 => ⟨S_, .f32⟩
  | 48 => ⟨S32768x1, .f32⟩
  | 49 => ⟨S32768x1, .f32⟩
  | 50 => ⟨S32768x256, .f32⟩
  | 51 => ⟨S32768x256, .f32⟩
  | 52 => ⟨S32768x256, .f32⟩
  | 53 => ⟨S_, .f32⟩
  | 54 => ⟨S32768, .f32⟩
  | 55 => ⟨S32768x1, .f32⟩
  | 56 => ⟨S_, .f32⟩
  | 57 => ⟨S32768x1, .f32⟩
  | 58 => ⟨S32768x1, .f32⟩
  | 59 => ⟨S_, .f32⟩
  | 60 => ⟨S32768x1, .f32⟩
  | 61 => ⟨S32768x1, .f32⟩
  | 62 => ⟨S32768x1, .f32⟩
  | 63 => ⟨S32768x256, .f32⟩
  | 64 => ⟨S32768x256, .f32⟩
  | 65 => ⟨S128, .i32⟩
  | 66 => ⟨S_, .i32⟩
  | 67 => ⟨S128, .i32⟩
  | 68 => ⟨S128, .i1⟩
  | 69 => ⟨S32768x2x128, .f32⟩
  | 70 => ⟨S_, .f32⟩
  | 71 => ⟨S_, .f32⟩
  | 72 => ⟨S32768x2x128, .i1⟩
  | 73 => ⟨S32768x2x128, .f32⟩
  | 74 => ⟨S32768x2x128, .f32⟩
  | 75 => ⟨S32768x256, .f32⟩
  | 76 => ⟨S128x512, .f32⟩
  | 77 => ⟨S32768x512, .f32⟩
  | 78 => ⟨S128, .i32⟩
  | 79 => ⟨S_, .i32⟩
  | 80 => ⟨S128, .i32⟩
  | 81 => ⟨S128, .i1⟩
  | 82 => ⟨S32768x4x128, .f32⟩
  | 83 => ⟨S_, .f32⟩
  | 84 => ⟨S_, .f32⟩
  | 85 => ⟨S32768x4x128, .i1⟩
  | 86 => ⟨S32768x4x128, .f32⟩
  | 87 => ⟨S32768x4x128, .f32⟩
  | 88 => ⟨S32768x512, .f32⟩
  | 89 => ⟨S_, .f32⟩
  | 90 => ⟨S32768x256, .f32⟩
  | 91 => ⟨S32768x256, .f32⟩
  | 92 => ⟨S_, .f32⟩
  | 93 => ⟨S32768x256, .f32⟩
  | 94 => ⟨S32768x256, .f32⟩
  | 95 => ⟨S32768x256, .f32⟩
  | 96 => ⟨S_, .f32⟩
  | 97 => ⟨S32768x256, .f32⟩
  | 98 => ⟨S32768x256, .f32⟩
  | 99 => ⟨S32768x256, .f32⟩
  | 100 => ⟨S32768x256, .bf16⟩
  | 101 => ⟨S32768x256, .bf16⟩
  | 102 => ⟨S32768x128, .bf16⟩
  | 103 => ⟨S32768x256, .bf16⟩
  | 104 => ⟨S32768x512, .bf16⟩
  | 105 => ⟨S32768x512, .bf16⟩
  | 106 => ⟨S32768x512, .bf16⟩
  | 107 => ⟨S32768x256, .bf16⟩
  | 108 => ⟨S32768x256, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_3 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_4 : Ref sig .tc := ⟨.hbm, 91, rfl⟩
abbrev main_v72 : Ref sig .tc := ⟨.hbm, 92, rfl⟩
abbrev main_v73 : Ref sig .tc := ⟨.hbm, 93, rfl⟩
abbrev main_cst_5 : Ref sig .tc := ⟨.hbm, 94, rfl⟩
abbrev main_v74 : Ref sig .tc := ⟨.hbm, 95, rfl⟩
abbrev main_v75 : Ref sig .tc := ⟨.hbm, 96, rfl⟩
abbrev main_cst_6 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_cst_7 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_cst_8 : Ref sig .tc := ⟨.hbm, 129, rfl⟩
abbrev main_v106 : Ref sig .tc := ⟨.hbm, 130, rfl⟩
abbrev main_v107 : Ref sig .tc := ⟨.hbm, 131, rfl⟩
abbrev main_cst_9 : Ref sig .tc := ⟨.hbm, 132, rfl⟩
abbrev main_v108 : Ref sig .tc := ⟨.hbm, 133, rfl⟩
abbrev main_v109 : Ref sig .tc := ⟨.hbm, 134, rfl⟩
abbrev main_cst_10 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_cst_11 : Ref sig .tc := ⟨.hbm, 161, rfl⟩
abbrev main_v135 : Ref sig .tc := ⟨.hbm, 162, rfl⟩
abbrev main_v136 : Ref sig .tc := ⟨.hbm, 163, rfl⟩
abbrev main_cst_12 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_cst_13 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_cst_14 : Ref sig .tc := ⟨.hbm, 172, rfl⟩
abbrev main_v143 : Ref sig .tc := ⟨.hbm, 173, rfl⟩
abbrev main_v144 : Ref sig .tc := ⟨.hbm, 174, rfl⟩
abbrev main_cst_15 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_cst_16 : Ref sig .tc := ⟨.hbm, 181, rfl⟩
abbrev main_v150 : Ref sig .tc := ⟨.hbm, 182, rfl⟩
abbrev main_v151 : Ref sig .tc := ⟨.hbm, 183, rfl⟩
abbrev main_cst_17 : Ref sig .tc := ⟨.hbm, 184, rfl⟩
abbrev main_v152 : Ref sig .tc := ⟨.hbm, 185, rfl⟩
abbrev main_v153 : Ref sig .tc := ⟨.hbm, 186, rfl⟩
abbrev main_cst_18 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_c : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_cst_19 : Ref sig .tc := ⟨.hbm, 198, rfl⟩
abbrev main_call0_v0 : Ref sig .tc := ⟨.hbm, 199, rfl⟩
abbrev main_call0_v1 : Ref sig .tc := ⟨.hbm, 200, rfl⟩
abbrev main_call0_v2 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_c_20 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_cst_21 : Ref sig .tc := ⟨.hbm, 211, rfl⟩
abbrev main_call1_v0 : Ref sig .tc := ⟨.hbm, 212, rfl⟩
abbrev main_call1_v1 : Ref sig .tc := ⟨.hbm, 213, rfl⟩
abbrev main_call1_v2 : Ref sig .tc := ⟨.hbm, 214, rfl⟩
abbrev main_v171 : Ref sig .tc := ⟨.hbm, 215, rfl⟩
abbrev main_v172 : Ref sig .tc := ⟨.hbm, 216, rfl⟩
abbrev main_cst_22 : Ref sig .tc := ⟨.hbm, 217, rfl⟩
abbrev main_v173 : Ref sig .tc := ⟨.hbm, 218, rfl⟩
abbrev main_v174 : Ref sig .tc := ⟨.hbm, 219, rfl⟩
abbrev main_cst_23 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_cst_24 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩

abbrev nD : Nat := 1
abbrev τ : Topo := Topo.v7x

variable {F : FTy → Type} [FloatOps F]
-- ==== Proof.Attend.lean ====
/- The arithmetic of one row of attention over the extended reals: real scores, arbitrary values. A running maximum
   and a running weighted sum, rescaled at each chunk, end at the same quotient as the softmax of all scores. -/
module

public import Idealize.ShloMosaic.PureOps.Ideal
public import Idealize.ShloMosaic.PureOps.Ideal.Laws
public import Mathlib.Analysis.SpecialFunctions.Pow.Real
public import Mathlib.Data.EReal.Operations

@[expose] public section

noncomputable section

namespace Cert.Attend

open Idealize.ShloMosaic

/-- A nonnegative real distributes over a sum of extended reals. -/
theorem real_mul_sum {ι : Type} (s : Finset ι) (r : ℝ) (hr : 0 ≤ r) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- `2^x` as a real. -/
def p2 (x : ℝ) : ℝ := Real.rpow 2 x

theorem p2_pos (x : ℝ) : 0 < p2 x := Real.rpow_pos_of_pos (by norm_num) x
theorem p2_add (x y : ℝ) : p2 (x + y) = p2 x * p2 y := Real.rpow_add (by norm_num) x y
theorem p2_neg_mul (x : ℝ) : p2 (-x) * p2 x = 1 := by
  rw [← p2_add]; simp [p2]

/-- The state of one row: the maximum is some real `r`, and the sum is `2^(-r)` times the weighted sum `W` so far. -/
def Good (m a W : EReal) : Prop := ∃ r : ℝ, m = r ∧ a = (p2 (-r) : EReal) * W

/-- One step over a chunk keeps the state good, the weighted sum extended by the chunk's terms. -/
theorem Good.step {n : ℕ} {m a W m' : EReal} (h : Good m a W) {r' : ℝ} (hm' : m' = r') (σ : Fin n → ℝ) (v : Fin n → EReal) :
    Good m' (Ideal.exp2 (m - m') * a + ∑ j, Ideal.exp2 ((σ j : EReal) - m') * v j) (W + ∑ j, (p2 (σ j) : EReal) * v j) := by
  obtain ⟨r, rfl, rfl⟩ := h
  subst hm'
  refine ⟨r', rfl, ?_⟩
  rw [EReal.left_distrib_of_nonneg_of_ne_top (EReal.coe_nonneg.mpr (p2_pos _).le) (EReal.coe_ne_top _),
    real_mul_sum _ _ (p2_pos _).le]
  congr 1
  · rw [← EReal.coe_sub, Ideal.exp2_coe, ← mul_assoc, ← EReal.coe_mul]
    congr 2
    change p2 (r - r') * p2 (-r) = _
    rw [← p2_add]; congr 1; ring
  · refine Finset.sum_congr rfl fun j _ => ?_
    rw [← EReal.coe_sub, Ideal.exp2_coe, ← mul_assoc, ← EReal.coe_mul]
    congr 2
    change p2 (σ j - r') = _
    rw [← p2_add]; congr 1; ring

/-- At the start the sum is zero. -/
theorem Good.init {m : EReal} {r : ℝ} (h : m = r) : Good m 0 0 := ⟨r, h, by simp⟩

/-- The quotient of two sums that carry the same factor, the lower one a positive real. -/
theorem div_common {r L : ℝ} (hL : 0 < L) (W : EReal) :
    Ideal.div ((p2 (-r) : EReal) * W) ((p2 (-r) : EReal) * (L : EReal)) = (L⁻¹ : ℝ) * W := by
  have hp := p2_pos (-r)
  rw [← EReal.coe_mul]
  have h0 : ((p2 (-r) * L : ℝ) : EReal) ≠ 0 := by
    exact_mod_cast (mul_pos hp hL).ne'
  rw [Ideal.div, if_neg h0, ← EReal.coe_inv, mul_comm, ← mul_assoc, ← EReal.coe_mul]
  congr 2
  field_simp

/-- The weighted mean the two programs compute: the scores `σ` are exponents of two. -/
def mean {ι : Type} [Fintype ι] (σ : ι → ℝ) (v : ι → EReal) : EReal :=
  (((∑ k, p2 (σ k))⁻¹ : ℝ) : EReal) * ∑ k, (p2 (σ k) : EReal) * v k

/-- A finite sum of reals, cast. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The softmax of all scores against the values is that mean: `M` is any real, and `2^σ = e^s`. -/
theorem softmax_mean {ι : Type} [Fintype ι] [Nonempty ι] (s σ : ι → ℝ) (hs : ∀ k, Real.exp (s k) = p2 (σ k)) (M : ℝ)
    (v : ι → EReal) :
    ∑ k, Ideal.div (Ideal.exp ((s k : EReal) - (M : EReal))) (∑ j, Ideal.exp ((s j : EReal) - (M : EReal))) * v k
      = mean σ v := by
  have he : ∀ k, Ideal.exp ((s k : EReal) - (M : EReal)) = ((Real.exp (-M) * p2 (σ k) : ℝ) : EReal) := fun k => by
    rw [← EReal.coe_sub, Ideal.exp_coe, ← hs, ← Real.exp_add]; congr 2; ring
  have hL : 0 < ∑ j, p2 (σ j) := Finset.sum_pos (fun j _ => p2_pos _) Finset.univ_nonempty
  simp only [he]
  rw [← coe_sum, ← Finset.mul_sum, mean, real_mul_sum _ _ (inv_nonneg.mpr hL.le)]
  refine Finset.sum_congr rfl fun k _ => ?_
  have h0 : ((Real.exp (-M) * ∑ j, p2 (σ j) : ℝ) : EReal) ≠ 0 := by
    exact_mod_cast (mul_pos (Real.exp_pos _) hL).ne'
  rw [Ideal.div, if_neg h0, ← EReal.coe_inv, ← EReal.coe_mul, ← mul_assoc, ← EReal.coe_mul]
  congr 2
  have := (Real.exp_pos (-M)).ne'
  field_simp

/-- The greatest of finitely many reals, folded from any start that is not `⊤`, is a real once there is one element. -/
theorem fold_max_real {n : ℕ} (hn : 0 < n) (f : Fin n → ℝ) (b : EReal) (hb : b ≠ ⊤) :
    ∃ M : ℝ, Finset.fold max b (fun j => (f j : EReal)) Finset.univ = M := by
  set X := Finset.fold max b (fun j => (f j : EReal)) Finset.univ with hX
  have hlo : ((f ⟨0, hn⟩ : ℝ) : EReal) ≤ X := by
    rw [hX, Finset.le_fold_max]; exact Or.inr ⟨_, Finset.mem_univ _, le_rfl⟩
  have hhi : X < ⊤ := by
    rw [hX, Finset.fold_max_lt]; exact ⟨lt_top_iff_ne_top.mpr hb, fun j _ => EReal.coe_lt_top _⟩
  refine ⟨X.toReal, (EReal.coe_toReal hhi.ne ?_).symm⟩
  exact ne_bot_of_gt (lt_of_lt_of_le (EReal.bot_lt_coe _) hlo)

/-- The larger of two reals, cast. -/
theorem max_real {x y : EReal} {a b : ℝ} (hx : x = a) (hy : y = b) : ∃ M : ℝ, max x y = M := by
  subst hx; subst hy
  rcases le_total a b with h | h
  · exact ⟨b, max_eq_right (EReal.coe_le_coe_iff.mpr h)⟩
  · exact ⟨a, max_eq_left (EReal.coe_le_coe_iff.mpr h)⟩

end Cert.Attend
end
-- ==== Proof.Model.lean ====
/- One row of the attention as a function of its query, the keys and the values: the mean of the values weighted by
   `2^(score / (√96 · log 2))`, which is `exp (score / √96)`. Both programs are brought to this form. -/
module

public import proofs.«01_k».proof.Proof.Attend

@[expose] public section

noncomputable section

namespace Cert.Attend

open Idealize.ShloMosaic

/-- The sequence's rows followed by the extra ones. -/
def cat {α : Type} (k : Fin 8192 → α) (kc : Fin 256 → α) (x : ℕ) : α :=
  if h : x < 8192 then k ⟨x, h⟩ else kc ⟨(x - 8192) % 256, Nat.mod_lt _ (by omega)⟩

theorem cat_lo {α : Type} (k : Fin 8192 → α) (kc : Fin 256 → α) (x : Fin 8192) : cat k kc x = k x := dif_pos x.isLt
theorem cat_hi {α : Type} (k : Fin 8192 → α) (kc : Fin 256 → α) (x : Fin 256) : cat k kc (8192 + x) = kc x := by
  unfold cat
  rw [dif_neg (by omega)]
  exact congrArg kc (Fin.ext (by show (8192 + (x : ℕ) - 8192) % 256 = x; omega))

/-- The scale of the scores in base two. -/
def base2 : ℝ := (Real.sqrt 96 * Real.log 2)⁻¹

/-- The inner product of a query and a key. -/
def qkDot (q k : Fin 96 → EReal) : ℝ := ∑ d, (q d).toReal * (k d).toReal

/-- A row of the attention at one lane of the values. -/
def att (q : Fin 96 → EReal) (k : Fin 8192 → Fin 96 → EReal) (v : Fin 8192 → EReal) (kc : Fin 256 → Fin 96 → EReal)
    (vc : Fin 256 → EReal) : EReal :=
  mean (fun x : Fin 8448 => qkDot q (cat k kc x) * base2) (fun x => cat v vc x)

/-- `e^(s/√96)` is `2^(s/(√96 log 2))`. -/
theorem exp_eq_p2 (s : ℝ) : Real.exp (s * (Real.sqrt 96)⁻¹) = p2 (s * base2) := by
  have hl : Real.log 2 ≠ 0 := (Real.log_pos (by norm_num)).ne'
  unfold p2 base2
  show Real.exp (s * (Real.sqrt 96)⁻¹) = (2 : ℝ) ^ (s * (Real.sqrt 96 * Real.log 2)⁻¹)
  rw [Real.rpow_def_of_pos (by norm_num), mul_inv]
  congr 1
  field_simp

theorem ofBits_96 : Ideal.ofBits .f32 0x42C00000#32 = ((96 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num

/-- The host's base-two scale is the real `base2`. -/
theorem scale2_eq : Ideal.div 1 (Ideal.sqrt (Ideal.ofBits .f32 0x42C00000#32) * Ideal.log (Ideal.ofBits .f32 0x40000000#32))
    = ((base2 : ℝ) : EReal) := by
  have h1 : (0 : ℝ) < Real.sqrt 96 := Real.sqrt_pos.mpr (by norm_num)
  have h2 : (0 : ℝ) < Real.log 2 := Real.log_pos (by norm_num)
  rw [ofBits_96, ofBits_2, Ideal.sqrt_coe, Ideal.log_coe, if_neg (by norm_num), if_neg (by norm_num), ← EReal.coe_mul,
    Ideal.div_coe (mul_pos h1 h2).ne', one_mul, one_div]
  rfl

/-- The reference's scale is the real `1/√96`. -/
theorem scale_eq : Ideal.div 1 (Ideal.sqrt (Ideal.ofBits .f32 0x42C00000#32)) = (((Real.sqrt 96)⁻¹ : ℝ) : EReal) := by
  have h1 : (0 : ℝ) < Real.sqrt 96 := Real.sqrt_pos.mpr (by norm_num)
  rw [ofBits_96, Ideal.sqrt_coe, if_neg (by norm_num), Ideal.div_coe h1.ne', one_mul, one_div]

/-- A real number, as an extended real. -/
def Fin' (x : EReal) : Prop := x ≠ ⊤ ∧ x ≠ ⊥

theorem Fin'.coe {x : EReal} (h : Fin' x) : ((x.toReal : ℝ) : EReal) = x := EReal.coe_toReal h.1 h.2

/-- A sum of products of reals, the left factors scaled. -/
theorem scaled_sum {n : ℕ} (q k : Fin n → EReal) (c : ℝ) (hq : ∀ d, Fin' (q d)) (hk : ∀ d, Fin' (k d)) :
    ∑ d, q d * (c : EReal) * k d = (((∑ d, (q d).toReal * (k d).toReal) * c : ℝ) : EReal) := by
  rw [Finset.sum_mul, coe_sum]
  refine Finset.sum_congr rfl fun d _ => ?_
  conv_lhs => rw [← (hq d).coe, ← (hk d).coe]
  rw [← EReal.coe_mul, ← EReal.coe_mul]
  congr 1; ring

/-- The same over 128 lanes, the lanes from 96 on zero. -/
theorem padded_sum (q k : Fin 96 → EReal) (a b : Fin 128 → EReal) (c : ℝ) (hq : ∀ d, Fin' (q d)) (hk : ∀ d, Fin' (k d))
    (ha : ∀ x : Fin 128, a x = if h : (x : ℕ) < 96 then q ⟨x, h⟩ * (c : EReal) else 0)
    (hb : ∀ x : Fin 128, b x = if h : (x : ℕ) < 96 then k ⟨x, h⟩ else 0) :
    ∑ x, a x * b x = ((qkDot q k * c : ℝ) : EReal) := by
  rw [qkDot, ← scaled_sum q k c hq hk, show (∑ x : Fin 128, a x * b x) = ∑ x : Fin (96 + 32), a x * b x from rfl,
    Fin.sum_univ_add]
  have hz : ∑ x : Fin 32, a (Fin.natAdd 96 x) * b (Fin.natAdd 96 x) = 0 := by
    refine Finset.sum_eq_zero fun x _ => ?_
    rw [ha, dif_neg (by simp), zero_mul]
  rw [hz, add_zero]
  refine Finset.sum_congr rfl fun x _ => ?_
  rw [ha, hb, dif_pos (by simp), dif_pos (by simp)]
  rfl

end Cert.Attend
end
-- ==== Proof.Vocab.lean ====
/- The attention kernel's arithmetic in named pieces: one block of scores, one step of the running maximum, one
   step of the running weighted sum, and the last division. -/
module

public import proofs.«01_k».proof.Proof.Gen.KernelIdeal.Value
public import Idealize.ShloMosaic.Lib.Pipeline.ValueKit

@[expose] public section

set_option maxRecDepth 16384

noncomputable section

namespace Cert.KernelIdeal.Val

open Cert.KernelIdeal Cert.KernelIdeal.Gen Idealize.ShloMosaic Idealize.ShloMosaic.TcCoe Idealize.SL.Sem

/-- Rows `1024·(n mod 8) …` and lanes `128·(h mod 2) …` of a key or value block: chunk `n` of head `h`. -/
def chunk (x : Vec Ideal S1x8192x256 .bf16) (h n : ℕ) : Vec Ideal S1x1024x128 .bf16 :=
  View.ld x (Rect.unit ![0, 1024 * (n % 8), 128 * (h % 2)] ![1, 1024, 128] (by
    intro a; have h1 := Nat.mod_lt n (show 0 < 8 by omega); have h2 := Nat.mod_lt h (show 0 < 2 by omega)
    fin_cases a <;> simp [S1x8192x256] <;> omega))

/-- The queries of head `h`. -/
def qhead (x : Vec Ideal S1x1024x256 .bf16) (h : ℕ) : Vec Ideal S1x1024x128 .bf16 :=
  View.ld x (Rect.unit ![0, 0, 128 * (h % 2)] ![1, 1024, 128] (by
    intro a; have h2 := Nat.mod_lt h (show 0 < 2 by omega)
    fin_cases a <;> simp [S1x1024x256] <;> omega))

/-- The extra keys or values of head `h`. -/
def chead (x : Vec Ideal S1x256x256 .bf16) (h : ℕ) : Vec Ideal S1x256x128 .bf16 :=
  View.ld x (Rect.unit ![0, 0, 128 * (h % 2)] ![1, 256, 128] (by
    intro a; have h2 := Nat.mod_lt h (show 0 < 2 by omega)
    fin_cases a <;> simp [S1x256x256] <;> omega))

/-- A block of scores, as it is stored to its slot and loaded again. -/
def SC (q k : Vec Ideal S1x1024x128 .bf16) : FVec Ideal S1024x1024 .f32 :=
  shapeCast S1024x1024 (shapeCast S1x1x1024x1024 (matmul (F := Ideal) dot_S1024x128_S1024x128_S1024x1024_1_1_0_0_n_n none
    (shapeCast S1024x128 q shapeCasts_S1x1024x128_S1024x128 : FVec Ideal S1024x128 .bf16)
    (shapeCast S1024x128 k shapeCasts_S1x1024x128_S1024x128 : FVec Ideal S1024x128 .bf16)
    (constant S1024x1024 .f32 0x00000000#32)) shapeCasts_S1024x1024_S1x1x1024x1024 : FVec Ideal S1x1x1024x1024 .f32)
    shapeCasts_S1x1x1024x1024_S1024x1024

/-- The scores against the extra keys, as they are stored and loaded again. -/
def SCc (q : Vec Ideal S1x1024x128 .bf16) (k : Vec Ideal S1x256x128 .bf16) : FVec Ideal S1024x256 .f32 :=
  shapeCast S1024x256 (shapeCast S1x1024x256 (matmul (F := Ideal) dot_S1024x128_S256x128_S1024x256_1_1_0_0_n_n none
    (shapeCast S1024x128 q shapeCasts_S1x1024x128_S1024x128 : FVec Ideal S1024x128 .bf16)
    (shapeCast S256x128 k shapeCasts_S1x256x128_S256x128 : FVec Ideal S256x128 .bf16)
    (constant S1024x256 .f32 0x00000000#32)) shapeCasts_S1024x256_S1x1024x256 : FVec Ideal S1x1024x256 .f32)
    shapeCasts_S1x1024x256_S1024x256

/-- One step of the running maximum. -/
def MX (m : FVec Ideal S1024x1 .f32) (s : FVec Ideal S1024x1024 .f32) : FVec Ideal S1024x1 .f32 :=
  maximumf m (shapeCast S1024x1 (multiReduction .maximumf [1] S1024 s 0xFF800000#32 reduces_S1024x1024_S1024 (.inl rfl) rfl)
    shapeCasts_S1024_S1024x1)

/-- One step of the running weighted sum, from the maximum before (`m`) and after (`m'`). -/
def AC (m m' : FVec Ideal S1024x1 .f32) (a : FVec Ideal S1024x128 .f32) (s : FVec Ideal S1024x1024 .f32)
    (v : Vec Ideal S1x1024x128 .bf16) : FVec Ideal S1024x128 .f32 :=
  addf (mulf (broadcastTo S1024x128 (exp2 (subf m m')) broadcasts_S1024x1_S1024x128) a)
    (matmul (F := Ideal) dot_S1024x1024_S1024x128_S1024x128_1_0_0_1_n_n none
      (truncf .bf16 (exp2 (subf s (broadcastTo S1024x1024 m' broadcasts_S1024x1_S1024x1024))) bitsLt_bf16_f32)
      (shapeCast S1024x128 v shapeCasts_S1x1024x128_S1024x128 : FVec Ideal S1024x128 .bf16)
      (constant S1024x128 .f32 0x00000000#32))

/-- The maximum's step over the extra keys. -/
def MXc (m : FVec Ideal S1024x1 .f32) (s : FVec Ideal S1024x256 .f32) : FVec Ideal S1024x1 .f32 :=
  maximumf m (shapeCast S1024x1 (multiReduction .maximumf [1] S1024 s 0xFF800000#32 reduces_S1024x256_S1024 (.inl rfl) rfl)
    shapeCasts_S1024_S1024x1)

/-- The weighted sum's step over the extra keys. -/
def ACc (m m' : FVec Ideal S1024x1 .f32) (a : FVec Ideal S1024x128 .f32) (s : FVec Ideal S1024x256 .f32)
    (v : Vec Ideal S1x256x128 .bf16) : FVec Ideal S1024x128 .f32 :=
  addf (mulf (broadcastTo S1024x128 (exp2 (subf m m')) broadcasts_S1024x1_S1024x128) a)
    (matmul (F := Ideal) dot_S1024x256_S256x128_S1024x128_1_0_0_1_n_n none
      (truncf .bf16 (exp2 (subf s (broadcastTo S1024x256 m' broadcasts_S1024x1_S1024x256))) bitsLt_bf16_f32)
      (shapeCast S256x128 v shapeCasts_S1x256x128_S256x128 : FVec Ideal S256x128 .bf16)
      (constant S1024x128 .f32 0x00000000#32))

/-- The division of the first 64 lanes by lane 64, in the output's shape. -/
def FIN (a : FVec Ideal S1024x128 .f32) : FVec Ideal S1x1024x64 .bf16 :=
  shapeCast S1x1024x64 (truncf .bf16 (divf (extractStridedSlice S1024x64 ![0, 0] a slices_S1024x128_o0_0_S1024x64)
    (broadcastTo S1024x64 (extractStridedSlice S1024x1 ![0, 64] a slices_S1024x128_o0_64_S1024x1) broadcasts_S1024x1_S1024x64))
    bitsLt_bf16_f32 : FVec Ideal S1024x64 .bf16) shapeCasts_S1024x64_S1x1024x64

/-- The running maximum after `n` chunks. -/
def stM (q : Vec Ideal S1x1024x128 .bf16) (k : ℕ → Vec Ideal S1x1024x128 .bf16) : ℕ → FVec Ideal S1024x1 .f32
  | 0 => broadcast S1024x1 (Scalar.ofBits .f32 0xF149F2CA#32)
  | n + 1 => MX (stM q k n) (SC q (k n))

/-- The running weighted sum after `n` chunks. -/
def stA (q : Vec Ideal S1x1024x128 .bf16) (k v : ℕ → Vec Ideal S1x1024x128 .bf16) : ℕ → FVec Ideal S1024x128 .f32
  | 0 => broadcast S1024x128 (Scalar.ofBits .f32 0x00000000#32)
  | n + 1 => AC (stM q k n) (stM q k (n + 1)) (stA q k v n) (SC q (k n)) (v n)

/-- What the kernel stores for one head: eight chunks of keys, then the extra keys, then the division. -/
def HEAD (q : Vec Ideal S1x1024x128 .bf16) (k v : ℕ → Vec Ideal S1x1024x128 .bf16) (kc vc : Vec Ideal S1x256x128 .bf16) :
    FVec Ideal S1x1024x64 .bf16 :=
  FIN (ACc (stM q k 8) (MXc (stM q k 8) (SCc q kc)) (stA q k v 8) (SCc q kc) vc)

end Cert.KernelIdeal.Val
end
-- ==== Proof.Host.lean ====
/- What the kernel's windows hold: the queries scaled and padded to 128 lanes per head, the keys padded, the values
   padded with a one in lane 64; read at one index of a grid point's blocks. -/
module

public import proofs.«01_k».proof.Proof.Vocab
public import Idealize.ShloMosaic.Lib.Pipeline.ValueKit

@[expose] public section

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ)

/-! ## The arguments -/

/-- The queries, keys, values, extra keys and extra values as the call is given them. -/
def Qa (c : Dev nD) : S4x8192x4x96.Idx → EReal := m (c, Proc.tc.devRef main_arg0)
def Ka (c : Dev nD) : S4x8192x4x96.Idx → EReal := m (c, Proc.tc.devRef main_arg1)
def Va (c : Dev nD) : S4x8192x4x64.Idx → EReal := m (c, Proc.tc.devRef main_arg2)
def Kca (c : Dev nD) : S4x256x4x96.Idx → EReal := m (c, Proc.tc.devRef main_arg3)
def Vca (c : Dev nD) : S4x256x4x64.Idx → EReal := m (c, Proc.tc.devRef main_arg4)

/-- The base-two scale of the scores, as the host computes it. -/
def scale2 : EReal :=
  Ideal.div 1 (Ideal.sqrt (Ideal.ofBits .f32 0x42C00000#32) * Ideal.log (Ideal.ofBits .f32 0x40000000#32))

/-! ## The prepared arrays -/

theorem host_q (c : Dev nD) (b : Fin 4) (n : Fin 8192) (l : Fin 512) :
    V m c main_v9 (ix3 b n l) = (if h : (l : ℕ) % 128 < 96 then
      Qa m c (ix4 b n ⟨l / 128, by omega⟩ ⟨l % 128, h⟩) * scale2 else 0 : EReal) := by
  entry_read
  pointwise [scale2, Qa]
theorem host_k (c : Dev nD) (b : Fin 4) (n : Fin 8192) (l : Fin 512) :
    V m c main_v13 (ix3 b n l) = (if h : (l : ℕ) % 128 < 96 then
      Ka m c (ix4 b n ⟨l / 128, by omega⟩ ⟨l % 128, h⟩) else 0 : EReal) := by
  entry_read
  pointwise [Ka]
theorem host_v (c : Dev nD) (b : Fin 4) (n : Fin 8192) (l : Fin 512) :
    V m c main_v19 (ix3 b n l) = (if _ : (l : ℕ) % 128 < 65 then (if h : (l : ℕ) % 128 < 64 then
      Va m c (ix4 b n ⟨l / 128, by omega⟩ ⟨l % 128, h⟩) else 1) else 0 : EReal) := by
  entry_read
  pointwise [Va]
theorem host_kc (c : Dev nD) (b : Fin 4) (n : Fin 256) (l : Fin 512) :
    V m c main_v23 (ix3 b n l) = (if h : (l : ℕ) % 128 < 96 then
      Kca m c (ix4 b n ⟨l / 128, by omega⟩ ⟨l % 128, h⟩) else 0 : EReal) := by
  entry_read
  pointwise [Kca]
theorem host_vc (c : Dev nD) (b : Fin 4) (n : Fin 256) (l : Fin 512) :
    V m c main_v29 (ix3 b n l) = (if _ : (l : ℕ) % 128 < 65 then (if h : (l : ℕ) % 128 < 64 then
      Vca m c (ix4 b n ⟨l / 128, by omega⟩ ⟨l % 128, h⟩) else 1) else 0 : EReal) := by
  entry_read
  pointwise [Vca]

/-! ## A grid point's blocks: point `t` is batch `t / 16`, head pair `t / 8 % 2`, query tile `t % 8` -/

theorem idx0 : ∀ t : Fin cfg0.N, win0_0.index t = ![t.val / 16, t.val % 8, t.val / 8 % 2] :=
  (by decide +kernel : ∀ t : Fin grid0.N, _)
theorem idx1 : ∀ t : Fin cfg0.N, win0_1.index t = ![t.val / 16, 0, t.val / 8 % 2] :=
  (by decide +kernel : ∀ t : Fin grid0.N, _)
theorem idx2 : ∀ t : Fin cfg0.N, win0_2.index t = ![t.val / 16, 0, t.val / 8 % 2] :=
  (by decide +kernel : ∀ t : Fin grid0.N, _)
theorem idx3 : ∀ t : Fin cfg0.N, win0_3.index t = ![t.val / 16, 0, t.val / 8 % 2] :=
  (by decide +kernel : ∀ t : Fin grid0.N, _)
theorem idx4 : ∀ t : Fin cfg0.N, win0_4.index t = ![t.val / 16, 0, t.val / 8 % 2] :=
  (by decide +kernel : ∀ t : Fin grid0.N, _)
theorem idx5 : ∀ t : Fin cfg0.N, win0_5.index t = ![t.val / 16, t.val % 8, t.val / 8 % 2] :=
  (by decide +kernel : ∀ t : Fin grid0.N, _)

theorem emb0 (t : Fin cfg0.N) (i : Fin 1024) (x : Fin 256) (b : Fin 4) (n : Fin 8192) (l : Fin 512)
    (hb : (b : ℕ) = t.val / 16) (hn : (n : ℕ) = t.val % 8 * 1024 + i) (hl : (l : ℕ) = t.val / 8 % 2 * 256 + x) :
    ((cfg0.win 0).blk t).view.emb (ix3 0 i x) = ix3 b n l := by
  blk_ext [idx0 t]
theorem emb1 (t : Fin cfg0.N) (i : Fin 8192) (x : Fin 256) (b : Fin 4) (l : Fin 512)
    (hb : (b : ℕ) = t.val / 16) (hl : (l : ℕ) = t.val / 8 % 2 * 256 + x) :
    ((cfg0.win 1).blk t).view.emb (ix3 0 i x) = ix3 b i l := by
  blk_ext [idx1 t]
theorem emb2 (t : Fin cfg0.N) (i : Fin 8192) (x : Fin 256) (b : Fin 4) (l : Fin 512)
    (hb : (b : ℕ) = t.val / 16) (hl : (l : ℕ) = t.val / 8 % 2 * 256 + x) :
    ((cfg0.win 2).blk t).view.emb (ix3 0 i x) = ix3 b i l := by
  blk_ext [idx2 t]
theorem emb3 (t : Fin cfg0.N) (i : Fin 256) (x : Fin 256) (b : Fin 4) (l : Fin 512)
    (hb : (b : ℕ) = t.val / 16) (hl : (l : ℕ) = t.val / 8 % 2 * 256 + x) :
    ((cfg0.win 3).blk t).view.emb (ix3 0 i x) = ix3 b i l := by
  blk_ext [idx3 t]
theorem emb4 (t : Fin cfg0.N) (i : Fin 256) (x : Fin 256) (b : Fin 4) (l : Fin 512)
    (hb : (b : ℕ) = t.val / 16) (hl : (l : ℕ) = t.val / 8 % 2 * 256 + x) :
    ((cfg0.win 4).blk t).view.emb (ix3 0 i x) = ix3 b i l := by
  blk_ext [idx4 t]

section
variable (c : Dev nD) (t : Fin cfg0.N) (f : (b : Ref sig .tc) → Buf (Elt Ideal) ((c : Thread nD τ).loc b))
theorem rd0 (y : S1x1024x256.Idx) : ((cfg0.win 0).blk t).view.read (Elt Ideal) (f (Pipeline.arrRef spec0 0)) y
    = f main_v9 (((cfg0.win 0).blk t).view.emb y) := rfl
theorem rd1 (y : S1x8192x256.Idx) : ((cfg0.win 1).blk t).view.read (Elt Ideal) (f (Pipeline.arrRef spec0 1)) y
    = f main_v13 (((cfg0.win 1).blk t).view.emb y) := rfl
theorem rd2 (y : S1x8192x256.Idx) : ((cfg0.win 2).blk t).view.read (Elt Ideal) (f (Pipeline.arrRef spec0 2)) y
    = f main_v19 (((cfg0.win 2).blk t).view.emb y) := rfl
theorem rd3 (y : S1x256x256.Idx) : ((cfg0.win 3).blk t).view.read (Elt Ideal) (f (Pipeline.arrRef spec0 3)) y
    = f main_v23 (((cfg0.win 3).blk t).view.emb y) := rfl
theorem rd4 (y : S1x256x256.Idx) : ((cfg0.win 4).blk t).view.read (Elt Ideal) (f (Pipeline.arrRef spec0 4)) y
    = f main_v29 (((cfg0.win 4).blk t).view.emb y) := rfl
end

theorem blk0 (c : Dev nD) (t : Fin cfg0.N) (y : S1x1024x256.Idx) :
    iblk m c 0 t y = V m c main_v9 (((cfg0.win 0).blk t).view.emb y) := by
  unfold iblk
  exact rd0 c t (fun b => V m c b) y
theorem blk1 (c : Dev nD) (t : Fin cfg0.N) (y : S1x8192x256.Idx) :
    iblk m c 1 t y = V m c main_v13 (((cfg0.win 1).blk t).view.emb y) := by
  unfold iblk
  exact rd1 c t (fun b => V m c b) y
theorem blk2 (c : Dev nD) (t : Fin cfg0.N) (y : S1x8192x256.Idx) :
    iblk m c 2 t y = V m c main_v19 (((cfg0.win 2).blk t).view.emb y) := by
  unfold iblk
  exact rd2 c t (fun b => V m c b) y
theorem blk3 (c : Dev nD) (t : Fin cfg0.N) (y : S1x256x256.Idx) :
    iblk m c 3 t y = V m c main_v23 (((cfg0.win 3).blk t).view.emb y) := by
  unfold iblk
  exact rd3 c t (fun b => V m c b) y
theorem blk4 (c : Dev nD) (t : Fin cfg0.N) (y : S1x256x256.Idx) :
    iblk m c 4 t y = V m c main_v29 (((cfg0.win 4).blk t).view.emb y) := by
  unfold iblk
  exact rd4 c t (fun b => V m c b) y

/-! ## One head's part of a block -/

theorem qhead_at (X : Vec Ideal S1x1024x256 .bf16) (h : ℕ) (i : Fin 1024) (x : Fin 128) :
    qhead X h (ix3 0 i x) = X (ix3 0 i ⟨128 * (h % 2) + x, by omega⟩) := by
  pointwise [qhead]
theorem chunk_at (X : Vec Ideal S1x8192x256 .bf16) (h n : ℕ) (i : Fin 1024) (x : Fin 128) :
    chunk X h n (ix3 0 i x) = X (ix3 0 ⟨1024 * (n % 8) + i, by omega⟩ ⟨128 * (h % 2) + x, by omega⟩) := by
  pointwise [chunk]
theorem chead_at (X : Vec Ideal S1x256x256 .bf16) (h : ℕ) (i : Fin 256) (x : Fin 128) :
    chead X h (ix3 0 i x) = X (ix3 0 i ⟨128 * (h % 2) + x, by omega⟩) := by
  pointwise [chead]

/-- An index of the padded lanes: lane `x` of head `h`. -/
theorem lane {n k : ℕ} (l : ℕ) (h : Fin n) (x : ℕ) (hx : x < 128)
    (hl : l = 128 * h + x) (h4 : l / 128 < n) (g : Fin n → Fin k → EReal) (z : EReal) :
    (if hh : l % 128 < k then g ⟨l / 128, h4⟩ ⟨l % 128, hh⟩ else z) = if hh : x < k then g h ⟨x, hh⟩ else z := by
  subst hl
  have e1 : (⟨(128 * (h : ℕ) + x) / 128, h4⟩ : Fin n) = h := Fin.ext (by show (128 * (h : ℕ) + x) / 128 = h; omega)
  rw [e1]
  have e2 : (128 * (h : ℕ) + x) % 128 = x := by omega
  simp only [e2]

variable (c : Dev nD) (t : Fin cfg0.N) (hh : ℕ) (b h : Fin 4)

/-- A query of head `h` in a block. -/
theorem q_at (h2 : hh < 2) (hb : (b : ℕ) = t.val / 16) (hd : (h : ℕ) = t.val / 8 % 2 * 2 + hh)
    (i : Fin 1024) (n : Fin 8192) (hn : (n : ℕ) = t.val % 8 * 1024 + i) (x : Fin 128) :
    qhead (iblk m c 0 t) hh (ix3 0 i x) = (if hx : (x : ℕ) < 96 then Qa m c (ix4 b n h ⟨x, hx⟩) * scale2 else 0 : EReal) := by
  refine (qhead_at _ _ _ _).trans ((blk0 m c t _).trans ?_)
  rw [emb0 t i _ b n ⟨128 * h + x, by omega⟩ hb hn (by show 128 * (h : ℕ) + x = _ + (128 * (hh % 2) + (x : ℕ)); omega), host_q]
  exact lane _ h x x.isLt rfl (by omega) (fun h' d => Qa m c (ix4 b n h' d) * scale2) 0

/-- A key of head `h` in a block. -/
theorem k_at (h2 : hh < 2) (hb : (b : ℕ) = t.val / 16) (hd : (h : ℕ) = t.val / 8 % 2 * 2 + hh)
    (n : ℕ) (hn : n < 8) (j : Fin 1024) (x : Fin 128) :
    chunk (iblk m c 1 t) hh n (ix3 0 j x)
      = (if hx : (x : ℕ) < 96 then Ka m c (ix4 b ⟨1024 * n + j, by omega⟩ h ⟨x, hx⟩) else 0 : EReal) := by
  refine (chunk_at _ _ _ _ _).trans ((blk1 m c t _).trans ?_)
  rw [emb1 t _ _ b ⟨128 * h + x, by omega⟩ hb (by show 128 * (h : ℕ) + x = _ + (128 * (hh % 2) + (x : ℕ)); omega), host_k]
  have e : (⟨1024 * (n % 8) + j, by omega⟩ : Fin 8192) = ⟨1024 * n + j, by omega⟩ := Fin.ext (by show 1024 * (n % 8) + (j : ℕ) = 1024 * n + j; omega)
  rw [e]
  exact lane _ h x x.isLt rfl (by omega) (fun h' d => Ka m c (ix4 b _ h' d)) 0

/-- An extra key of head `h` in a block. -/
theorem kc_at (h2 : hh < 2) (hb : (b : ℕ) = t.val / 16) (hd : (h : ℕ) = t.val / 8 % 2 * 2 + hh)
    (j : Fin 256) (x : Fin 128) :
    chead (iblk m c 3 t) hh (ix3 0 j x)
      = (if hx : (x : ℕ) < 96 then Kca m c (ix4 b j h ⟨x, hx⟩) else 0 : EReal) := by
  refine (chead_at _ _ _ _).trans ((blk3 m c t _).trans ?_)
  rw [emb3 t _ _ b ⟨128 * h + x, by omega⟩ hb (by show 128 * (h : ℕ) + x = _ + (128 * (hh % 2) + (x : ℕ)); omega), host_kc]
  exact lane _ h x x.isLt rfl (by omega) (fun h' d => Kca m c (ix4 b _ h' d)) 0

/-- A value of head `h` in a block: a one in lane 64. -/
theorem v_at (h2 : hh < 2) (hb : (b : ℕ) = t.val / 16) (hd : (h : ℕ) = t.val / 8 % 2 * 2 + hh)
    (n : ℕ) (hn : n < 8) (j : Fin 1024) (x : Fin 128) (hx : (x : ℕ) < 65) :
    chunk (iblk m c 2 t) hh n (ix3 0 j x)
      = (if hx : (x : ℕ) < 64 then Va m c (ix4 b ⟨1024 * n + j, by omega⟩ h ⟨x, hx⟩) else 1 : EReal) := by
  refine (chunk_at _ _ _ _ _).trans ((blk2 m c t _).trans ?_)
  rw [emb2 t _ _ b ⟨128 * h + x, by omega⟩ hb (by show 128 * (h : ℕ) + x = _ + (128 * (hh % 2) + (x : ℕ)); omega), host_v]
  have e : (⟨1024 * (n % 8) + j, by omega⟩ : Fin 8192) = ⟨1024 * n + j, by omega⟩ := Fin.ext (by show 1024 * (n % 8) + (j : ℕ) = 1024 * n + j; omega)
  rw [e, dif_pos (by show (128 * (h : ℕ) + x) % 128 < 65; omega)]
  exact lane _ h x x.isLt rfl (by omega) (fun h' d => Va m c (ix4 b _ h' d)) 1

/-- An extra value of head `h` in a block: a one in lane 64. -/
theorem vc_at (h2 : hh < 2) (hb : (b : ℕ) = t.val / 16) (hd : (h : ℕ) = t.val / 8 % 2 * 2 + hh)
    (j : Fin 256) (x : Fin 128) (hx : (x : ℕ) < 65) :
    chead (iblk m c 4 t) hh (ix3 0 j x)
      = (if hx : (x : ℕ) < 64 then Vca m c (ix4 b j h ⟨x, hx⟩) else 1 : EReal) := by
  refine (chead_at _ _ _ _).trans ((blk4 m c t _).trans ?_)
  rw [emb4 t _ _ b ⟨128 * h + x, by omega⟩ hb (by show 128 * (h : ℕ) + x = _ + (128 * (hh % 2) + (x : ℕ)); omega), host_vc]
  rw [dif_pos (by show (128 * (h : ℕ) + x) % 128 < 65; omega)]
  exact lane _ h x x.isLt rfl (by omega) (fun h' d => Vca m c (ix4 b _ h' d)) 1

end Cert.KernelIdeal.Val
end
-- ==== Proof.Body.lean ====
/- The body of the attention kernel at one grid point: its two stores, each one head run through `HEAD`. -/
module

public import proofs.«01_k».proof.Proof.Vocab
public import Idealize.ShloMosaic.Lib.Pipeline.ReadBack

@[expose] public section

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ)

/-- What a grid point leaves in the output block: each head's result in its own 64 lanes. -/
theorem outs_eq (c : Dev nD) (t : Fin cfg0.N) : outsAt0 m c t = View.canon [
    ⟨Rect.unit ![0, 0, 64] ![1, 1024, 64] inb_S1x1024x128_S1x1024x64_0_0_64,
      HEAD (qhead (iblk m c 0 t) 1) (chunk (iblk m c 1 t) 1) (chunk (iblk m c 2 t) 1) (chead (iblk m c 3 t) 1) (chead (iblk m c 4 t) 1)⟩,
    ⟨Rect.unit ![0, 0, 0] ![1, 1024, 64] inb_S1x1024x128_S1x1024x64_0_0_0,
      HEAD (qhead (iblk m c 0 t) 0) (chunk (iblk m c 1 t) 0) (chunk (iblk m c 2 t) 0) (chead (iblk m c 3 t) 0) (chead (iblk m c 4 t) 0)⟩] := by
  unfold outsAt0
  frame_out
  simp (config := {decide := true}) only [↓View.readCov_skip, ↓View.readCov_cons_toLoadRect]
  rfl
end Cert.KernelIdeal.Val
end
-- ==== Proof.Rows.lean ====
/- One row of one head: the nine steps of the kernel's online softmax end at the weighted mean of the values. -/
module

public import proofs.«01_k».proof.Proof.Vocab
public import proofs.«01_k».proof.Proof.Attend

@[expose] public section

set_option maxRecDepth 16384

noncomputable section

namespace Cert.KernelIdeal.Val

open Cert.KernelIdeal Cert.KernelIdeal.Gen Idealize.ShloMosaic Idealize.ShloMosaic.TcCoe Idealize.SL.Sem
open Cert.Attend

/-- A score is the sum over the 128 padded lanes. -/
theorem SC_at (q k : Vec Ideal S1x1024x128 .bf16) (i j : Fin 1024) :
    SC q k (ix2 i j) = ∑ x : Fin 128, q (ix3 0 i x) * k (ix3 0 j x) := by
  pointwise [SC]

/-- The same for a score against an extra key. -/
theorem SCc_at (q : Vec Ideal S1x1024x128 .bf16) (k : Vec Ideal S1x256x128 .bf16) (i : Fin 1024) (j : Fin 256) :
    SCc q k (ix2 i j) = ∑ x : Fin 128, q (ix3 0 i x) * k (ix3 0 j x) := by
  pointwise [SCc]

/-- The new maximum of a row. -/
theorem MX_at (m : FVec Ideal S1024x1 .f32) (s : FVec Ideal S1024x1024 .f32) (i : Fin 1024) :
    MX m s (ix2 i 0) = max (m (ix2 i 0)) (Finset.fold max (Ideal.ofBits .f32 0xFF800000#32) (fun x => s (ix2 i x)) Finset.univ) := by
  pointwise [MX]

/-- The new maximum of a row after the extra keys. -/
theorem MXc_at (m : FVec Ideal S1024x1 .f32) (s : FVec Ideal S1024x256 .f32) (i : Fin 1024) :
    MXc m s (ix2 i 0) = max (m (ix2 i 0)) (Finset.fold max (Ideal.ofBits .f32 0xFF800000#32) (fun x => s (ix2 i x)) Finset.univ) := by
  pointwise [MXc]

/-- The new weighted sum of a row, in one lane. -/
theorem AC_at (m m' : FVec Ideal S1024x1 .f32) (a : FVec Ideal S1024x128 .f32) (s : FVec Ideal S1024x1024 .f32)
    (v : Vec Ideal S1x1024x128 .bf16) (i : Fin 1024) (d : Fin 128) :
    AC m m' a s v (ix2 i d) = Ideal.exp2 (m (ix2 i 0) - m' (ix2 i 0)) * a (ix2 i d)
      + ∑ x : Fin 1024, Ideal.exp2 (s (ix2 i x) - m' (ix2 i 0)) * v (ix3 0 x d) := by
  pointwise [AC]
  try rfl

/-- The new weighted sum of a row after the extra keys, in one lane. -/
theorem ACc_at (m m' : FVec Ideal S1024x1 .f32) (a : FVec Ideal S1024x128 .f32) (s : FVec Ideal S1024x256 .f32)
    (v : Vec Ideal S1x256x128 .bf16) (i : Fin 1024) (d : Fin 128) :
    ACc m m' a s v (ix2 i d) = Ideal.exp2 (m (ix2 i 0) - m' (ix2 i 0)) * a (ix2 i d)
      + ∑ x : Fin 256, Ideal.exp2 (s (ix2 i x) - m' (ix2 i 0)) * v (ix3 0 x d) := by
  pointwise [ACc]
  try rfl

/-- The result is the quotient of a lane by lane 64. -/
theorem FIN_at (a : FVec Ideal S1024x128 .f32) (i : Fin 1024) (d : Fin 64) :
    FIN a (ix3 0 i d) = Ideal.div (a (ix2 i ⟨d, by omega⟩)) (a (ix2 i 64)) := by
  pointwise [FIN]

/-- A format's pattern that denotes a real. -/
theorem start_real : ∃ r : ℝ, Ideal.ofBits .f32 0xF149F2CA#32 = r := by
  simp only [Ideal.ofBits, Ideal.ieee]
  norm_num
  exact ⟨_, rfl⟩

/-- The pattern of minus infinity is not plus infinity. -/
theorem ninf_ne_top : Ideal.ofBits .f32 0xFF800000#32 ≠ (⊤ : EReal) := by
  simp [Ideal.ofBits, Ideal.ieee]

section row

variable (q : Vec Ideal S1x1024x128 .bf16) (k v : ℕ → Vec Ideal S1x1024x128 .bf16) (kc vc : Vec Ideal S1x256x128 .bf16)
  (i : Fin 1024) (S : ℕ → ℝ) (W : ℕ → EReal) (d : Fin 128)

/-- After `n` chunks a row's state is good for the keys read so far. -/
theorem chunks_good (hS : ∀ n j, n < 8 → SC q (k n) (ix2 i j) = (S (1024 * n + (j : ℕ)) : ℝ))
    (hW : ∀ n (j : Fin 1024), n < 8 → v n (ix3 0 j d) = W (1024 * n + (j : ℕ))) :
    ∀ n, n ≤ 8 → Good (stM q k n (ix2 i 0)) (stA q k v n (ix2 i d)) (∑ x ∈ Finset.range (1024 * n), (p2 (S x) : EReal) * W x)
  | 0, _ => by
    obtain ⟨r, hr⟩ := start_real
    have h0 : stA q k v 0 (ix2 i d) = 0 := by pointwise [stA]
    rw [h0]
    exact Good.init (r := r) hr
  | n + 1, hn => by
    have ih := chunks_good hS hW n (by omega)
    obtain ⟨r, hr, -⟩ := id ih
    obtain ⟨M, hM⟩ := fold_max_real (n := 1024) (by omega) (fun j => S (1024 * n + (j : ℕ))) _ ninf_ne_top
    obtain ⟨r', hr'⟩ := max_real hr hM
    have hm : stM q k (n + 1) (ix2 i 0) = (r' : EReal) := by
      show MX _ _ _ = _
      rw [MX_at]
      simp only [hS n _ (by omega)]
      exact hr'
    have ha : stA q k v (n + 1) (ix2 i d) = _ := AC_at (stM q k n) (stM q k (n + 1)) (stA q k v n) (SC q (k n)) (v n) i d
    rw [ha, show 1024 * (n + 1) = 1024 * n + 1024 from rfl, Finset.sum_range_add, Finset.sum_range (n := 1024)]
    simp only [hS n _ (by omega), hW n _ (by omega)]
    exact ih.step hm (fun j : Fin 1024 => S (1024 * n + (j : ℕ))) (fun j => W (1024 * n + (j : ℕ)))

/-- After the extra keys too. -/
theorem all_good (hS : ∀ n j, n < 8 → SC q (k n) (ix2 i j) = (S (1024 * n + (j : ℕ)) : ℝ))
    (hSc : ∀ j, SCc q kc (ix2 i j) = (S (8192 + (j : ℕ)) : ℝ))
    (hW : ∀ n (j : Fin 1024), n < 8 → v n (ix3 0 j d) = W (1024 * n + (j : ℕ)))
    (hWc : ∀ j : Fin 256, vc (ix3 0 j d) = W (8192 + (j : ℕ))) :
    ∃ m, Good m (ACc (stM q k 8) (MXc (stM q k 8) (SCc q kc)) (stA q k v 8) (SCc q kc) vc (ix2 i d))
        (∑ x : Fin 8448, (p2 (S x) : EReal) * W x) ∧ m = MXc (stM q k 8) (SCc q kc) (ix2 i 0) := by
  have ih := chunks_good q k v i S W d hS hW 8 le_rfl
  obtain ⟨r, hr, -⟩ := id ih
  obtain ⟨M, hM⟩ := fold_max_real (n := 256) (by omega) (fun j => S (8192 + (j : ℕ))) _ ninf_ne_top
  obtain ⟨r', hr'⟩ := max_real hr hM
  have hm : MXc (stM q k 8) (SCc q kc) (ix2 i 0) = (r' : EReal) := by
    rw [MXc_at]
    simp only [hSc]
    exact hr'
  refine ⟨_, ?_, rfl⟩
  rw [ACc_at, ← Finset.sum_range (n := 8448) (fun x => (p2 (S x) : EReal) * W x), show 8448 = 8192 + 256 from rfl,
    Finset.sum_range_add, Finset.sum_range (n := 256)]
  simp only [hSc, hWc]
  exact ih.step hm (fun j : Fin 256 => S (8192 + (j : ℕ))) (fun j => W (8192 + (j : ℕ)))

end row

/-- ONE HEAD, ONE ROW, ONE LANE: with real scores `S` and a one in lane 64 of every value row, the kernel's result is
    the mean of the values `W` weighted by `2^S`. -/
theorem HEAD_at (q : Vec Ideal S1x1024x128 .bf16) (k v : ℕ → Vec Ideal S1x1024x128 .bf16) (kc vc : Vec Ideal S1x256x128 .bf16)
    (i : Fin 1024) (d : Fin 64) (S : ℕ → ℝ) (W : ℕ → EReal)
    (hS : ∀ n j, n < 8 → SC q (k n) (ix2 i j) = (S (1024 * n + (j : ℕ)) : ℝ))
    (hSc : ∀ j, SCc q kc (ix2 i j) = (S (8192 + (j : ℕ)) : ℝ))
    (hW : ∀ n (j : Fin 1024), n < 8 → v n (ix3 0 j ⟨d, by omega⟩) = W (1024 * n + (j : ℕ)))
    (hWc : ∀ j : Fin 256, vc (ix3 0 j ⟨d, by omega⟩) = W (8192 + (j : ℕ)))
    (h1 : ∀ n (j : Fin 1024), n < 8 → v n (ix3 0 j 64) = 1) (h1c : ∀ j : Fin 256, vc (ix3 0 j 64) = 1) :
    HEAD q k v kc vc (ix3 0 i d) = mean (fun x : Fin 8448 => S x) (fun x => W x) := by
  obtain ⟨m₁, ⟨r, hr, ha⟩, e₁⟩ := all_good q k v kc vc i S W ⟨d, by omega⟩ hS hSc hW hWc
  obtain ⟨m₂, ⟨r₂, hr₂, hb⟩, e₂⟩ := all_good q k v kc vc i S (fun _ => 1) 64 hS hSc h1 h1c
  have e : r₂ = r := by
    have : (r₂ : EReal) = r := by rw [← hr₂, ← hr, e₁, e₂]
    exact_mod_cast this
  subst e
  unfold HEAD
  rw [FIN_at, ha, hb]
  simp only [mul_one]
  rw [← coe_sum, div_common (Finset.sum_pos (fun j _ => p2_pos _) ⟨⟨0, by omega⟩, Finset.mem_univ _⟩)]
  rfl

end Cert.KernelIdeal.Val
end
-- ==== Proof.Out.lean ====
/- The kernel's result array: every entry is a row of the attention at its lane. -/
module

public import proofs.«01_k».proof.Proof.Model
public import proofs.«01_k».proof.Proof.Host
public import proofs.«01_k».proof.Proof.Body
public import proofs.«01_k».proof.Proof.Rows
public import proofs.«01_k».proof.Proof.Gen.KernelIdeal.Value

@[expose] public section

set_option maxRecDepth 16384

noncomputable section

namespace Cert.KernelIdeal.Val

open Cert.KernelIdeal Cert.KernelIdeal.Gen Cert.Attend Idealize.ShloMosaic Idealize.ShloMosaic.TcCoe Idealize.SL.Sem

variable (m : (ℓ : Loc nD τ sig) → Buf (Elt Ideal) ℓ) (c : Dev nD)

/-- The attention of batch `b`, head `h`, query `n` at lane `d` of the values. -/
def attK (b : Fin 4) (n : Fin 8192) (h : Fin 4) (d : Fin 64) : EReal :=
  att (fun e => Qa m c (ix4 b n h e)) (fun j e => Ka m c (ix4 b j h e)) (fun j => Va m c (ix4 b j h d))
    (fun j e => Kca m c (ix4 b j h e)) (fun j => Vca m c (ix4 b j h d))

/-- One head at one grid point. -/
theorem head_at (hq : ∀ i, Fin' (Qa m c i)) (hk : ∀ i, Fin' (Ka m c i)) (hkc : ∀ i, Fin' (Kca m c i))
    (t : Fin cfg0.N) (hh : ℕ) (h2 : hh < 2) (b h : Fin 4) (hb : (b : ℕ) = t.val / 16) (hd : (h : ℕ) = t.val / 8 % 2 * 2 + hh)
    (i : Fin 1024) (n : Fin 8192) (hn : (n : ℕ) = t.val % 8 * 1024 + i) (d : Fin 64) :
    HEAD (qhead (iblk m c 0 t) hh) (chunk (iblk m c 1 t) hh) (chunk (iblk m c 2 t) hh) (chead (iblk m c 3 t) hh)
      (chead (iblk m c 4 t) hh) (ix3 0 i d) = attK m c b n h d := by
  have hcut : ∀ (k j : ℕ) (hk : k < 8) (hj : j < 1024), 1024 * k + j < 8192 := by omega
  refine (HEAD_at _ _ _ _ _ i d
    (fun x => qkDot (fun e => Qa m c (ix4 b n h e)) (cat (fun j e => Ka m c (ix4 b j h e)) (fun j e => Kca m c (ix4 b j h e)) x) * base2)
    (fun x => cat (fun j => Va m c (ix4 b j h d)) (fun j => Vca m c (ix4 b j h d)) x) ?_ ?_ ?_ ?_ ?_ ?_).trans rfl
  · intro k j hk8
    rw [SC_at]
    rw [show cat (fun j e => Ka m c (ix4 b j h e)) (fun j e => Kca m c (ix4 b j h e)) (1024 * k + (j : ℕ))
      = fun e => Ka m c (ix4 b ⟨1024 * k + j, hcut k j hk8 j.isLt⟩ h e) from cat_lo _ _ ⟨1024 * k + j, hcut k j hk8 j.isLt⟩]
    refine padded_sum _ _ _ _ base2 (fun _ => hq _) (fun _ => hk _) (fun x => ?_) (fun x => ?_)
    · rw [← scale2_eq]; exact q_at m c t hh b h h2 hb hd i n hn x
    · exact k_at m c t hh b h h2 hb hd k hk8 j x
  · intro j
    rw [SCc_at, cat_hi]
    refine padded_sum _ _ _ _ base2 (fun _ => hq _) (fun _ => hkc _) (fun x => ?_) (fun x => ?_)
    · rw [← scale2_eq]; exact q_at m c t hh b h h2 hb hd i n hn x
    · exact kc_at m c t hh b h h2 hb hd j x
  · intro k j hk8
    refine (v_at m c t hh b h h2 hb hd k hk8 j ⟨d, by omega⟩ (by show (d : ℕ) < 65; omega)).trans ?_
    rw [dif_pos d.isLt]
    exact (cat_lo (fun j => Va m c (ix4 b j h d)) (fun j => Vca m c (ix4 b j h d)) ⟨1024 * k + j, hcut k j hk8 j.isLt⟩).symm
  · intro j
    refine (vc_at m c t hh b h h2 hb hd j ⟨d, by omega⟩ (by show (d : ℕ) < 65; omega)).trans ?_
    rw [dif_pos d.isLt]
    exact (cat_hi (fun j => Va m c (ix4 b j h d)) (fun j => Vca m c (ix4 b j h d)) j).symm
  · intro k j hk8
    exact (v_at m c t hh b h h2 hb hd k hk8 j 64 (by decide)).trans (dif_neg (by decide))
  · intro j
    exact (vc_at m c t hh b h h2 hb hd j 64 (by decide)).trans (dif_neg (by decide))

/-- The whole result. -/
def outK : S4x8192x256.Idx → EReal := fun i =>
  attK m c (i 0) (i 1) ⟨(i 2 : ℕ) / 64, by have := (i 2).isLt; change (i 2 : ℕ) < 256 at this; omega⟩ ⟨(i 2 : ℕ) % 64, Nat.mod_lt _ (by omega)⟩

/-- What a grid point leaves at an index of its block. -/
theorem outs_at (gq : ∀ i, Fin' (Qa m c i)) (gk : ∀ i, Fin' (Ka m c i)) (gkc : ∀ i, Fin' (Kca m c i))
    (t : Fin cfg0.N) (y : S1x1024x128.Idx) (j : S4x8192x256.Idx) (e0 : (j 0 : ℕ) = t.val / 16)
    (e1 : (j 1 : ℕ) = t.val % 8 * 1024 + y 1) (e2 : (j 2 : ℕ) = t.val / 8 % 2 * 128 + y 2) :
    outsAt0 m c t y = outK m c j := by
  rw [outs_eq]
  canon_tiles x p
  · have hx : x = ix3 0 (x 1) ⟨(j 2 : ℕ) % 64, Nat.mod_lt _ (by omega)⟩ := by blk_ext
    rw [hx]
    exact head_at m c gq gk gkc t 1 (by omega) _ _ e0 (by show (j 2 : ℕ) / 64 = _; omega) _ _ (by omega) _
  · have hx : x = ix3 0 (x 1) ⟨(j 2 : ℕ) % 64, Nat.mod_lt _ (by omega)⟩ := by blk_ext
    rw [hx]
    exact head_at m c gq gk gkc t 0 (by omega) _ _ e0 (by show (j 2 : ℕ) / 64 = _; omega) _ _ (by omega) _

/-- The result array after the run. -/
theorem arr_eq (gq : ∀ i, Fin' (Qa m c i)) (gk : ∀ i, Fin' (Ka m c i)) (gkc : ∀ i, Fin' (Kca m c i)) :
    (dats m 0 c).arrAt 5 cfg0.N = outK m c := by
  refine (dats m 0 c).arrAt_eq_of_covers 5 (outK m c) (by decide +kernel) fun t _ y => ?_
  blk_simp
  rw [after0_5]
  refine outs_at m c gq gk gkc t y _ ?_ ?_ ?_ <;> blk_simp [idx5 t] <;> try omega

end Cert.KernelIdeal.Val
end
-- ==== Proof.Ref.lean ====
/- The reference attention at one index. -/
module

public import proofs.«01_k».proof.Proof.Model
public import proofs.«01_k».proof.Proof.Gen.ReferenceIdeal.Read
public import Idealize.ShloMosaic.Lib.Pipeline.ValueKit

@[expose] public section

set_option maxRecDepth 16384

noncomputable section

namespace Cert.ReferenceIdeal.Val

open Cert.ReferenceIdeal Cert.ReferenceIdeal.Gen Cert.ReferenceIdeal.Read Cert.Attend Idealize.ShloMosaic Idealize.ShloMosaic.TcCoe Idealize.SL.Sem

variable (x0 x1 : FVec Ideal S4x8192x4x96 .f32) (x2 : FVec Ideal S4x8192x4x64 .f32) (x3 : FVec Ideal S4x256x4x96 .f32) (x4 : FVec Ideal S4x256x4x64 .f32)
variable (b h : Fin 4) (n : Fin 8192)

theorem v4_at (k : Fin 8448) (d : Fin 96) : val_main_v4 (F := Ideal) x1 x3 (ix4 b k h d)
    = cat (fun j => x1 (ix4 b j h d)) (fun j => x3 (ix4 b j h d)) k := by
  pointwise [val_main_v4, cat]
  by_cases hk : (k : ℕ) < 8192
  · rw [dif_pos hk, dif_pos hk]
  · rw [dif_neg hk, dif_neg hk]
    exact congrArg (fun z => x3 (ix4 b z h d)) (Fin.ext (by show (k : ℕ) - 8192 = ((k : ℕ) - 8192) % 256; omega))
theorem v5_at (k : Fin 8448) (d : Fin 64) : val_main_v5 (F := Ideal) x2 x4 (ix4 b k h d)
    = cat (fun j => x2 (ix4 b j h d)) (fun j => x4 (ix4 b j h d)) k := by
  pointwise [val_main_v5, cat]
  by_cases hk : (k : ℕ) < 8192
  · rw [dif_pos hk, dif_pos hk]
  · rw [dif_neg hk, dif_neg hk]
    exact congrArg (fun z => x4 (ix4 b z h d)) (Fin.ext (by show (k : ℕ) - 8192 = ((k : ℕ) - 8192) % 256; omega))
theorem v3_at (d : Fin 96) : val_main_v3 (F := Ideal) x0 (ix4 b n h d)
    = x0 (ix4 b n h d) * Ideal.div 1 (Ideal.sqrt (Ideal.ofBits .f32 0x42C00000#32)) := by
  pointwise [val_main_v3, val_main_v2, val_main_v1, val_main_cst_0, val_main_v0, val_main_cst]
theorem v6_at (k : Fin 8448) : val_main_v6 (F := Ideal) x0 x1 x3 (ix4 b h n k)
    = ∑ d : Fin 96, val_main_v3 (F := Ideal) x0 (ix4 b n h d) * val_main_v4 (F := Ideal) x1 x3 (ix4 b k h d) := by
  pointwise [val_main_v6]
theorem v7_at : val_main_v7 (F := Ideal) x0 x1 x3 (ix3 b h n)
    = Finset.fold max (Ideal.ofBits .f32 0xFF800000#32) (fun k => val_main_v6 (F := Ideal) x0 x1 x3 (ix4 b h n k)) Finset.univ := by
  unfold val_main_v7
  generalize val_main_v6 (F := Ideal) x0 x1 x3 = s
  pointwise [val_main_cst_1]
theorem v13_at (k : Fin 8448) : val_main_v13 (F := Ideal) x0 x1 x3 (ix4 b h n k)
    = Ideal.exp (val_main_v6 (F := Ideal) x0 x1 x3 (ix4 b h n k) - max (Ideal.ofBits .f32 0xFF800000#32) (val_main_v7 (F := Ideal) x0 x1 x3 (ix3 b h n))) := by
  rw [val_main_v13_apply, val_main_v12_apply, val_main_v11_apply, val_main_v10_apply, val_main_v9_apply, val_main_v8_apply,
    val_main_cst_2_apply]
  have e : idx_main_v10 (idx_main_v11 (ix4 b h n k)) = ix3 b h n := by
    funext a; fin_cases a <;> rfl
  rw [e]
  generalize val_main_v6 (F := Ideal) x0 x1 x3 (ix4 b h n k) = s
  generalize val_main_v7 (F := Ideal) x0 x1 x3 (ix3 b h n) = M
  rfl
theorem v17_at (k : Fin 8448) : val_main_v17 (F := Ideal) x0 x1 x3 (ix4 b h n k)
    = Ideal.div (val_main_v13 (F := Ideal) x0 x1 x3 (ix4 b h n k)) (∑ j : Fin 8448, val_main_v13 (F := Ideal) x0 x1 x3 (ix4 b h n j)) := by
  unfold val_main_v17 val_main_v16 val_main_v15 val_main_v14
  generalize val_main_v13 (F := Ideal) x0 x1 x3 = s
  pointwise [val_main_cst_3]
theorem v21_at' (l : Fin 256) : val_main_v21 (F := Ideal) x0 x1 x2 x3 x4 (ix3 b n l)
    = ∑ k : Fin 8448, val_main_v5 (F := Ideal) x2 x4 (ix4 b k ⟨(l : ℕ) / 64, by omega⟩ ⟨(l : ℕ) % 64, by omega⟩)
      * val_main_v17 (F := Ideal) x0 x1 x3 (ix4 b ⟨(l : ℕ) / 64, by omega⟩ n k) := by
  unfold val_main_v21 val_main_v20 val_main_v19 val_main_v18
  generalize val_main_v5 (F := Ideal) x2 x4 = v
  generalize val_main_v17 (F := Ideal) x0 x1 x3 = s
  pointwise []
theorem v21_at (l : Fin 256) (d : Fin 64) (hl : (l : ℕ) = 64 * h + d) : val_main_v21 (F := Ideal) x0 x1 x2 x3 x4 (ix3 b n l)
    = ∑ k : Fin 8448, val_main_v5 (F := Ideal) x2 x4 (ix4 b k h d) * val_main_v17 (F := Ideal) x0 x1 x3 (ix4 b h n k) := by
  have e1 : (⟨(l : ℕ) / 64, by omega⟩ : Fin 4) = h := Fin.ext (by show (l : ℕ) / 64 = h; omega)
  have e2 : (⟨(l : ℕ) % 64, by omega⟩ : Fin 64) = d := Fin.ext (by show (l : ℕ) % 64 = d; omega)
  rw [v21_at', e1, e2]

/-- The reference's result is a row of the attention, the queries and keys being real. -/
theorem ref_at (h0 : ∀ i, Fin' (x0 i)) (h1 : ∀ i, Fin' (x1 i)) (h3 : ∀ i, Fin' (x3 i)) (l : Fin 256) (d : Fin 64) (hl : (l : ℕ) = 64 * h + d) :
    val_main_v21 (F := Ideal) x0 x1 x2 x3 x4 (ix3 b n l)
      = att (fun e => x0 (ix4 b n h e)) (fun j e => x1 (ix4 b j h e)) (fun j => x2 (ix4 b j h d)) (fun j e => x3 (ix4 b j h e)) (fun j => x4 (ix4 b j h d)) := by
  have hs : ∀ k : Fin 8448, val_main_v6 (F := Ideal) x0 x1 x3 (ix4 b h n k)
      = ((qkDot (fun e => x0 (ix4 b n h e)) (cat (fun j e => x1 (ix4 b j h e)) (fun j e => x3 (ix4 b j h e)) k) * (Real.sqrt 96)⁻¹ : ℝ) : EReal) := by
    intro k
    rw [v6_at, qkDot, ← scaled_sum _ _ _ (fun e => h0 _) ?_]
    · refine Finset.sum_congr rfl fun e _ => ?_
      rw [v3_at, v4_at, scale_eq]
      congr 1
      unfold cat; split <;> rfl
    · intro e; unfold cat; split
      · exact h1 _
      · exact h3 _
  obtain ⟨M, hM⟩ : ∃ M : ℝ, max (Ideal.ofBits .f32 0xFF800000#32) (val_main_v7 (F := Ideal) x0 x1 x3 (ix3 b h n)) = M := by
    rw [v7_at]
    simp only [hs]
    obtain ⟨M, hM⟩ := fold_max_real (n := 8448) (by omega) (fun k : Fin 8448 => qkDot (fun e => x0 (ix4 b n h e)) (cat (fun j e => x1 (ix4 b j h e)) (fun j e => x3 (ix4 b j h e)) k) * (Real.sqrt 96)⁻¹) (Ideal.ofBits .f32 0xFF800000#32) (by simp [Ideal.ofBits, Ideal.ieee])
    rw [hM]
    have hb : Ideal.ofBits .f32 0xFF800000#32 = (⊥ : EReal) := by simp [Ideal.ofBits, Ideal.ieee]
    rw [hb]
    exact ⟨M, max_eq_right bot_le⟩
  rw [v21_at x0 x1 x2 x3 x4 b h n l d hl, att, ← softmax_mean (fun x : Fin 8448 => qkDot (fun e => x0 (ix4 b n h e)) (cat (fun j e => x1 (ix4 b j h e)) (fun j e => x3 (ix4 b j h e)) x) * (Real.sqrt 96)⁻¹) _ (fun k => exp_eq_p2 _) M]
  refine Finset.sum_congr rfl fun k _ => ?_
  rw [mul_comm, v17_at, v5_at]
  simp only [v13_at, hs, hM]

end Cert.ReferenceIdeal.Val
end
-- ==== Proof.Finite.lean ====
/- The precondition, entry by entry: queries, keys and extra keys are real numbers. -/
module

public import proofs.«01_k».proof.Proof.Model
public import proofs.«01_k».proof.Proof.Gen.Pre_finite
public import Idealize.ShloMosaic.Lib.ReduceAll
public import Idealize.ShloMosaic.Lib.Pointwise

@[expose] public section

noncomputable section

namespace Cert.Pre_finite.Val

open Cert.Pre_finite Cert.Pre_finite.Gen Cert.Attend Idealize.ShloMosaic

instance : Subsingleton S_.Idx := ⟨fun a b => funext fun i => i.elim0⟩

/-- An absolute value below infinity is that of a real number. -/
theorem real_of_abs (x : EReal) (h : Ideal.cmp .olt (max x (-x)) (Ideal.ofBits .f32 0x7F800000#32) = 1#1) : Fin' x := by
  have ht : Ideal.ofBits .f32 0x7F800000#32 = (⊤ : EReal) := by simp [Ideal.ofBits, Ideal.ieee]
  rw [ht] at h
  induction x using EReal.rec with
  | bot => simp [Ideal.cmp] at h
  | coe r => exact ⟨EReal.coe_ne_top r, EReal.coe_ne_bot r⟩
  | top => simp [Ideal.cmp] at h

theorem finite_entries [Cert.Pre_finite.Facts] (x0 x1 : FVec Ideal S4x8192x4x96 .f32) (x2 : FVec Ideal S4x8192x4x64 .f32)
    (x3 : FVec Ideal S4x256x4x96 .f32) (x4 : FVec Ideal S4x256x4x64 .f32) (h : fn x0 x1 x2 x3 x4 = fun _ => 1#1) :
    (∀ i, Fin' (x0 i)) ∧ (∀ i, Fin' (x1 i)) ∧ (∀ i, Fin' (x3 i)) := by
  have h' := congrFun h (fun a => a.elim0)
  unfold fn at h'
  obtain ⟨h01, h3⟩ := IntOp.andi_eq_one.1 h'
  obtain ⟨h0, h1⟩ := IntOp.andi_eq_one.1 h01
  exact ⟨fun i => real_of_abs _ (Host.reduce_andi_all _ _ _ _ _ h0 i), fun i => real_of_abs _ (Host.reduce_andi_all _ _ _ _ _ h1 i),
    fun i => real_of_abs _ (Host.reduce_andi_all _ _ _ _ _ h3 i)⟩

end Cert.Pre_finite.Val
end
-- ==== Proof.Value.lean ====
/- The value claim: the kernel's result array is the reference's. -/
module

public import proofs.«01_k».proof.Defs
public import proofs.«01_k».proof.Proof.Out
public import proofs.«01_k».proof.Proof.Ref
public import proofs.«01_k».proof.Proof.Finite
public import proofs.«01_k».proof.Proof.Gen.ReferenceIdeal.Run

@[expose] public section

set_option maxRecDepth 16384

noncomputable section

namespace Cert.Attend

open Idealize.ShloMosaic Idealize.ShloMosaic.TcCoe Idealize.SL.Sem

/-- The two closed forms agree. -/
theorem outK_eq_ref (m : (ℓ : Loc Cert.KernelIdeal.nD Cert.KernelIdeal.τ Cert.KernelIdeal.sig) → Buf (Elt Ideal) ℓ)
    (c : Dev Cert.KernelIdeal.nD) (gq : ∀ i, Fin' (Cert.KernelIdeal.Val.Qa m c i)) (gk : ∀ i, Fin' (Cert.KernelIdeal.Val.Ka m c i))
    (gkc : ∀ i, Fin' (Cert.KernelIdeal.Val.Kca m c i)) :
    Cert.KernelIdeal.Val.outK m c = Cert.ReferenceIdeal.Read.val_main_v21 (F := Ideal) (Cert.KernelIdeal.Val.Qa m c)
      (Cert.KernelIdeal.Val.Ka m c) (Cert.KernelIdeal.Val.Va m c) (Cert.KernelIdeal.Val.Kca m c) (Cert.KernelIdeal.Val.Vca m c) := by
  funext i
  have hi : i = ix3 (i 0) (i 1) (i 2) := by blk_ext
  rw [hi]
  exact (Cert.ReferenceIdeal.Val.ref_at _ _ _ _ _ _ _ _ gq gk gkc (i 2) _ (by show (i 2 : ℕ) = 64 * ((i 2 : ℕ) / 64) + (i 2 : ℕ) % 64; omega)).symm

/-- The claim that the kernel computes the reference's result at the ideal values. -/
theorem algebraic :
    Cert.algebraic_KernelIdeal_ReferenceIdeal_pre_finite (hKernelIdeal := Cert.KernelIdeal.Gen.facts)
      (hReferenceIdeal := Cert.ReferenceIdeal.Gen.facts) (hPre_finite := Cert.Pre_finite.Gen.facts) := by
  intro m g m' g' hpre hag
  refine ⟨fun c => Cert.KernelIdeal.Val.outK m c, ?_, ?_⟩
  · refine (θ_run _ _ _).mono (fun r h c => ?_) (Cert.KernelIdeal.Value.run_blocks m g)
    obtain ⟨hv, ha⟩ := h c
    obtain ⟨f0, f1, f3⟩ := Cert.Pre_finite.Val.finite_entries _ _ _ _ _ (hpre c)
    exact ⟨hv.trans (Cert.KernelIdeal.Val.arr_eq m c f0 f1 f3), ha⟩
  · refine (θ_run _ _ _).mono (fun r h c => ?_) (Cert.ReferenceIdeal.Value.run (F := Ideal) m' g')
    obtain ⟨hv, ha⟩ := h c
    obtain ⟨f0, f1, f3⟩ := Cert.Pre_finite.Val.finite_entries _ _ _ _ _ (hpre c)
    obtain ⟨e0, e1, e2, e3, e4⟩ := hag c
    refine ⟨hv.trans ?_, ha⟩
    rw [e0, e1, e2, e3, e4]
    exact (Cert.ReferenceIdeal.Read.val_main_v21_eq _ _ _ _ _).trans (outK_eq_ref m c f0 f1 f3).symm

end Cert.Attend
end
-- ==== Proof.Tables.lean ====
/- What the precondition says of the experts' two tables: every tile's expert is one of the eight, and between one and
   all of the 72 tiles are in use. -/
module

public import proofs.«01_k».proof.Proof.Gen.Pre_tables
public import Idealize.ShloMosaic.Lib.ReduceAll
public import Idealize.ShloMosaic.Lib.Pointwise

@[expose] public section

noncomputable section

namespace Cert.Pre_tables.Val

open Cert.Pre_tables Cert.Pre_tables.Gen Idealize.ShloMosaic

instance : Subsingleton S_.Idx := ⟨fun a b => funext fun i => i.elim0⟩

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

theorem expert_word (v : BitVec 32) (e : IntOp.andi (IntOp.cmpi .sge v 0#32) (IntOp.cmpi .slt v 8#32) = 1#1) : v.toNat < 8 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem count_word (v : BitVec 32) (e : IntOp.andi (IntOp.cmpi .sge v 1#32) (IntOp.cmpi .sle v 72#32) = 1#1) :
    1 ≤ v.toNat ∧ v.toNat ≤ 72 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition, entry by entry. -/
theorem ranges [Cert.Pre_tables.Facts] {F : FTy → Type} [FloatOps F] (x0 : IVec S72 32) (x1 : IVec S1 32) (x2 : FVec F S73728x1024 .f32)
    (x3 x4 : FVec F S8x1024x3584 .bf16) (x5 : FVec F S8x3584x1024 .bf16) (h : fn x0 x1 x2 x3 x4 x5 = fun _ => 1#1) :
    (∀ i, (x0 i).toNat < 8) ∧ (∀ i, 1 ≤ (x1 i).toNat ∧ (x1 i).toNat ≤ 72) := by
  have h' := congrFun h (fun a => a.elim0)
  unfold fn at h'
  obtain ⟨h0, h1⟩ := IntOp.andi_eq_one.1 h'
  exact ⟨fun i => expert_word _ (Host.reduce_andi_all _ _ _ _ _ h0 i), fun i => count_word _ (Host.reduce_andi_all _ _ _ _ _ h1 i)⟩

end Cert.Pre_tables.Val
end
-- ==== Proof.Words.lean ====
/- Small facts about 32-bit words read as natural numbers: the comparisons and the minimum that steer the experts' grid. -/
module

public import Idealize.ShloMosaic.PureOps

@[expose] public section

namespace Cert.Words

open Idealize.ShloMosaic

/-- A word below 2³¹ reads the same signed and unsigned. -/
theorem toInt_eq (v : BitVec 32) (h : v.toNat < 2 ^ 31) : v.toInt = v.toNat := by
  rw [BitVec.toInt_eq_toNat_of_lt (by omega)]

/-- Signed comparison of two words below 2³¹ is comparison of their numbers. -/
theorem slt_eq (x v : BitVec 32) (hx : x.toNat < 2 ^ 31) (hv : v.toNat < 2 ^ 31) : x.slt v = decide (x.toNat < v.toNat) := by
  rw [BitVec.slt, toInt_eq x hx, toInt_eq v hv]
  exact decide_eq_decide.mpr (by omega)

theorem toNat_ofNat (x : ℕ) (h : x < 2 ^ 31) : (BitVec.ofNat 32 x).toNat = x := by
  rw [BitVec.toNat_ofNat]; omega

theorem slt_ofNat (x : ℕ) (hx : x < 2 ^ 31) (v : BitVec 32) (hv : v.toNat < 2 ^ 31) :
    (BitVec.ofNat 32 x).slt v = decide (x < v.toNat) := by
  rw [slt_eq _ _ (by rw [toNat_ofNat x hx]; exact hx) hv, toNat_ofNat x hx]

/-- A one-bit word widened is not zero exactly if it is one. -/
theorem ne_extui (b : BitVec 1) : Scalar.cmpi .ne (Scalar.extui b) 0#32 = b := by
  revert b; decide

/-- A comparison as a one-bit word is one exactly if it holds. -/
theorem ofBool_one (b : Bool) : BitVec.ofBool b = 1#1 ↔ b = true := by
  revert b; decide

theorem notand_one (a b : Bool) :
    Scalar.andi (Scalar.xori (BitVec.ofBool a) 1#1) (BitVec.ofBool b) = 1#1 ↔ a = false ∧ b = true := by
  revert a b; decide

theorem eq_zero (x : ℕ) (hx : x < 2 ^ 31) : ((BitVec.ofNat 32 x) == 0#32) = decide (x = 0) := by
  rw [Bool.eq_iff_iff, beq_iff_eq, decide_eq_true_eq]
  constructor
  · intro h; have := congrArg BitVec.toNat h; rw [toNat_ofNat x hx] at this; simpa using this
  · rintro rfl; rfl

/-- The smaller of a tile's number and the last active tile's. -/
theorem min_word (x : ℕ) (hx : x < 2 ^ 31) (v : BitVec 32) (h1 : 1 ≤ v.toNat) (hv : v.toNat < 2 ^ 31) :
    (Scalar.minsi (BitVec.ofNat 32 x) (Scalar.subi v 1#32)).toNat = min x (v.toNat - 1) := by
  have e : (Scalar.subi v 1#32).toNat = v.toNat - 1 := by
    show (v - 1#32).toNat = _
    rw [BitVec.toNat_sub]
    have : (1#32 : BitVec 32).toNat = 1 := rfl
    rw [this]; omega
  show (if (BitVec.ofNat 32 x).slt (Scalar.subi v 1#32) then _ else _ : BitVec 32).toNat = _
  rw [slt_ofNat x hx _ (by omega), e]
  by_cases h : x < v.toNat - 1
  · simp only [h, decide_true, ↓reduceIte, toNat_ofNat x hx]; omega
  · simp only [h, decide_false, Bool.false_eq_true, ↓reduceIte, e]; omega

/-- The half of the hidden layer a point reads: its own at an active tile, the second at an idle one. -/
theorem sel_word (p : Bool) (y : ℕ) (hy : y < 2 ^ 31) :
    (Scalar.select (BitVec.ofBool p) (BitVec.ofNat 32 y) 1#32).toNat = if p = true then y else 1 := by
  cases p
  · rfl
  · exact toNat_ofNat y hy

end Cert.Words

end
-- ==== Proof.ExpertsFrame.lean ====
/- The experts' call under any tables within their ranges: what every tile's buffer holds after each point, and that
   every execution ends with the arguments as they were, the result array at the blocks written back. The body's four
   runs are the generated ones, stated for any tables; only the choice between them is made here. -/
module

public import proofs.«01_k».proof.Proof.ExpertsTab
public import proofs.«01_k».proof.Proof.Gen.Experts.Launch
public import Idealize.ShloMosaic.Lib.Claim

@[expose] public section

set_option maxRecDepth 16384
set_option Elab.async false

noncomputable section

namespace Cert.Experts.Moe

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The proof's resource algebra: the rounds library's, for the pipeline's staging cells, embedded whole. -/
abbrev EP : Emb (UR sig nD τ) 𝕄 := emb₁

variable (T : Tabs)
variable (m : (ℓ : Loc nD τ sig) → Buf (Elt Bits) ℓ) (ρ : Dev nD → PrngReg)

/-- Each window's current staging memref at point `t`, spelled as the pipeline passes it, and its wholeness. -/
abbrev ms0_0 (t : Fin (cfgA T).N) : Memref sig .tc .vmem S1024x1024 .f32 := spec0_0.stage ((cfgA T).slots t (0 : Fin 5))
abbrev hs0_0 (t : Fin (cfgA T).N) : (ms0_0 T t).IsWhole := hstage0_0 (((cfgA T).slots t (0 : Fin 5)).cast nbuf0_0)
abbrev ms0_1 (t : Fin (cfgA T).N) : Memref sig .tc .vmem S1x1024x1792 .bf16 := spec0_1.stage ((cfgA T).slots t (1 : Fin 5))
abbrev hs0_1 (t : Fin (cfgA T).N) : (ms0_1 T t).IsWhole := hstage0_1 (((cfgA T).slots t (1 : Fin 5)).cast nbuf0_1)
abbrev ms0_2 (t : Fin (cfgA T).N) : Memref sig .tc .vmem S1x1024x1792 .bf16 := spec0_2.stage ((cfgA T).slots t (2 : Fin 5))
abbrev hs0_2 (t : Fin (cfgA T).N) : (ms0_2 T t).IsWhole := hstage0_2 (((cfgA T).slots t (2 : Fin 5)).cast nbuf0_2)
abbrev ms0_3 (t : Fin (cfgA T).N) : Memref sig .tc .vmem S1x1792x1024 .bf16 := spec0_3.stage ((cfgA T).slots t (3 : Fin 5))
abbrev hs0_3 (t : Fin (cfgA T).N) : (ms0_3 T t).IsWhole := hstage0_3 (((cfgA T).slots t (3 : Fin 5)).cast nbuf0_3)
abbrev ms0_4 (t : Fin (cfgA T).N) : Memref sig .tc .vmem S1024x1024 .f32 := spec0_4.stage ((cfgA T).slots t (4 : Fin 5))
abbrev hs0_4 (t : Fin (cfgA T).N) : (ms0_4 T t).IsWhole := hstage0_4 (((cfgA T).slots t (4 : Fin 5)).cast nbuf0_4)

/-! ## The windows' blocks -/

/-- Window `w`'s block at point `t`, read off its array at launch. -/
def iblk (c : Dev nD) (w : Fin (cfgA T).W) (t : Fin (cfgA T).N) : (((cfgA T).win w).xblock (crd T t)).Idx → Elt Bits ((cfgA T).win w).elt :=
  (((cfgA T).win w).blk t).view.read (Elt Bits) ((s₀ m ρ).mem (((cfgA T).win w).arr.view.loc (c : Thread nD τ)))

/-- The tables the call is launched with are `T`'s. -/
def Pinned (m : (ℓ : Loc nD τ sig) → Buf (Elt Bits) ℓ) : Prop :=
  (∀ c : Dev nD, m ((c : Thread nD τ).loc main_arg0) = T.te) ∧ (∀ c : Dev nD, m ((c : Thread nD τ).loc main_arg1) = T.na)

/-! ## What each of the four branches knows of its point -/

/-- A tile in use, first half. -/
theorem hypsR0_A (t : Fin (cfgA T).N) (q0 : ¬P0_0 T t) (q1 : P0_1 T t) (q2 : P0_2 T t) :
    (¬(k0_cond1 (crd T t) (View.readAt (Elt Bits) (tbM0_1).view (Rect.unit (s := S1) ![0] S1.size inb_S1_S1_0).toLoadRect T.na (Shape.Idx.first (numel1_S1.symm ▸ Nat.one_pos))) = 1#1)) ∧ ((k0_cond2 (crd T t) (View.readAt (Elt Bits) (tbM0_1).view (Rect.unit (s := S1) ![0] S1.size inb_S1_S1_0).toLoadRect T.na (Shape.Idx.first (numel1_S1.symm ▸ Nat.one_pos))) = 1#1) ∧ ((k0_cond3 (crd T t) = 1#1) ∧ ((¬(k0_cond4 (crd T t) = 1#1)) ∧ (True)))) :=
  ⟨q0, q1, q2, fun h => ((P0_3_iff T t).mp h) ((P0_2_iff T t).mp q2), trivial⟩

/-- A tile in use, second half. -/
theorem hypsR0_B (t : Fin (cfgA T).N) (q0 : ¬P0_0 T t) (q1 : P0_1 T t) (q2 : ¬P0_2 T t) :
    (¬(k0_cond1 (crd T t) (View.readAt (Elt Bits) (tbM0_1).view (Rect.unit (s := S1) ![0] S1.size inb_S1_S1_0).toLoadRect T.na (Shape.Idx.first (numel1_S1.symm ▸ Nat.one_pos))) = 1#1)) ∧ ((k0_cond2 (crd T t) (View.readAt (Elt Bits) (tbM0_1).view (Rect.unit (s := S1) ![0] S1.size inb_S1_S1_0).toLoadRect T.na (Shape.Idx.first (numel1_S1.symm ▸ Nat.one_pos))) = 1#1) ∧ ((¬(k0_cond3 (crd T t) = 1#1)) ∧ ((k0_cond4 (crd T t) = 1#1) ∧ (True)))) :=
  ⟨q0, q1, q2, (P0_3_iff T t).mpr fun h => q2 ((P0_2_iff T t).mpr h), trivial⟩

/-- An idle tile's first point. -/
theorem hypsR0_C (t : Fin (cfgA T).N) (q0 : P0_0 T t) :
    (k0_cond1 (crd T t) (View.readAt (Elt Bits) (tbM0_1).view (Rect.unit (s := S1) ![0] S1.size inb_S1_S1_0).toLoadRect T.na (Shape.Idx.first (numel1_S1.symm ▸ Nat.one_pos))) = 1#1) ∧ ((¬(k0_cond2 (crd T t) (View.readAt (Elt Bits) (tbM0_1).view (Rect.unit (s := S1) ![0] S1.size inb_S1_S1_0).toLoadRect T.na (Shape.Idx.first (numel1_S1.symm ▸ Nat.one_pos))) = 1#1)) ∧ (True)) :=
  ⟨q0, fun h => ((P0_0_iff T t).mp q0).1 ((P0_1_iff T t).mp h), trivial⟩

/-- An idle tile's second point. -/
theorem hypsR0_D (t : Fin (cfgA T).N) (q0 : ¬P0_0 T t) (q1 : ¬P0_1 T t) :
    (¬(k0_cond1 (crd T t) (View.readAt (Elt Bits) (tbM0_1).view (Rect.unit (s := S1) ![0] S1.size inb_S1_S1_0).toLoadRect T.na (Shape.Idx.first (numel1_S1.symm ▸ Nat.one_pos))) = 1#1)) ∧ ((¬(k0_cond2 (crd T t) (View.readAt (Elt Bits) (tbM0_1).view (Rect.unit (s := S1) ![0] S1.size inb_S1_S1_0).toLoadRect T.na (Shape.Idx.first (numel1_S1.symm ▸ Nat.one_pos))) = 1#1)) ∧ (True)) := ⟨q0, q1, trivial⟩

theorem sched0_A (t : Fin (cfgA T).N) (q0 : ¬P0_0 T t) (q1 : P0_1 T t) (q2 : P0_2 T t) :
    (cfgA T).idle (4 : Fin 5) ((cfgA T).grid.coords t) = false ∧ ((cfgA T).win (4 : Fin 5)).flush t = false ∧ (cfgA T).fresh (4 : Fin 5) t.val = true := by
  rw [P0_0_iff] at q0; rw [P0_1_iff] at q1; rw [P0_2_iff] at q2
  rw [idle4, flush4, fresh4]
  simp only [decide_eq_false_iff_not, decide_eq_true_eq]
  omega

theorem sched0_B (t : Fin (cfgA T).N) (q0 : ¬P0_0 T t) (q1 : P0_1 T t) (q2 : ¬P0_2 T t) :
    (cfgA T).idle (4 : Fin 5) ((cfgA T).grid.coords t) = false ∧ ((cfgA T).win (4 : Fin 5)).flush t = true ∧ (cfgA T).fresh (4 : Fin 5) t.val = false := by
  rw [P0_0_iff] at q0; rw [P0_1_iff] at q1; rw [P0_2_iff] at q2
  rw [idle4, flush4, fresh4]
  simp only [decide_eq_false_iff_not, decide_eq_true_eq]
  omega

theorem sched0_C (t : Fin (cfgA T).N) (q0 : P0_0 T t) :
    (cfgA T).idle (4 : Fin 5) ((cfgA T).grid.coords t) = false ∧ ((cfgA T).win (4 : Fin 5)).flush t = false ∧ (cfgA T).fresh (4 : Fin 5) t.val = true := by
  rw [P0_0_iff] at q0
  rw [idle4, flush4, fresh4]
  simp only [decide_eq_false_iff_not, decide_eq_true_eq]
  omega

theorem sched0_D (t : Fin (cfgA T).N) (q0 : ¬P0_0 T t) (q1 : ¬P0_1 T t) :
    (cfgA T).idle (4 : Fin 5) ((cfgA T).grid.coords t) = true ∧ ((cfgA T).win (4 : Fin 5)).flush t = true ∧ (cfgA T).fresh (4 : Fin 5) t.val = false := by
  rw [P0_0_iff] at q0; rw [P0_1_iff] at q1
  rw [idle4, flush4, fresh4]
  simp only [decide_eq_false_iff_not, decide_eq_true_eq]
  omega

/-! ## What the result's buffer holds after each point -/

/-- One step: what the result's buffer holds after the body at point `t`, from what it held before (`prev`): what the
    branch taken there stores; an idle tile's second point keeps what it held. -/
def step0 (c : Dev nD) (t : Fin (cfgA T).N) (prev : (S1024x1024.Idx → Elt Bits .f32)) : (S1024x1024.Idx → Elt Bits .f32) :=
  if q0 : P0_0 T t then
    out0_C_4 c (crd T t) (ms0_0 T t) (hs0_0 T t) (ms0_1 T t) (hs0_1 T t) (ms0_2 T t) (hs0_2 T t) (ms0_3 T t) (hs0_3 T t) (ms0_4 T t) (hs0_4 T t) T.te T.na (iblk T m ρ c (0 : Fin 5) t) (iblk T m ρ c (1 : Fin 5) t) (iblk T m ρ c (2 : Fin 5) t) (iblk T m ρ c (3 : Fin 5) t) (hypsR0_C T t q0).1 (hypsR0_C T t q0).2.1
  else
    if q1 : P0_1 T t then
      if q2 : P0_2 T t then
        out0_A_4 c (crd T t) (ms0_0 T t) (hs0_0 T t) (ms0_1 T t) (hs0_1 T t) (ms0_2 T t) (hs0_2 T t) (ms0_3 T t) (hs0_3 T t) (ms0_4 T t) (hs0_4 T t) T.te T.na (iblk T m ρ c (0 : Fin 5) t) (iblk T m ρ c (1 : Fin 5) t) (iblk T m ρ c (2 : Fin 5) t) (iblk T m ρ c (3 : Fin 5) t) (hypsR0_A T t q0 q1 q2).1 (hypsR0_A T t q0 q1 q2).2.1 (hypsR0_A T t q0 q1 q2).2.2.1 (hypsR0_A T t q0 q1 q2).2.2.2.1
      else
        out0_B_4 c (crd T t) (ms0_0 T t) (hs0_0 T t) (ms0_1 T t) (hs0_1 T t) (ms0_2 T t) (hs0_2 T t) (ms0_3 T t) (hs0_3 T t) (ms0_4 T t) (hs0_4 T t) T.te T.na (iblk T m ρ c (0 : Fin 5) t) (iblk T m ρ c (1 : Fin 5) t) (iblk T m ρ c (2 : Fin 5) t) (iblk T m ρ c (3 : Fin 5) t) prev (hypsR0_B T t q0 q1 q2).1 (hypsR0_B T t q0 q1 q2).2.1 (hypsR0_B T t q0 q1 q2).2.2.1 (hypsR0_B T t q0 q1 q2).2.2.2.1
    else
      (if (cfgA T).fresh (4 : Fin 5) t.val then default else prev)

/-- What the buffer holds after point `n`. -/
def traj0 (c : Dev nD) : (n : ℕ) → n < (cfgA T).N → (S1024x1024.Idx → Elt Bits .f32)
  | 0, h => step0 T m ρ c ⟨0, h⟩ default
  | n + 1, h => step0 T m ρ c ⟨n + 1, h⟩ (traj0 c n (Nat.lt_of_succ_lt h))

/-- What the buffer held before point `t` (anything before the first). -/
def prev0 (c : Dev nD) (t : Fin (cfgA T).N) : (S1024x1024.Idx → Elt Bits .f32) :=
  if h : t.val = 0 then default else traj0 T m ρ c (t.val - 1) (by omega)

theorem traj0_eq (c : Dev nD) (t : Fin (cfgA T).N) : traj0 T m ρ c t.val t.isLt = step0 T m ρ c t (prev0 T m ρ c t) := by
  obtain ⟨n, hn⟩ := t
  cases n with
  | zero => rfl
  | succ n => unfold prev0; simp only [Nat.add_one_ne_zero, dif_neg, not_false_eq_true]; rfl

/-- The step at a tile in use, first half. -/
theorem step0_A (c : Dev nD) (t : Fin (cfgA T).N) (prev : (S1024x1024.Idx → Elt Bits .f32)) (q0 : ¬P0_0 T t) (q1 : P0_1 T t) (q2 : P0_2 T t) :
    step0 T m ρ c t prev = out0_A_4 c (crd T t) (ms0_0 T t) (hs0_0 T t) (ms0_1 T t) (hs0_1 T t) (ms0_2 T t) (hs0_2 T t) (ms0_3 T t) (hs0_3 T t) (ms0_4 T t) (hs0_4 T t) T.te T.na (iblk T m ρ c (0 : Fin 5) t) (iblk T m ρ c (1 : Fin 5) t) (iblk T m ρ c (2 : Fin 5) t) (iblk T m ρ c (3 : Fin 5) t) (hypsR0_A T t q0 q1 q2).1 (hypsR0_A T t q0 q1 q2).2.1 (hypsR0_A T t q0 q1 q2).2.2.1 (hypsR0_A T t q0 q1 q2).2.2.2.1 := by
  unfold step0; simp only [dif_neg q0, dif_pos q1, dif_pos q2]

/-- The step at a tile in use, second half. -/
theorem step0_B (c : Dev nD) (t : Fin (cfgA T).N) (prev : (S1024x1024.Idx → Elt Bits .f32)) (q0 : ¬P0_0 T t) (q1 : P0_1 T t) (q2 : ¬P0_2 T t) :
    step0 T m ρ c t prev = out0_B_4 c (crd T t) (ms0_0 T t) (hs0_0 T t) (ms0_1 T t) (hs0_1 T t) (ms0_2 T t) (hs0_2 T t) (ms0_3 T t) (hs0_3 T t) (ms0_4 T t) (hs0_4 T t) T.te T.na (iblk T m ρ c (0 : Fin 5) t) (iblk T m ρ c (1 : Fin 5) t) (iblk T m ρ c (2 : Fin 5) t) (iblk T m ρ c (3 : Fin 5) t) prev (hypsR0_B T t q0 q1 q2).1 (hypsR0_B T t q0 q1 q2).2.1 (hypsR0_B T t q0 q1 q2).2.2.1 (hypsR0_B T t q0 q1 q2).2.2.2.1 := by
  unfold step0; simp only [dif_neg q0, dif_pos q1, dif_neg q2]

/-- The step at an idle tile's first point. -/
theorem step0_C (c : Dev nD) (t : Fin (cfgA T).N) (prev : (S1024x1024.Idx → Elt Bits .f32)) (q0 : P0_0 T t) :
    step0 T m ρ c t prev = out0_C_4 c (crd T t) (ms0_0 T t) (hs0_0 T t) (ms0_1 T t) (hs0_1 T t) (ms0_2 T t) (hs0_2 T t) (ms0_3 T t) (hs0_3 T t) (ms0_4 T t) (hs0_4 T t) T.te T.na (iblk T m ρ c (0 : Fin 5) t) (iblk T m ρ c (1 : Fin 5) t) (iblk T m ρ c (2 : Fin 5) t) (iblk T m ρ c (3 : Fin 5) t) (hypsR0_C T t q0).1 (hypsR0_C T t q0).2.1 := by
  unfold step0; simp only [dif_pos q0]

/-- The step at an idle tile's second point. -/
theorem step0_D (c : Dev nD) (t : Fin (cfgA T).N) (prev : (S1024x1024.Idx → Elt Bits .f32)) (q0 : ¬P0_0 T t) (q1 : ¬P0_1 T t) :
    step0 T m ρ c t prev = (if (cfgA T).fresh (4 : Fin 5) t.val then default else prev) := by
  unfold step0; simp only [dif_neg q0, dif_neg q1]

/-! ## The pipeline's proof data -/

/-- The same for a position up to the end. -/
def prev0T (c : Dev nD) (t : Fin ((cfgA T).N + 1)) : (S1024x1024.Idx → Elt Bits .f32) :=
  if h : t.val = 0 then default else traj0 T m ρ c (t.val - 1) (by omega)

theorem prev0T_castSucc (c : Dev nD) (t : Fin (cfgA T).N) : prev0T T m ρ c t.castSucc = prev0 T m ρ c t := by
  unfold prev0T prev0; simp only [Fin.val_castSucc]
theorem prev0T_succ (c : Dev nD) (t : Fin (cfgA T).N) : prev0T T m ρ c t.succ = traj0 T m ρ c t.val t.isLt := by
  unfold prev0T; simp only [Fin.val_succ, Nat.add_one_ne_zero, ↓reduceDIte, Nat.add_one_sub_one]

/-- Kept between points: the body's halves of the two tables. -/
def Phi (m : (ℓ : Loc nD τ sig) → Buf (Elt Bits) ℓ) (ρ : Dev nD → PrngReg) (c : Dev nD) (t : Fin ((cfgA T).N + 1)) : sProp 𝕄 :=
  iprop((tbM0_0.view.loc (c : Thread nD τ) ↦{fullShare.right} T.te) ∗ (tbM0_1.view.loc (c : Thread nD τ) ↦{fullShare.right} T.na))

/-- The proof data of the one pipeline on core `c`. -/
def dats (_ : Fin 1) (c : Dev nD) : Dat τ (Elt Bits) Unit ℕ (UR sig nD τ) ℕ (cfgA T) c where
  A w := (s₀ m ρ).mem (((cfgA T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => (traj0 T m ρ c t.val t.isLt)
  Φ t := Phi T m ρ c t
  q _ := fullShare
  owed _ := 0

theorem after0_0 (c : Dev nD) (t : Fin (cfgA T).N) : (dats T m ρ 0 c).after (0 : Fin 5) t = iblk T m ρ c (0 : Fin 5) t := rfl
theorem after0_1 (c : Dev nD) (t : Fin (cfgA T).N) : (dats T m ρ 0 c).after (1 : Fin 5) t = iblk T m ρ c (1 : Fin 5) t := rfl
theorem after0_2 (c : Dev nD) (t : Fin (cfgA T).N) : (dats T m ρ 0 c).after (2 : Fin 5) t = iblk T m ρ c (2 : Fin 5) t := rfl
theorem after0_3 (c : Dev nD) (t : Fin (cfgA T).N) : (dats T m ρ 0 c).after (3 : Fin 5) t = iblk T m ρ c (3 : Fin 5) t := rfl
theorem after0_4 (c : Dev nD) (t : Fin (cfgA T).N) : (dats T m ρ 0 c).after (4 : Fin 5) t = (traj0 T m ρ c t.val t.isLt) := rfl

/-! ## What each window's staging buffer holds when the body runs -/

/-- Input 0's buffer holds its block, fetched at this point or not. -/
theorem before0_0 (c : Dev nD) (t : Fin (cfgA T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input 1's buffer holds its block, fetched at this point or not. -/
theorem before0_1 (c : Dev nD) (t : Fin (cfgA T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input 2's buffer holds its block, fetched at this point or not. -/
theorem before0_2 (c : Dev nD) (t : Fin (cfgA T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input 3's buffer holds its block, fetched at this point or not. -/
theorem before0_3 (c : Dev nD) (t : Fin (cfgA T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- The buffer's contents carry through the points that leave it idle. -/
theorem hcarry0_4 (c : Dev nD) : ∀ (t : Fin (cfgA T).N) (ht : t.val ≠ 0), (cfgA T).idle (4 : Fin 5) ((cfgA T).grid.coords t) = true → (cfgA T).fresh (4 : Fin 5) t.val = false →
    (dats T m ρ 0 c).after (4 : Fin 5) t = (dats T m ρ 0 c).after (4 : Fin 5) ⟨t.val - 1, by omega⟩ := by
  intro t ht hi hf
  rw [after0_4, after0_4, traj0_eq]
  by_cases q0 : P0_0 T t
  · obtain ⟨i4, -, -⟩ := sched0_C T t q0
    rw [i4] at hi; exact absurd hi (by decide)
  · by_cases q1 : P0_1 T t
    · by_cases q2 : P0_2 T t
      · obtain ⟨i4, -, -⟩ := sched0_A T t q0 q1 q2
        rw [i4] at hi; exact absurd hi (by decide)
      · obtain ⟨i4, -, -⟩ := sched0_B T t q0 q1 q2
        rw [i4] at hi; exact absurd hi (by decide)
    · rw [step0_D T m ρ c t _ q0 q1]
      simp only [hf, Bool.false_eq_true, ↓reduceIte]
      unfold prev0; rw [dif_neg ht]

/-- What the result's buffer holds when the body starts at `t`: anything if nothing was stored since its last
    write-back, else what the point before left. -/
theorem before0_4 (c : Dev nD) (t : Fin (cfgA T).N) (d) :
    (dats T m ρ 0 c).before (4 : Fin 5) t d = if (cfgA T).fresh (4 : Fin 5) t.val then d else (prev0 T m ρ c t) := by
  rw [(dats T m ρ 0 c).before_out_traj (4 : Fin 5) rfl (fun _ _ => rfl) (hcarry0_4 T m ρ c) t.val t rfl d]
  by_cases hf : (cfgA T).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA T).N) : Prog (TpuEff nD τ sig (Elt Bits) Λ₀ .tc) PUnit :=
  cc0_moe_experts (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (ms0_4 T t) (hs0_4 T t)

set_option maxHeartbeats 4000000 in
/-- The body at point `t`: the decisions there choose the branch; the inputs hold their blocks, the result's buffer what
    the steps so far left; the branch's own statement applies. -/
theorem sound_body (hp : Pinned T m) (c : Dev nD) (t : Fin (cfgA T).N) :
    iprop((dats T m ρ 0 c).Φ t.castSucc ∗ (dats T m ρ 0 c).owesAt () t.castSucc
        ∗ (∃ d, owns (c : Thread nD τ) (ms0_0 T t) fullShare ((dats T m ρ 0 c).before (0 : Fin 5) t d))
        ∗ (∃ d, owns (c : Thread nD τ) (ms0_1 T t) fullShare ((dats T m ρ 0 c).before (1 : Fin 5) t d))
        ∗ (∃ d, owns (c : Thread nD τ) (ms0_2 T t) fullShare ((dats T m ρ 0 c).before (2 : Fin 5) t d))
        ∗ (∃ d, owns (c : Thread nD τ) (ms0_3 T t) fullShare ((dats T m ρ 0 c).before (3 : Fin 5) t d))
        ∗ (∃ d, owns (c : Thread nD τ) (ms0_4 T t) fullShare ((dats T m ρ 0 c).before (4 : Fin 5) t d)))
      ⊢ wp frame (wpE (defs₀ (F := Bits)) Variants.none c none) Set.univ (bodyAt0 T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  by_cases q0 : P0_0 T t
  · obtain ⟨i4, f4, fr4⟩ := sched0_C T t q0
    have F0 := hypsR0_C T t q0
    have k0_h1 := F0.1; have F1 := F0.2
    have k0_h2 := F1.1; have F2 := F1.2
    clear F0 F1 F2
    rewrite [i4]
    simp only [before0_0, before0_1, before0_2, before0_3, before0_4, after0_0, after0_1, after0_2, after0_3, after0_4, f4]
    simp only [fr4, Bool.false_eq_true, ↓reduceIte]
    rewrite [show (dats T m ρ 0 c).Φ t.succ = Phi T m ρ c t.succ from rfl, show (dats T m ρ 0 c).Φ t.castSucc = Phi T m ρ c t.castSucc from rfl,
      show (dats T m ρ 0 c).owesAt () t.succ = (dats T m ρ 0 c).owesAt () t.castSucc from rfl]
    try rewrite [traj0_eq, step0_C T m ρ c t _ q0]
    unfold Phi; simp only [prev0T_castSucc, prev0T_succ, traj0_eq, step0_C T m ρ c t _ q0, Fin.val_castSucc, Fin.val_succ]
    iintro ⟨⟨HT0, HT1⟩, Ho, ⟨%d0, H0⟩, ⟨%d1, H1⟩, ⟨%d2, H2⟩, ⟨%d3, H3⟩, ⟨%d4, H4⟩⟩
    iapply ((kernelRun0_C c (crd T t) (ms0_0 T t) (hs0_0 T t) (ms0_1 T t) (hs0_1 T t) (ms0_2 T t) (hs0_2 T t) (ms0_3 T t) (hs0_3 T t) (ms0_4 T t) (hs0_4 T t) T.te T.na (iblk T m ρ c (0 : Fin 5) t) (iblk T m ρ c (1 : Fin 5) t) (iblk T m ρ c (2 : Fin 5) t) (iblk T m ρ c (3 : Fin 5) t) k0_h1 k0_h2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_C_4 c _ _ _ _ _ _ _ _ _ _ _ _ _ _ _ _ _ _ _)
  · by_cases q1 : P0_1 T t
    · by_cases q2 : P0_2 T t
      · obtain ⟨i4, f4, fr4⟩ := sched0_A T t q0 q1 q2
        have F0 := hypsR0_A T t q0 q1 q2
        have k0_h1 := F0.1; have F1 := F0.2
        have k0_h2 := F1.1; have F2 := F1.2
        have k0_h3 := F2.1; have F3 := F2.2
        have k0_h4 := F3.1; have F4 := F3.2
        clear F0 F1 F2 F3 F4
        rewrite [i4]
        simp only [before0_0, before0_1, before0_2, before0_3, before0_4, after0_0, after0_1, after0_2, after0_3, after0_4, f4]
        simp only [fr4, Bool.false_eq_true, ↓reduceIte]
        rewrite [show (dats T m ρ 0 c).Φ t.succ = Phi T m ρ c t.succ from rfl, show (dats T m ρ 0 c).Φ t.castSucc = Phi T m ρ c t.castSucc from rfl,
          show (dats T m ρ 0 c).owesAt () t.succ = (dats T m ρ 0 c).owesAt () t.castSucc from rfl]
        try rewrite [traj0_eq, step0_A T m ρ c t _ q0 q1 q2]
        unfold Phi; simp only [prev0T_castSucc, prev0T_succ, traj0_eq, step0_A T m ρ c t _ q0 q1 q2, Fin.val_castSucc, Fin.val_succ]
        iintro ⟨⟨HT0, HT1⟩, Ho, ⟨%d0, H0⟩, ⟨%d1, H1⟩, ⟨%d2, H2⟩, ⟨%d3, H3⟩, ⟨%d4, H4⟩⟩
        iapply ((kernelRun0_A c (crd T t) (ms0_0 T t) (hs0_0 T t) (ms0_1 T t) (hs0_1 T t) (ms0_2 T t) (hs0_2 T t) (ms0_3 T t) (hs0_3 T t) (ms0_4 T t) (hs0_4 T t) T.te T.na (iblk T m ρ c (0 : Fin 5) t) (iblk T m ρ c (1 : Fin 5) t) (iblk T m ρ c (2 : Fin 5) t) (iblk T m ρ c (3 : Fin 5) t) k0_h1 k0_h2 k0_h3 k0_h4).2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexists _; iexact H4
        iintro ⟨H0, H1, H2, H3, HT0, HT1, ⟨%e4, H4⟩⟩
        isplitl [HT0 HT1]
        · isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        unfold owns; iexists _; isplitr; swap
        · iexact H4
        · ipureintro; exact View.read_writes_of_cover _ _ _ _ _ (cover0_A_4 c _ _ _ _ _ _ _ _ _ _ _ _ _ _ _ _ _ _ _ _ _)
      · obtain ⟨i4, f4, fr4⟩ := sched0_B T t q0 q1 q2
        have F0 := hypsR0_B T t q0 q1 q2
        have k0_h1 := F0.1; have F1 := F0.2
        have k0_h2 := F1.1; have F2 := F1.2
        have k0_h3 := F2.1; have F3 := F2.2
        have k0_h4 := F3.1; have F4 := F3.2
        clear F0 F1 F2 F3 F4
        rewrite [i4]
        simp only [before0_0, before0_1, before0_2, before0_3, before0_4, after0_0, after0_1, after0_2, after0_3, after0_4, f4]
        simp only [fr4, Bool.false_eq_true, ↓reduceIte]
        rewrite [show (dats T m ρ 0 c).Φ t.succ = Phi T m ρ c t.succ from rfl, show (dats T m ρ 0 c).Φ t.castSucc = Phi T m ρ c t.castSucc from rfl,
          show (dats T m ρ 0 c).owesAt () t.succ = (dats T m ρ 0 c).owesAt () t.castSucc from rfl]
        try rewrite [traj0_eq, step0_B T m ρ c t _ q0 q1 q2]
        unfold Phi; simp only [prev0T_castSucc, prev0T_succ, traj0_eq, step0_B T m ρ c t _ q0 q1 q2, Fin.val_castSucc, Fin.val_succ]
        iintro ⟨⟨HT0, HT1⟩, Ho, ⟨%d0, H0⟩, ⟨%d1, H1⟩, ⟨%d2, H2⟩, ⟨%d3, H3⟩, ⟨%d4, H4⟩⟩
        iapply ((kernelRun0_B c (crd T t) (ms0_0 T t) (hs0_0 T t) (ms0_1 T t) (hs0_1 T t) (ms0_2 T t) (hs0_2 T t) (ms0_3 T t) (hs0_3 T t) (ms0_4 T t) (hs0_4 T t) T.te T.na (iblk T m ρ c (0 : Fin 5) t) (iblk T m ρ c (1 : Fin 5) t) (iblk T m ρ c (2 : Fin 5) t) (iblk T m ρ c (3 : Fin 5) t) _ k0_h1 k0_h2 k0_h3 k0_h4).2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        iintro ⟨H0, H1, H2, H3, HT0, HT1, ⟨%e4, H4⟩⟩
        isplitl [HT0 HT1]
        · isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        unfold owns; iexists _; isplitr; swap
        · iexact H4
        · ipureintro; exact View.read_writes_of_cover _ _ _ _ _ (cover0_B_4 c _ _ _ _ _ _ _ _ _ _ _ _ _ _ _ _ _ _ _ _ _ _)
    · obtain ⟨i4, f4, fr4⟩ := sched0_D T t q0 q1
      have F0 := hypsR0_D T t q0 q1
      have k0_h1 := F0.1; have F1 := F0.2
      have k0_h2 := F1.1; have F2 := F1.2
      clear F0 F1 F2
      rewrite [i4]
      simp only [before0_0, before0_1, before0_2, before0_3, before0_4, after0_0, after0_1, after0_2, after0_3, after0_4, f4]
      simp only [fr4, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_D T m ρ c t _ q0 q1]
      unfold Phi; simp only [prev0T_castSucc, prev0T_succ, traj0_eq, step0_D T m ρ c t _ q0 q1, Fin.val_castSucc, Fin.val_succ, fr4, Bool.false_eq_true, ↓reduceIte]
      iintro ⟨⟨HT0, HT1⟩, Ho, ⟨%d0, H0⟩, ⟨%d1, H1⟩, ⟨%d2, H2⟩, ⟨%d3, H3⟩, ⟨%d4, H4⟩⟩
      iapply ((kernelRun0_D c (crd T t) (ms0_0 T t) (hs0_0 T t) (ms0_1 T t) (hs0_1 T t) (ms0_2 T t) (hs0_2 T t) (ms0_3 T t) (hs0_3 T t) (ms0_4 T t) (hs0_4 T t) T.te T.na (iblk T m ρ c (0 : Fin 5) t) (iblk T m ρ c (1 : Fin 5) t) (iblk T m ρ c (2 : Fin 5) t) (iblk T m ρ c (3 : Fin 5) t) k0_h1 k0_h2).2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      iintro ⟨H0, H1, H2, H3, HT0, HT1, H4⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4

/-- The library's body obligation, at every point. -/
theorem body_obligation (hp : Pinned T m) (c : Dev nD) : BodyObligation (dats T m ρ 0 c) (defs₀ (F := Bits)) Variants.none () Set.univ := fun t => by
  rw [bigSep_W0]
  exact sound_body T m ρ hp c t

/-! ## The launch -/

/-- The rounds library's launch element. -/
def u₀ : UR sig nD τ :=
  initOf (Pipeline.cells (pcs T) ((launch0 (F := Bits)).cellOf_inj fun _ => adm T))
    (Pipeline.launchToks (pcs T) ((launch0 (F := Bits)).cellOf_inj fun _ => adm T))

theorem share_eq (c : Dev nD) (w : Fin (cfgA T).W) : (dats T m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, -⟩
  isplitl [HT0]
  · iexact HT0
  iexact HT1

/-- at the last point it gives the scratch buffers back (`hout`), the tables let go. -/
theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨-, -⟩
  isplitr; · iempintro
  iempintro

/-- Every array at what the points computed, every table as it was. -/
def QC : PUnit × MemSt nD τ sig (Elt Bits) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Pinned T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- From any memory with zero counters whose tables are `T`'s, every weakly fair execution ends, every array at the
    computed contents and every semaphore counter at zero. -/
theorem run_main_quiescent (hp : Pinned T m) : θ_run (defs (F := Bits)) (onTc (τ := τ) (main (F := Bits))) (s₀ m ρ) (fun r => QC T m ρ r ∧ r.2.sem = fun _ => 0) :=
  Pipeline.θ_run_region_noSem_pf_quiescent pcfgs (fun _ => adm T) (dats T m ρ) () ((launch0 (F := Bits)).cellOf_inj fun _ => adm T) (0 : Fin 1)
    (launch0 (F := Bits)).win.to₀ (launch0 (F := Bits)).pre EP defs₀ Variants.none m ρ main
    (hbody := fun c => (body_obligation T m ρ hp c).loose) (hne := (launch0 (F := Bits)).block_pos)
    (harr := (launch0 (F := Bits)).arr_whole) (hstage := (launch0 (F := Bits)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Bits)).win.arr_inj c (launch0 (F := Bits)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned T m) : θ_run (defs (F := Bits)) (onTc (τ := τ) (main (F := Bits))) (s₀ m ρ) (QC T m ρ) :=
  (θ_run defs _ _).mono (fun _ h => h.1) (run_main_quiescent T m ρ hp)

/-- The argument arrays end unchanged. -/
theorem unchanged (hp : Pinned T m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats T m ρ 0 c).arrAt_in (0 : Fin 5) rfl _), ((h c).1 (1 : Fin 5)).trans ((dats T m ρ 0 c).arrAt_in (1 : Fin 5) rfl _), ((h c).1 (2 : Fin 5)).trans ((dats T m ρ 0 c).arrAt_in (2 : Fin 5) rfl _), ((h c).1 (3 : Fin 5)).trans ((dats T m ρ 0 c).arrAt_in (3 : Fin 5) rfl _)⟩) (run_main T m ρ hp)

/-- From a memory whose tables are `T`'s every execution ends, nothing faults, every argument array ends unchanged and
    every semaphore counter reads zero. -/
theorem frame (hp : Pinned T m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged T m ρ hp) ((θ_run defs _ _).mono (fun _ h => h.2) (run_main_quiescent T m ρ hp))

end Cert.Experts.Moe

end
-- ==== Proof.ExpertsPre.lean ====
/- The precondition gives tables within their ranges. -/
module

public import proofs.«01_k».proof.Defs
public import proofs.«01_k».proof.Proof.Tables
public import proofs.«01_k».proof.Proof.ExpertsFrame

@[expose] public section

noncomputable section

namespace Cert.Experts.Moe

open Cert.Experts Cert.Experts.Gen Idealize.ShloMosaic Idealize.ShloMosaic.TcCoe Idealize.SL.Sem

/-- The tables of a memory the precondition holds of. -/
def tabsOf (m : (ℓ : Loc nD τ sig) → Buf (Elt Bits) ℓ) (h : Cert.Pre_Experts (hPre_tables := Cert.Pre_tables.Gen.facts) m) : Tabs where
  te := m (((0 : Dev nD).tc : Thread nD τ).loc main_arg0)
  na := m (((0 : Dev nD).tc : Thread nD τ).loc main_arg1)
  te_lt := (Cert.Pre_tables.Val.ranges _ _ _ _ _ _ (h 0)).1
  na_pos x := ((Cert.Pre_tables.Val.ranges _ _ _ _ _ _ (h 0)).2 x).1
  na_le x := ((Cert.Pre_tables.Val.ranges _ _ _ _ _ _ (h 0)).2 x).2

theorem pinned_of_pre (m : (ℓ : Loc nD τ sig) → Buf (Elt Bits) ℓ) (h : Cert.Pre_Experts (hPre_tables := Cert.Pre_tables.Gen.facts) m) :
    Pinned (tabsOf m h) m :=
  ⟨fun c => by rw [Subsingleton.elim c 0]; rfl, fun c => by rw [Subsingleton.elim c 0]; rfl⟩

/-- The frame claim. -/
theorem frame_pre : Cert.quiescent_Experts (hExperts := Cert.Experts.Gen.facts) (hPre_tables := Cert.Pre_tables.Gen.facts) :=
  fun m g h => frame (tabsOf m h) m g (pinned_of_pre m h)

end Cert.Experts.Moe

end
-- ==== Proof.ExpertsIdealTab.lean ====
/- The experts' tables: which expert each tile of tokens belongs to and how many tiles are in use. Under the ranges the
   precondition gives, every block the tables name lies inside its array, and the body's branches are told apart by
   whether the tile is in use and which half of the hidden layer the point takes. -/
module

public import proofs.«01_k».proof.Proof.Words
public import proofs.«01_k».proof.Proof.Gen.ExpertsIdeal.Flash.Runs

@[expose] public section

set_option maxRecDepth 16384
set_option Elab.async false

noncomputable section

namespace Cert.ExpertsIdeal.Moe

open Cert.ExpertsIdeal Cert.ExpertsIdeal.Gen Cert.Words
open Idealize.ShloMosaic
open Idealize.ShloMosaic.TcCoe

/-- The one place of the second table. -/
def z1 : S1.Idx := fun a => ⟨0, (by decide : ∀ b : Fin 1, 0 < S1.size b) a⟩
/-- Place `x` of the first table. -/
def p72 (x : Fin 72) : S72.Idx := fun a => ⟨x.val, lt_of_lt_of_le x.isLt ((by decide : ∀ b : Fin 1, 72 ≤ S72.size b) a)⟩

/-- The two tables within their ranges. -/
structure Tabs where
  te : S72.Idx → BitVec 32
  na : S1.Idx → BitVec 32
  te_lt : ∀ x, (te x).toNat < 8
  na_pos : ∀ x, 1 ≤ (na x).toNat
  na_le : ∀ x, (na x).toNat ≤ 72

variable (T : Tabs)

/-- The number of tiles in use. -/
def Tabs.n : ℕ := (T.na z1).toNat
/-- The expert of tile `x`. -/
def Tabs.e (x : Fin 72) : ℕ := (T.te (p72 x)).toNat

theorem Tabs.n_pos : 1 ≤ T.n := T.na_pos _
theorem Tabs.n_le : T.n ≤ 72 := T.na_le _
theorem Tabs.e_lt (x : Fin 72) : T.e x < 8 := T.te_lt _

theorem idx1 (x y : S1.Idx) : x = y := funext fun a => by
  have h : ∀ b : Fin 1, ∀ p q : Fin (S1.size b), p = q := by decide
  exact h a _ _

set_option backward.proofsInPublic true in
/-- The tables' contents. -/
def pfN : pre0.Contents (Elt Ideal) := fun | ⟨0, _⟩ => T.te | ⟨1, _⟩ => T.na | ⟨_ + 2, h⟩ => absurd h (by simp)

/-- The word the body reads of the second table. -/
theorem word1 : View.readAt (Elt Ideal) (tbM0_1).view (Rect.unit (s := S1) ![0] S1.size inb_S1_S1_0).toLoadRect T.na
    (Shape.Idx.first (numel1_S1.symm ▸ Nat.one_pos)) = T.na z1 :=
  (show _ = T.na _ from rfl).trans (congrArg T.na (idx1 _ _))

theorem at1 : (pfN T).at 1 (Rect.unit (s := S1) ![0] S1.size inb_S1_S1_0) numel1_S1 = T.na z1 :=
  (show _ = T.na _ from rfl).trans (congrArg T.na (idx1 _ _))

theorem at0 (i : grid0.Coords) (h : ∀ a, (k0_off1 i) a + S1.size a ≤ S72.size a) :
    (pfN T).at 0 (Rect.unit (s := S72) (k0_off1 i) S1.size h) numel1_S1 = T.te (p72 (i 0)) := by
  refine (show _ = T.te _ from rfl).trans (congrArg T.te (funext fun a => ?_))
  apply Fin.ext
  show k0_off1 i a + 0 * 1 = (i 0).val
  rw [k0_off1_eq]
  fin_cases a
  rfl

theorem atD1 : (pfN T).atD 1 ![0] = T.na z1 :=
  (show _ = T.na _ from rfl).trans (congrArg T.na (idx1 _ _))

/-! ## The conditions -/

theorem i0_lt (i : grid0.Coords) : (i 0).val < 72 := (i 0).isLt
theorem i1_lt (i : grid0.Coords) : (i 1).val < 2 := (i 1).isLt

theorem cond1_iff (i : grid0.Coords) : k0_cond1 i (T.na z1) = 1#1 ↔ ¬ (i 0).val < T.n ∧ (i 1).val = 0 := by
  have h0 := i0_lt i; have h1 := i1_lt i; have hn := T.n_le
  unfold Tabs.n at hn ⊢
  show Scalar.cmpi .ne (Scalar.extui (Scalar.andi (Scalar.xori (BitVec.ofBool ((BitVec.ofNat 32 (i 0).val).slt _)) 1#1)
    (BitVec.ofBool ((BitVec.ofNat 32 (i 1).val) == 0#32)))) 0#32 = 1#1 ↔ _
  rw [ne_extui, notand_one, slt_ofNat _ (by omega) _ (by omega), eq_zero _ (by omega)]
  simp only [decide_eq_false_iff_not, decide_eq_true_eq]

theorem cond2_iff (i : grid0.Coords) : k0_cond2 i (T.na z1) = 1#1 ↔ (i 0).val < T.n := by
  have h0 := i0_lt i; have hn := T.n_le
  unfold Tabs.n at hn ⊢
  show Scalar.cmpi .ne (Scalar.extui (BitVec.ofBool ((BitVec.ofNat 32 (i 0).val).slt _))) 0#32 = 1#1 ↔ _
  rw [ne_extui, ofBool_one, slt_ofNat _ (by omega) _ (by omega), decide_eq_true_eq]

theorem cond3_iff (i : grid0.Coords) : k0_cond3 i = 1#1 ↔ (i 1).val = 0 := by
  have h1 := i1_lt i
  show Scalar.cmpi .ne (Scalar.extui (BitVec.ofBool ((BitVec.ofNat 32 (i 1).val) == 0#32))) 0#32 = 1#1 ↔ _
  rw [ne_extui, ofBool_one, eq_zero _ (by omega), decide_eq_true_eq]

theorem cond4_iff (i : grid0.Coords) : k0_cond4 i = 1#1 ↔ (i 1).val ≠ 0 := by
  have h1 := i1_lt i
  show Scalar.cmpi .ne (Scalar.extui (BitVec.ofBool ((0#32 : BitVec 32).slt (BitVec.ofNat 32 (i 1).val)))) 0#32 = 1#1 ↔ _
  have e := toNat_ofNat (i 1).val (by omega)
  rw [ne_extui, ofBool_one, slt_eq _ _ (by decide) (by omega), e, decide_eq_true_eq]
  show 0 < _ ↔ _
  omega

/-! ## The blocks the tables name -/

/-- The tile of tokens read at a point: its own, or the last in use. -/
theorem t0_eq (i : grid0.Coords) : cc0_transform_0 inb_S1_S1_0 numel1_S1 (pfN T) i = ![min (i 0).val (T.n - 1), 0] := by
  have h0 := i0_lt i; have hn := T.n_le; have hp := T.n_pos
  unfold Tabs.n at hn hp ⊢
  show ![(Scalar.minsi (BitVec.ofNat 32 (i 0).val) (Scalar.subi ((pfN T).at 1 (Rect.unit (s := S1) ![0] S1.size inb_S1_S1_0) numel1_S1) 1#32)).toNat, 0] = _
  rw [at1, min_word _ (by omega) _ hp (by omega)]

/-- The half of the hidden layer read at a point. -/
def Tabs.half (i : grid0.Coords) : ℕ := if (i 0).val < T.n then (i 1).val else 1

theorem Tabs.half_lt (i : grid0.Coords) : T.half i < 2 := by
  have := i1_lt i; unfold Tabs.half; split <;> omega

theorem sel_eq (i : grid0.Coords) : (Scalar.select (Scalar.cmpi .slt (BitVec.ofNat 32 (i 0).val)
    ((pfN T).at 1 (Rect.unit (s := S1) ![0] S1.size inb_S1_S1_0) numel1_S1)) (BitVec.ofNat 32 (i 1).val) 1#32).toNat = T.half i := by
  have h0 := i0_lt i; have h1 := i1_lt i; have hn := T.n_le
  unfold Tabs.half
  unfold Tabs.n at hn ⊢
  rw [at1]
  show (Scalar.select (BitVec.ofBool ((BitVec.ofNat 32 (i 0).val).slt (T.na z1))) (BitVec.ofNat 32 (i 1).val) 1#32).toNat = _
  rw [sel_word _ _ (by omega), slt_ofNat _ (by omega) _ (by omega)]
  simp only [decide_eq_true_eq]

theorem t1_eq (i : grid0.Coords) : cc0_transform_1 k0_off1_inb numel1_S1 inb_S1_S1_0 (pfN T) i = ![T.e (i 0), 0, T.half i] := by
  show ![((pfN T).at 0 (Rect.unit (s := S72) (k0_off1 i) S1.size (k0_off1_inb i)) numel1_S1).toNat, 0, _] = _
  rw [at0]
  exact congrArg (fun z => ![T.e (i 0), 0, z]) (sel_eq T i)

theorem t2_eq (i : grid0.Coords) : cc0_transform_2 k0_off1_inb numel1_S1 inb_S1_S1_0 (pfN T) i = ![T.e (i 0), 0, T.half i] := by
  show ![((pfN T).at 0 (Rect.unit (s := S72) (k0_off1 i) S1.size (k0_off1_inb i)) numel1_S1).toNat, 0, _] = _
  rw [at0]
  exact congrArg (fun z => ![T.e (i 0), 0, z]) (sel_eq T i)

theorem t3_eq (i : grid0.Coords) : cc0_transform_3 k0_off1_inb numel1_S1 inb_S1_S1_0 (pfN T) i = ![T.e (i 0), T.half i, 0] := by
  show ![((pfN T).at 0 (Rect.unit (s := S72) (k0_off1 i) S1.size (k0_off1_inb i)) numel1_S1).toNat, _, 0] = _
  rw [at0]
  exact congrArg (fun z => ![T.e (i 0), z, 0]) (sel_eq T i)

theorem ok_0 (i : grid0.Coords) : ∀ a, (cc0_transform_0 inb_S1_S1_0 numel1_S1 (pfN T) i a + 1) * S1024x1024.size a ≤ S73728x1024.size a := by
  have hn := T.n_le; have hp := T.n_pos
  rw [t0_eq]
  intro a; fin_cases a
  · show (min (i 0).val (T.n - 1) + 1) * 1024 ≤ 73728; omega
  · show (0 + 1) * 1024 ≤ 1024; omega

theorem ok_1 (i : grid0.Coords) : ∀ a, (cc0_transform_1 k0_off1_inb numel1_S1 inb_S1_S1_0 (pfN T) i a + 1) * S1x1024x1792.size a ≤ S8x1024x3584.size a := by
  have he := T.e_lt (i 0); have hh := T.half_lt i
  rw [t1_eq]
  intro a; fin_cases a
  · show (T.e (i 0) + 1) * 1 ≤ 8; omega
  · show (0 + 1) * 1024 ≤ 1024; omega
  · show (T.half i + 1) * 1792 ≤ 3584; omega

theorem ok_2 (i : grid0.Coords) : ∀ a, (cc0_transform_2 k0_off1_inb numel1_S1 inb_S1_S1_0 (pfN T) i a + 1) * S1x1024x1792.size a ≤ S8x1024x3584.size a := by
  have he := T.e_lt (i 0); have hh := T.half_lt i
  rw [t2_eq]
  intro a; fin_cases a
  · show (T.e (i 0) + 1) * 1 ≤ 8; omega
  · show (0 + 1) * 1024 ≤ 1024; omega
  · show (T.half i + 1) * 1792 ≤ 3584; omega

theorem ok_3 (i : grid0.Coords) : ∀ a, (cc0_transform_3 k0_off1_inb numel1_S1 inb_S1_S1_0 (pfN T) i a + 1) * S1x1792x1024.size a ≤ S8x3584x1024.size a := by
  have he := T.e_lt (i 0); have hh := T.half_lt i
  rw [t3_eq]
  intro a; fin_cases a
  · show (T.e (i 0) + 1) * 1 ≤ 8; omega
  · show (T.half i + 1) * 1792 ≤ 3584; omega
  · show (0 + 1) * 1024 ≤ 1024; omega

theorem ok_pfN : ok0 (F := Ideal) (pfN T) :=
  ⟨fun i => ⟨ok_0 T i, .inl rfl⟩,
   fun i => ⟨ok_1 T i, .inr (Affine.block_words_dvd (s := S8x1024x3584) (p := EltTy.packing .bf16) (by decide) (by decide))⟩,
   fun i => ⟨ok_2 T i, .inr (Affine.block_words_dvd (s := S8x1024x3584) (p := EltTy.packing .bf16) (by decide) (by decide))⟩,
   fun i => ⟨ok_3 T i, .inr (Affine.block_words_dvd (s := S8x3584x1024) (p := EltTy.packing .bf16) (by decide) (by decide))⟩⟩

/-! ## The pipeline at the tables -/

def adm : (pcfg0 (F := Ideal)).Adm := ⟨pfN T, ok_pfN T⟩
abbrev cfgA : Pipeline.Cfg sig Λ₀ := cfg0 (F := Ideal) (adm T)
abbrev pcs : Fin 1 → Pipeline.Cfg sig Λ₀ := Pipeline.pin (pcfgs (F := Ideal)) fun _ => adm T

/-- Point `t`'s coordinates. -/
abbrev crd (t : Fin (cfgA T).N) : (cfgA T).grid.Coords := (cfgA T).grid.coords t

theorem crd_0 : ∀ t : Fin grid0.N, (grid0.coords t 0).val = t.val / 2 := by decide +kernel
theorem crd_1 : ∀ t : Fin grid0.N, (grid0.coords t 1).val = t.val % 2 := by decide +kernel

/-- The decisions of a point: an idle tile's first point, a tile in use, the first half. -/
abbrev P0_0 (t : Fin (cfgA T).N) : Prop := k0_cond1 (crd T t) (View.readAt (Elt Ideal) (tbM0_1).view (Rect.unit (s := S1) ![0] S1.size inb_S1_S1_0).toLoadRect T.na (Shape.Idx.first (numel1_S1.symm ▸ Nat.one_pos))) = 1#1
abbrev P0_1 (t : Fin (cfgA T).N) : Prop := k0_cond2 (crd T t) (View.readAt (Elt Ideal) (tbM0_1).view (Rect.unit (s := S1) ![0] S1.size inb_S1_S1_0).toLoadRect T.na (Shape.Idx.first (numel1_S1.symm ▸ Nat.one_pos))) = 1#1
abbrev P0_2 (t : Fin (cfgA T).N) : Prop := k0_cond3 (crd T t) = 1#1

theorem P0_0_iff (t : Fin (cfgA T).N) : P0_0 T t ↔ ¬ t.val / 2 < T.n ∧ t.val % 2 = 0 := by
  unfold P0_0; rw [word1, cond1_iff, crd_0, crd_1]
theorem P0_1_iff (t : Fin (cfgA T).N) : P0_1 T t ↔ t.val / 2 < T.n := by
  unfold P0_1; rw [word1, cond2_iff, crd_0]
theorem P0_2_iff (t : Fin (cfgA T).N) : P0_2 T t ↔ t.val % 2 = 0 := by
  unfold P0_2; rw [cond3_iff, crd_1]
theorem P0_3_iff (t : Fin (cfgA T).N) : k0_cond4 (crd T t) = 1#1 ↔ t.val % 2 ≠ 0 := by
  rw [cond4_iff, crd_1]

/-- The result's block is written back after the second half. -/
theorem flush4 (t : Fin (cfgA T).N) : ((cfgA T).win (4 : Fin 5)).flush t = decide (t.val % 2 = 1) := by
  have key : ∀ t : Fin grid0.N, (true && (decide (t.val + 1 = grid0.N) || decide (∃ h : t.val + 1 < grid0.N, ∃ a, cc0_transform_4 (grid0.coords ⟨t.val + 1, h⟩) a ≠ cc0_transform_4 (grid0.coords t) a)))
      = decide (t.val % 2 = 1) := by decide +kernel
  rw [Pipeline.Window.flush_eq_flushF]
  exact key t

/-- The result's block is left as it is at an idle tile's second point only. -/
theorem idle4 (t : Fin (cfgA T).N) :
    (cfgA T).idle (4 : Fin 5) ((cfgA T).grid.coords t) = decide (¬ t.val / 2 < T.n ∧ t.val % 2 = 1) := by
  show (!(k0_cond1 (crd T t) ((pfN T).atD 1 ![0]) == 1#1) && !(k0_cond2 (crd T t) ((pfN T).atD 1 ![0]) == 1#1 && k0_cond3 (crd T t) == 1#1)
    && !(k0_cond2 (crd T t) ((pfN T).atD 1 ![0]) == 1#1 && k0_cond4 (crd T t) == 1#1)) = _
  have e0 : ((crd T t) 0).val = t.val / 2 := crd_0 t
  have e1 : ((crd T t) 1).val = t.val % 2 := crd_1 t
  rw [atD1, Bool.eq_iff_iff]
  simp only [Bool.and_eq_true, Bool.not_eq_true', beq_eq_false_iff_ne, Bool.and_eq_false_iff, decide_eq_true_eq, ne_eq, cond1_iff, cond2_iff, cond3_iff, cond4_iff, e0, e1]
  omega

/-- Nothing has been stored since the last write-back exactly before a tile's first point. -/
theorem fresh4 (t : Fin (cfgA T).N) : (cfgA T).fresh (4 : Fin 5) t.val = decide (t.val % 2 = 0) := by
  refine Pipeline.Cfg.fresh_tab (cfgA T) (4 : Fin 5) (fun n => decide (n % 2 = 0)) rfl (fun t => ?_) t.val (Nat.le_of_lt t.isLt)
  rw [flush4, idle4, Bool.eq_iff_iff]
  simp only [Bool.or_eq_true, Bool.and_eq_true, decide_eq_true_eq]
  omega

end Cert.ExpertsIdeal.Moe

end
-- ==== Proof.ExpertsIdealFrame.lean ====
/- The experts' call under any tables within their ranges: what every tile's buffer holds after each point, and that
   every execution ends with the arguments as they were, the result array at the blocks written back. The body's four
   runs are the generated ones, stated for any tables; only the choice between them is made here. -/
module

public import proofs.«01_k».proof.Proof.ExpertsIdealTab
public import proofs.«01_k».proof.Proof.Gen.ExpertsIdeal.Launch
public import Idealize.ShloMosaic.Lib.Claim

@[expose] public section

set_option maxRecDepth 16384
set_option Elab.async false

noncomputable section

namespace Cert.ExpertsIdeal.Moe

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra: the rounds library's, for the pipeline's staging cells, embedded whole. -/
abbrev EP : Emb (UR sig nD τ) 𝕄 := emb₁

variable (T : Tabs)
variable (m : (ℓ : Loc nD τ sig) → Buf (Elt Ideal) ℓ) (ρ : Dev nD → PrngReg)

/-- Each window's current staging memref at point `t`, spelled as the pipeline passes it, and its wholeness. -/
abbrev ms0_0 (t : Fin (cfgA T).N) : Memref sig .tc .vmem S1024x1024 .f32 := spec0_0.stage ((cfgA T).slots t (0 : Fin 5))
abbrev hs0_0 (t : Fin (cfgA T).N) : (ms0_0 T t).IsWhole := hstage0_0 (((cfgA T).slots t (0 : Fin 5)).cast nbuf0_0)
abbrev ms0_1 (t : Fin (cfgA T).N) : Memref sig .tc .vmem S1x1024x1792 .bf16 := spec0_1.stage ((cfgA T).slots t (1 : Fin 5))
abbrev hs0_1 (t : Fin (cfgA T).N) : (ms0_1 T t).IsWhole := hstage0_1 (((cfgA T).slots t (1 : Fin 5)).cast nbuf0_1)
abbrev ms0_2 (t : Fin (cfgA T).N) : Memref sig .tc .vmem S1x1024x1792 .bf16 := spec0_2.stage ((cfgA T).slots t (2 : Fin 5))
abbrev hs0_2 (t : Fin (cfgA T).N) : (ms0_2 T t).IsWhole := hstage0_2 (((cfgA T).slots t (2 : Fin 5)).cast nbuf0_2)
abbrev ms0_3 (t : Fin (cfgA T).N) : Memref sig .tc .vmem S1x1792x1024 .bf16 := spec0_3.stage ((cfgA T).slots t (3 : Fin 5))
abbrev hs0_3 (t : Fin (cfgA T).N) : (ms0_3 T t).IsWhole := hstage0_3 (((cfgA T).slots t (3 : Fin 5)).cast nbuf0_3)
abbrev ms0_4 (t : Fin (cfgA T).N) : Memref sig .tc .vmem S1024x1024 .f32 := spec0_4.stage ((cfgA T).slots t (4 : Fin 5))
abbrev hs0_4 (t : Fin (cfgA T).N) : (ms0_4 T t).IsWhole := hstage0_4 (((cfgA T).slots t (4 : Fin 5)).cast nbuf0_4)

/-! ## The windows' blocks -/

/-- Window `w`'s block at point `t`, read off its array at launch. -/
def iblk (c : Dev nD) (w : Fin (cfgA T).W) (t : Fin (cfgA T).N) : (((cfgA T).win w).xblock (crd T t)).Idx → Elt Ideal ((cfgA T).win w).elt :=
  (((cfgA T).win w).blk t).view.read (Elt Ideal) ((s₀ m ρ).mem (((cfgA T).win w).arr.view.loc (c : Thread nD τ)))

/-- The tables the call is launched with are `T`'s. -/
def Pinned (m : (ℓ : Loc nD τ sig) → Buf (Elt Ideal) ℓ) : Prop :=
  (∀ c : Dev nD, m ((c : Thread nD τ).loc main_arg0) = T.te) ∧ (∀ c : Dev nD, m ((c : Thread nD τ).loc main_arg1) = T.na)

/-! ## What each of the four branches knows of its point -/

/-- A tile in use, first half. -/
theorem hypsR0_A (t : Fin (cfgA T).N) (q0 : ¬P0_0 T t) (q1 : P0_1 T t) (q2 : P0_2 T t) :
    (¬(k0_cond1 (crd T t) (View.readAt (Elt Ideal) (tbM0_1).view (Rect.unit (s := S1) ![0] S1.size inb_S1_S1_0).toLoadRect T.na (Shape.Idx.first (numel1_S1.symm ▸ Nat.one_pos))) = 1#1)) ∧ ((k0_cond2 (crd T t) (View.readAt (Elt Ideal) (tbM0_1).view (Rect.unit (s := S1) ![0] S1.size inb_S1_S1_0).toLoadRect T.na (Shape.Idx.first (numel1_S1.symm ▸ Nat.one_pos))) = 1#1) ∧ ((k0_cond3 (crd T t) = 1#1) ∧ ((¬(k0_cond4 (crd T t) = 1#1)) ∧ (True)))) :=
  ⟨q0, q1, q2, fun h => ((P0_3_iff T t).mp h) ((P0_2_iff T t).mp q2), trivial⟩

/-- A tile in use, second half. -/
theorem hypsR0_B (t : Fin (cfgA T).N) (q0 : ¬P0_0 T t) (q1 : P0_1 T t) (q2 : ¬P0_2 T t) :
    (¬(k0_cond1 (crd T t) (View.readAt (Elt Ideal) (tbM0_1).view (Rect.unit (s := S1) ![0] S1.size inb_S1_S1_0).toLoadRect T.na (Shape.Idx.first (numel1_S1.symm ▸ Nat.one_pos))) = 1#1)) ∧ ((k0_cond2 (crd T t) (View.readAt (Elt Ideal) (tbM0_1).view (Rect.unit (s := S1) ![0] S1.size inb_S1_S1_0).toLoadRect T.na (Shape.Idx.first (numel1_S1.symm ▸ Nat.one_pos))) = 1#1) ∧ ((¬(k0_cond3 (crd T t) = 1#1)) ∧ ((k0_cond4 (crd T t) = 1#1) ∧ (True)))) :=
  ⟨q0, q1, q2, (P0_3_iff T t).mpr fun h => q2 ((P0_2_iff T t).mpr h), trivial⟩

/-- An idle tile's first point. -/
theorem hypsR0_C (t : Fin (cfgA T).N) (q0 : P0_0 T t) :
    (k0_cond1 (crd T t) (View.readAt (Elt Ideal) (tbM0_1).view (Rect.unit (s := S1) ![0] S1.size inb_S1_S1_0).toLoadRect T.na (Shape.Idx.first (numel1_S1.symm ▸ Nat.one_pos))) = 1#1) ∧ ((¬(k0_cond2 (crd T t) (View.readAt (Elt Ideal) (tbM0_1).view (Rect.unit (s := S1) ![0] S1.size inb_S1_S1_0).toLoadRect T.na (Shape.Idx.first (numel1_S1.symm ▸ Nat.one_pos))) = 1#1)) ∧ (True)) :=
  ⟨q0, fun h => ((P0_0_iff T t).mp q0).1 ((P0_1_iff T t).mp h), trivial⟩

/-- An idle tile's second point. -/
theorem hypsR0_D (t : Fin (cfgA T).N) (q0 : ¬P0_0 T t) (q1 : ¬P0_1 T t) :
    (¬(k0_cond1 (crd T t) (View.readAt (Elt Ideal) (tbM0_1).view (Rect.unit (s := S1) ![0] S1.size inb_S1_S1_0).toLoadRect T.na (Shape.Idx.first (numel1_S1.symm ▸ Nat.one_pos))) = 1#1)) ∧ ((¬(k0_cond2 (crd T t) (View.readAt (Elt Ideal) (tbM0_1).view (Rect.unit (s := S1) ![0] S1.size inb_S1_S1_0).toLoadRect T.na (Shape.Idx.first (numel1_S1.symm ▸ Nat.one_pos))) = 1#1)) ∧ (True)) := ⟨q0, q1, trivial⟩

theorem sched0_A (t : Fin (cfgA T).N) (q0 : ¬P0_0 T t) (q1 : P0_1 T t) (q2 : P0_2 T t) :
    (cfgA T).idle (4 : Fin 5) ((cfgA T).grid.coords t) = false ∧ ((cfgA T).win (4 : Fin 5)).flush t = false ∧ (cfgA T).fresh (4 : Fin 5) t.val = true := by
  rw [P0_0_iff] at q0; rw [P0_1_iff] at q1; rw [P0_2_iff] at q2
  rw [idle4, flush4, fresh4]
  simp only [decide_eq_false_iff_not, decide_eq_true_eq]
  omega

theorem sched0_B (t : Fin (cfgA T).N) (q0 : ¬P0_0 T t) (q1 : P0_1 T t) (q2 : ¬P0_2 T t) :
    (cfgA T).idle (4 : Fin 5) ((cfgA T).grid.coords t) = false ∧ ((cfgA T).win (4 : Fin 5)).flush t = true ∧ (cfgA T).fresh (4 : Fin 5) t.val = false := by
  rw [P0_0_iff] at q0; rw [P0_1_iff] at q1; rw [P0_2_iff] at q2
  rw [idle4, flush4, fresh4]
  simp only [decide_eq_false_iff_not, decide_eq_true_eq]
  omega

theorem sched0_C (t : Fin (cfgA T).N) (q0 : P0_0 T t) :
    (cfgA T).idle (4 : Fin 5) ((cfgA T).grid.coords t) = false ∧ ((cfgA T).win (4 : Fin 5)).flush t = false ∧ (cfgA T).fresh (4 : Fin 5) t.val = true := by
  rw [P0_0_iff] at q0
  rw [idle4, flush4, fresh4]
  simp only [decide_eq_false_iff_not, decide_eq_true_eq]
  omega

theorem sched0_D (t : Fin (cfgA T).N) (q0 : ¬P0_0 T t) (q1 : ¬P0_1 T t) :
    (cfgA T).idle (4 : Fin 5) ((cfgA T).grid.coords t) = true ∧ ((cfgA T).win (4 : Fin 5)).flush t = true ∧ (cfgA T).fresh (4 : Fin 5) t.val = false := by
  rw [P0_0_iff] at q0; rw [P0_1_iff] at q1
  rw [idle4, flush4, fresh4]
  simp only [decide_eq_false_iff_not, decide_eq_true_eq]
  omega

/-! ## What the result's buffer holds after each point -/

/-- One step: what the result's buffer holds after the body at point `t`, from what it held before (`prev`): what the
    branch taken there stores; an idle tile's second point keeps what it held. -/
def step0 (c : Dev nD) (t : Fin (cfgA T).N) (prev : (S1024x1024.Idx → Elt Ideal .f32)) : (S1024x1024.Idx → Elt Ideal .f32) :=
  if q0 : P0_0 T t then
    out0_C_4 c (crd T t) (ms0_0 T t) (hs0_0 T t) (ms0_1 T t) (hs0_1 T t) (ms0_2 T t) (hs0_2 T t) (ms0_3 T t) (hs0_3 T t) (ms0_4 T t) (hs0_4 T t) T.te T.na (iblk T m ρ c (0 : Fin 5) t) (iblk T m ρ c (1 : Fin 5) t) (iblk T m ρ c (2 : Fin 5) t) (iblk T m ρ c (3 : Fin 5) t) (hypsR0_C T t q0).1 (hypsR0_C T t q0).2.1
  else
    if q1 : P0_1 T t then
      if q2 : P0_2 T t then
        out0_A_4 c (crd T t) (ms0_0 T t) (hs0_0 T t) (ms0_1 T t) (hs0_1 T t) (ms0_2 T t) (hs0_2 T t) (ms0_3 T t) (hs0_3 T t) (ms0_4 T t) (hs0_4 T t) T.te T.na (iblk T m ρ c (0 : Fin 5) t) (iblk T m ρ c (1 : Fin 5) t) (iblk T m ρ c (2 : Fin 5) t) (iblk T m ρ c (3 : Fin 5) t) (hypsR0_A T t q0 q1 q2).1 (hypsR0_A T t q0 q1 q2).2.1 (hypsR0_A T t q0 q1 q2).2.2.1 (hypsR0_A T t q0 q1 q2).2.2.2.1
      else
        out0_B_4 c (crd T t) (ms0_0 T t) (hs0_0 T t) (ms0_1 T t) (hs0_1 T t) (ms0_2 T t) (hs0_2 T t) (ms0_3 T t) (hs0_3 T t) (ms0_4 T t) (hs0_4 T t) T.te T.na (iblk T m ρ c (0 : Fin 5) t) (iblk T m ρ c (1 : Fin 5) t) (iblk T m ρ c (2 : Fin 5) t) (iblk T m ρ c (3 : Fin 5) t) prev (hypsR0_B T t q0 q1 q2).1 (hypsR0_B T t q0 q1 q2).2.1 (hypsR0_B T t q0 q1 q2).2.2.1 (hypsR0_B T t q0 q1 q2).2.2.2.1
    else
      (if (cfgA T).fresh (4 : Fin 5) t.val then default else prev)

/-- What the buffer holds after point `n`. -/
def traj0 (c : Dev nD) : (n : ℕ) → n < (cfgA T).N → (S1024x1024.Idx → Elt Ideal .f32)
  | 0, h => step0 T m ρ c ⟨0, h⟩ default
  | n + 1, h => step0 T m ρ c ⟨n + 1, h⟩ (traj0 c n (Nat.lt_of_succ_lt h))

/-- What the buffer held before point `t` (anything before the first). -/
def prev0 (c : Dev nD) (t : Fin (cfgA T).N) : (S1024x1024.Idx → Elt Ideal .f32) :=
  if h : t.val = 0 then default else traj0 T m ρ c (t.val - 1) (by omega)

theorem traj0_eq (c : Dev nD) (t : Fin (cfgA T).N) : traj0 T m ρ c t.val t.isLt = step0 T m ρ c t (prev0 T m ρ c t) := by
  obtain ⟨n, hn⟩ := t
  cases n with
  | zero => rfl
  | succ n => unfold prev0; simp only [Nat.add_one_ne_zero, dif_neg, not_false_eq_true]; rfl

/-- The step at a tile in use, first half. -/
theorem step0_A (c : Dev nD) (t : Fin (cfgA T).N) (prev : (S1024x1024.Idx → Elt Ideal .f32)) (q0 : ¬P0_0 T t) (q1 : P0_1 T t) (q2 : P0_2 T t) :
    step0 T m ρ c t prev = out0_A_4 c (crd T t) (ms0_0 T t) (hs0_0 T t) (ms0_1 T t) (hs0_1 T t) (ms0_2 T t) (hs0_2 T t) (ms0_3 T t) (hs0_3 T t) (ms0_4 T t) (hs0_4 T t) T.te T.na (iblk T m ρ c (0 : Fin 5) t) (iblk T m ρ c (1 : Fin 5) t) (iblk T m ρ c (2 : Fin 5) t) (iblk T m ρ c (3 : Fin 5) t) (hypsR0_A T t q0 q1 q2).1 (hypsR0_A T t q0 q1 q2).2.1 (hypsR0_A T t q0 q1 q2).2.2.1 (hypsR0_A T t q0 q1 q2).2.2.2.1 := by
  unfold step0; simp only [dif_neg q0, dif_pos q1, dif_pos q2]

/-- The step at a tile in use, second half. -/
theorem step0_B (c : Dev nD) (t : Fin (cfgA T).N) (prev : (S1024x1024.Idx → Elt Ideal .f32)) (q0 : ¬P0_0 T t) (q1 : P0_1 T t) (q2 : ¬P0_2 T t) :
    step0 T m ρ c t prev = out0_B_4 c (crd T t) (ms0_0 T t) (hs0_0 T t) (ms0_1 T t) (hs0_1 T t) (ms0_2 T t) (hs0_2 T t) (ms0_3 T t) (hs0_3 T t) (ms0_4 T t) (hs0_4 T t) T.te T.na (iblk T m ρ c (0 : Fin 5) t) (iblk T m ρ c (1 : Fin 5) t) (iblk T m ρ c (2 : Fin 5) t) (iblk T m ρ c (3 : Fin 5) t) prev (hypsR0_B T t q0 q1 q2).1 (hypsR0_B T t q0 q1 q2).2.1 (hypsR0_B T t q0 q1 q2).2.2.1 (hypsR0_B T t q0 q1 q2).2.2.2.1 := by
  unfold step0; simp only [dif_neg q0, dif_pos q1, dif_neg q2]

/-- The step at an idle tile's first point. -/
theorem step0_C (c : Dev nD) (t : Fin (cfgA T).N) (prev : (S1024x1024.Idx → Elt Ideal .f32)) (q0 : P0_0 T t) :
    step0 T m ρ c t prev = out0_C_4 c (crd T t) (ms0_0 T t) (hs0_0 T t) (ms0_1 T t) (hs0_1 T t) (ms0_2 T t) (hs0_2 T t) (ms0_3 T t) (hs0_3 T t) (ms0_4 T t) (hs0_4 T t) T.te T.na (iblk T m ρ c (0 : Fin 5) t) (iblk T m ρ c (1 : Fin 5) t) (iblk T m ρ c (2 : Fin 5) t) (iblk T m ρ c (3 : Fin 5) t) (hypsR0_C T t q0).1 (hypsR0_C T t q0).2.1 := by
  unfold step0; simp only [dif_pos q0]

/-- The step at an idle tile's second point. -/
theorem step0_D (c : Dev nD) (t : Fin (cfgA T).N) (prev : (S1024x1024.Idx → Elt Ideal .f32)) (q0 : ¬P0_0 T t) (q1 : ¬P0_1 T t) :
    step0 T m ρ c t prev = (if (cfgA T).fresh (4 : Fin 5) t.val then default else prev) := by
  unfold step0; simp only [dif_neg q0, dif_neg q1]

/-! ## The pipeline's proof data -/

/-- The same for a position up to the end. -/
def prev0T (c : Dev nD) (t : Fin ((cfgA T).N + 1)) : (S1024x1024.Idx → Elt Ideal .f32) :=
  if h : t.val = 0 then default else traj0 T m ρ c (t.val - 1) (by omega)

theorem prev0T_castSucc (c : Dev nD) (t : Fin (cfgA T).N) : prev0T T m ρ c t.castSucc = prev0 T m ρ c t := by
  unfold prev0T prev0; simp only [Fin.val_castSucc]
theorem prev0T_succ (c : Dev nD) (t : Fin (cfgA T).N) : prev0T T m ρ c t.succ = traj0 T m ρ c t.val t.isLt := by
  unfold prev0T; simp only [Fin.val_succ, Nat.add_one_ne_zero, ↓reduceDIte, Nat.add_one_sub_one]

/-- Kept between points: the body's halves of the two tables. -/
def Phi (m : (ℓ : Loc nD τ sig) → Buf (Elt Ideal) ℓ) (ρ : Dev nD → PrngReg) (c : Dev nD) (t : Fin ((cfgA T).N + 1)) : sProp 𝕄 :=
  iprop((tbM0_0.view.loc (c : Thread nD τ) ↦{fullShare.right} T.te) ∗ (tbM0_1.view.loc (c : Thread nD τ) ↦{fullShare.right} T.na))

/-- The proof data of the one pipeline on core `c`. -/
def dats (_ : Fin 1) (c : Dev nD) : Dat τ (Elt Ideal) Unit ℕ (UR sig nD τ) ℕ (cfgA T) c where
  A w := (s₀ m ρ).mem (((cfgA T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => (traj0 T m ρ c t.val t.isLt)
  Φ t := Phi T m ρ c t
  q _ := fullShare
  owed _ := 0

theorem after0_0 (c : Dev nD) (t : Fin (cfgA T).N) : (dats T m ρ 0 c).after (0 : Fin 5) t = iblk T m ρ c (0 : Fin 5) t := rfl
theorem after0_1 (c : Dev nD) (t : Fin (cfgA T).N) : (dats T m ρ 0 c).after (1 : Fin 5) t = iblk T m ρ c (1 : Fin 5) t := rfl
theorem after0_2 (c : Dev nD) (t : Fin (cfgA T).N) : (dats T m ρ 0 c).after (2 : Fin 5) t = iblk T m ρ c (2 : Fin 5) t := rfl
theorem after0_3 (c : Dev nD) (t : Fin (cfgA T).N) : (dats T m ρ 0 c).after (3 : Fin 5) t = iblk T m ρ c (3 : Fin 5) t := rfl
theorem after0_4 (c : Dev nD) (t : Fin (cfgA T).N) : (dats T m ρ 0 c).after (4 : Fin 5) t = (traj0 T m ρ c t.val t.isLt) := rfl

/-! ## What each window's staging buffer holds when the body runs -/

/-- Input 0's buffer holds its block, fetched at this point or not. -/
theorem before0_0 (c : Dev nD) (t : Fin (cfgA T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input 1's buffer holds its block, fetched at this point or not. -/
theorem before0_1 (c : Dev nD) (t : Fin (cfgA T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input 2's buffer holds its block, fetched at this point or not. -/
theorem before0_2 (c : Dev nD) (t : Fin (cfgA T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input 3's buffer holds its block, fetched at this point or not. -/
theorem before0_3 (c : Dev nD) (t : Fin (cfgA T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- The buffer's contents carry through the points that leave it idle. -/
theorem hcarry0_4 (c : Dev nD) : ∀ (t : Fin (cfgA T).N) (ht : t.val ≠ 0), (cfgA T).idle (4 : Fin 5) ((cfgA T).grid.coords t) = true → (cfgA T).fresh (4 : Fin 5) t.val = false →
    (dats T m ρ 0 c).after (4 : Fin 5) t = (dats T m ρ 0 c).after (4 : Fin 5) ⟨t.val - 1, by omega⟩ := by
  intro t ht hi hf
  rw [after0_4, after0_4, traj0_eq]
  by_cases q0 : P0_0 T t
  · obtain ⟨i4, -, -⟩ := sched0_C T t q0
    rw [i4] at hi; exact absurd hi (by decide)
  · by_cases q1 : P0_1 T t
    · by_cases q2 : P0_2 T t
      · obtain ⟨i4, -, -⟩ := sched0_A T t q0 q1 q2
        rw [i4] at hi; exact absurd hi (by decide)
      · obtain ⟨i4, -, -⟩ := sched0_B T t q0 q1 q2
        rw [i4] at hi; exact absurd hi (by decide)
    · rw [step0_D T m ρ c t _ q0 q1]
      simp only [hf, Bool.false_eq_true, ↓reduceIte]
      unfold prev0; rw [dif_neg ht]

/-- What the result's buffer holds when the body starts at `t`: anything if nothing was stored since its last
    write-back, else what the point before left. -/
theorem before0_4 (c : Dev nD) (t : Fin (cfgA T).N) (d) :
    (dats T m ρ 0 c).before (4 : Fin 5) t d = if (cfgA T).fresh (4 : Fin 5) t.val then d else (prev0 T m ρ c t) := by
  rw [(dats T m ρ 0 c).before_out_traj (4 : Fin 5) rfl (fun _ _ => rfl) (hcarry0_4 T m ρ c) t.val t rfl d]
  by_cases hf : (cfgA T).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA T).N) : Prog (TpuEff nD τ sig (Elt Ideal) Λ₀ .tc) PUnit :=
  cc0_moe_experts (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (ms0_4 T t) (hs0_4 T t)

set_option maxHeartbeats 4000000 in
/-- The body at point `t`: the decisions there choose the branch; the inputs hold their blocks, the result's buffer what
    the steps so far left; the branch's own statement applies. -/
theorem sound_body (hp : Pinned T m) (c : Dev nD) (t : Fin (cfgA T).N) :
    iprop((dats T m ρ 0 c).Φ t.castSucc ∗ (dats T m ρ 0 c).owesAt () t.castSucc
        ∗ (∃ d, owns (c : Thread nD τ) (ms0_0 T t) fullShare ((dats T m ρ 0 c).before (0 : Fin 5) t d))
        ∗ (∃ d, owns (c : Thread nD τ) (ms0_1 T t) fullShare ((dats T m ρ 0 c).before (1 : Fin 5) t d))
        ∗ (∃ d, owns (c : Thread nD τ) (ms0_2 T t) fullShare ((dats T m ρ 0 c).before (2 : Fin 5) t d))
        ∗ (∃ d, owns (c : Thread nD τ) (ms0_3 T t) fullShare ((dats T m ρ 0 c).before (3 : Fin 5) t d))
        ∗ (∃ d, owns (c : Thread nD τ) (ms0_4 T t) fullShare ((dats T m ρ 0 c).before (4 : Fin 5) t d)))
      ⊢ wp frame (wpE (defs₀ (F := Ideal)) Variants.none c none) Set.univ (bodyAt0 T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  by_cases q0 : P0_0 T t
  · obtain ⟨i4, f4, fr4⟩ := sched0_C T t q0
    have F0 := hypsR0_C T t q0
    have k0_h1 := F0.1; have F1 := F0.2
    have k0_h2 := F1.1; have F2 := F1.2
    clear F0 F1 F2
    rewrite [i4]
    simp only [before0_0, before0_1, before0_2, before0_3, before0_4, after0_0, after0_1, after0_2, after0_3, after0_4, f4]
    simp only [fr4, Bool.false_eq_true, ↓reduceIte]
    rewrite [show (dats T m ρ 0 c).Φ t.succ = Phi T m ρ c t.succ from rfl, show (dats T m ρ 0 c).Φ t.castSucc = Phi T m ρ c t.castSucc from rfl,
      show (dats T m ρ 0 c).owesAt () t.succ = (dats T m ρ 0 c).owesAt () t.castSucc from rfl]
    try rewrite [traj0_eq, step0_C T m ρ c t _ q0]
    unfold Phi; simp only [prev0T_castSucc, prev0T_succ, traj0_eq, step0_C T m ρ c t _ q0, Fin.val_castSucc, Fin.val_succ]
    iintro ⟨⟨HT0, HT1⟩, Ho, ⟨%d0, H0⟩, ⟨%d1, H1⟩, ⟨%d2, H2⟩, ⟨%d3, H3⟩, ⟨%d4, H4⟩⟩
    iapply ((kernelRun0_C c (crd T t) (ms0_0 T t) (hs0_0 T t) (ms0_1 T t) (hs0_1 T t) (ms0_2 T t) (hs0_2 T t) (ms0_3 T t) (hs0_3 T t) (ms0_4 T t) (hs0_4 T t) T.te T.na (iblk T m ρ c (0 : Fin 5) t) (iblk T m ρ c (1 : Fin 5) t) (iblk T m ρ c (2 : Fin 5) t) (iblk T m ρ c (3 : Fin 5) t) k0_h1 k0_h2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_C_4 c _ _ _ _ _ _ _ _ _ _ _ _ _ _ _ _ _ _ _)
  · by_cases q1 : P0_1 T t
    · by_cases q2 : P0_2 T t
      · obtain ⟨i4, f4, fr4⟩ := sched0_A T t q0 q1 q2
        have F0 := hypsR0_A T t q0 q1 q2
        have k0_h1 := F0.1; have F1 := F0.2
        have k0_h2 := F1.1; have F2 := F1.2
        have k0_h3 := F2.1; have F3 := F2.2
        have k0_h4 := F3.1; have F4 := F3.2
        clear F0 F1 F2 F3 F4
        rewrite [i4]
        simp only [before0_0, before0_1, before0_2, before0_3, before0_4, after0_0, after0_1, after0_2, after0_3, after0_4, f4]
        simp only [fr4, Bool.false_eq_true, ↓reduceIte]
        rewrite [show (dats T m ρ 0 c).Φ t.succ = Phi T m ρ c t.succ from rfl, show (dats T m ρ 0 c).Φ t.castSucc = Phi T m ρ c t.castSucc from rfl,
          show (dats T m ρ 0 c).owesAt () t.succ = (dats T m ρ 0 c).owesAt () t.castSucc from rfl]
        try rewrite [traj0_eq, step0_A T m ρ c t _ q0 q1 q2]
        unfold Phi; simp only [prev0T_castSucc, prev0T_succ, traj0_eq, step0_A T m ρ c t _ q0 q1 q2, Fin.val_castSucc, Fin.val_succ]
        iintro ⟨⟨HT0, HT1⟩, Ho, ⟨%d0, H0⟩, ⟨%d1, H1⟩, ⟨%d2, H2⟩, ⟨%d3, H3⟩, ⟨%d4, H4⟩⟩
        iapply ((kernelRun0_A c (crd T t) (ms0_0 T t) (hs0_0 T t) (ms0_1 T t) (hs0_1 T t) (ms0_2 T t) (hs0_2 T t) (ms0_3 T t) (hs0_3 T t) (ms0_4 T t) (hs0_4 T t) T.te T.na (iblk T m ρ c (0 : Fin 5) t) (iblk T m ρ c (1 : Fin 5) t) (iblk T m ρ c (2 : Fin 5) t) (iblk T m ρ c (3 : Fin 5) t) k0_h1 k0_h2 k0_h3 k0_h4).2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexists _; iexact H4
        iintro ⟨H0, H1, H2, H3, HT0, HT1, ⟨%e4, H4⟩⟩
        isplitl [HT0 HT1]
        · isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        unfold owns; iexists _; isplitr; swap
        · iexact H4
        · ipureintro; exact View.read_writes_of_cover _ _ _ _ _ (cover0_A_4 c _ _ _ _ _ _ _ _ _ _ _ _ _ _ _ _ _ _ _ _ _)
      · obtain ⟨i4, f4, fr4⟩ := sched0_B T t q0 q1 q2
        have F0 := hypsR0_B T t q0 q1 q2
        have k0_h1 := F0.1; have F1 := F0.2
        have k0_h2 := F1.1; have F2 := F1.2
        have k0_h3 := F2.1; have F3 := F2.2
        have k0_h4 := F3.1; have F4 := F3.2
        clear F0 F1 F2 F3 F4
        rewrite [i4]
        simp only [before0_0, before0_1, before0_2, before0_3, before0_4, after0_0, after0_1, after0_2, after0_3, after0_4, f4]
        simp only [fr4, Bool.false_eq_true, ↓reduceIte]
        rewrite [show (dats T m ρ 0 c).Φ t.succ = Phi T m ρ c t.succ from rfl, show (dats T m ρ 0 c).Φ t.castSucc = Phi T m ρ c t.castSucc from rfl,
          show (dats T m ρ 0 c).owesAt () t.succ = (dats T m ρ 0 c).owesAt () t.castSucc from rfl]
        try rewrite [traj0_eq, step0_B T m ρ c t _ q0 q1 q2]
        unfold Phi; simp only [prev0T_castSucc, prev0T_succ, traj0_eq, step0_B T m ρ c t _ q0 q1 q2, Fin.val_castSucc, Fin.val_succ]
        iintro ⟨⟨HT0, HT1⟩, Ho, ⟨%d0, H0⟩, ⟨%d1, H1⟩, ⟨%d2, H2⟩, ⟨%d3, H3⟩, ⟨%d4, H4⟩⟩
        iapply ((kernelRun0_B c (crd T t) (ms0_0 T t) (hs0_0 T t) (ms0_1 T t) (hs0_1 T t) (ms0_2 T t) (hs0_2 T t) (ms0_3 T t) (hs0_3 T t) (ms0_4 T t) (hs0_4 T t) T.te T.na (iblk T m ρ c (0 : Fin 5) t) (iblk T m ρ c (1 : Fin 5) t) (iblk T m ρ c (2 : Fin 5) t) (iblk T m ρ c (3 : Fin 5) t) _ k0_h1 k0_h2 k0_h3 k0_h4).2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        iintro ⟨H0, H1, H2, H3, HT0, HT1, ⟨%e4, H4⟩⟩
        isplitl [HT0 HT1]
        · isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        unfold owns; iexists _; isplitr; swap
        · iexact H4
        · ipureintro; exact View.read_writes_of_cover _ _ _ _ _ (cover0_B_4 c _ _ _ _ _ _ _ _ _ _ _ _ _ _ _ _ _ _ _ _ _ _)
    · obtain ⟨i4, f4, fr4⟩ := sched0_D T t q0 q1
      have F0 := hypsR0_D T t q0 q1
      have k0_h1 := F0.1; have F1 := F0.2
      have k0_h2 := F1.1; have F2 := F1.2
      clear F0 F1 F2
      rewrite [i4]
      simp only [before0_0, before0_1, before0_2, before0_3, before0_4, after0_0, after0_1, after0_2, after0_3, after0_4, f4]
      simp only [fr4, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_D T m ρ c t _ q0 q1]
      unfold Phi; simp only [prev0T_castSucc, prev0T_succ, traj0_eq, step0_D T m ρ c t _ q0 q1, Fin.val_castSucc, Fin.val_succ, fr4, Bool.false_eq_true, ↓reduceIte]
      iintro ⟨⟨HT0, HT1⟩, Ho, ⟨%d0, H0⟩, ⟨%d1, H1⟩, ⟨%d2, H2⟩, ⟨%d3, H3⟩, ⟨%d4, H4⟩⟩
      iapply ((kernelRun0_D c (crd T t) (ms0_0 T t) (hs0_0 T t) (ms0_1 T t) (hs0_1 T t) (ms0_2 T t) (hs0_2 T t) (ms0_3 T t) (hs0_3 T t) (ms0_4 T t) (hs0_4 T t) T.te T.na (iblk T m ρ c (0 : Fin 5) t) (iblk T m ρ c (1 : Fin 5) t) (iblk T m ρ c (2 : Fin 5) t) (iblk T m ρ c (3 : Fin 5) t) k0_h1 k0_h2).2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      iintro ⟨H0, H1, H2, H3, HT0, HT1, H4⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4

/-- The library's body obligation, at every point. -/
theorem body_obligation (hp : Pinned T m) (c : Dev nD) : BodyObligation (dats T m ρ 0 c) (defs₀ (F := Ideal)) Variants.none () Set.univ := fun t => by
  rw [bigSep_W0]
  exact sound_body T m ρ hp c t

/-! ## The launch -/

/-- The rounds library's launch element. -/
def u₀ : UR sig nD τ :=
  initOf (Pipeline.cells (pcs T) ((launch0 (F := Ideal)).cellOf_inj fun _ => adm T))
    (Pipeline.launchToks (pcs T) ((launch0 (F := Ideal)).cellOf_inj fun _ => adm T))

theorem share_eq (c : Dev nD) (w : Fin (cfgA T).W) : (dats T m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, -⟩
  isplitl [HT0]
  · iexact HT0
  iexact HT1

/-- at the last point it gives the scratch buffers back (`hout`), the tables let go. -/
theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨-, -⟩
  isplitr; · iempintro
  iempintro

/-- Every array at what the points computed, every table as it was. -/
def QC : PUnit × MemSt nD τ sig (Elt Ideal) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Pinned T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- From any memory with zero counters whose tables are `T`'s, every weakly fair execution ends, every array at the
    computed contents and every semaphore counter at zero. -/
theorem run_main_quiescent (hp : Pinned T m) : θ_run (defs (F := Ideal)) (onTc (τ := τ) (main (F := Ideal))) (s₀ m ρ) (fun r => QC T m ρ r ∧ r.2.sem = fun _ => 0) :=
  Pipeline.θ_run_region_noSem_pf_quiescent pcfgs (fun _ => adm T) (dats T m ρ) () ((launch0 (F := Ideal)).cellOf_inj fun _ => adm T) (0 : Fin 1)
    (launch0 (F := Ideal)).win.to₀ (launch0 (F := Ideal)).pre EP defs₀ Variants.none m ρ main
    (hbody := fun c => (body_obligation T m ρ hp c).loose) (hne := (launch0 (F := Ideal)).block_pos)
    (harr := (launch0 (F := Ideal)).arr_whole) (hstage := (launch0 (F := Ideal)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Ideal)).win.arr_inj c (launch0 (F := Ideal)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned T m) : θ_run (defs (F := Ideal)) (onTc (τ := τ) (main (F := Ideal))) (s₀ m ρ) (QC T m ρ) :=
  (θ_run defs _ _).mono (fun _ h => h.1) (run_main_quiescent T m ρ hp)

/-- The argument arrays end unchanged. -/
theorem unchanged (hp : Pinned T m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats T m ρ 0 c).arrAt_in (0 : Fin 5) rfl _), ((h c).1 (1 : Fin 5)).trans ((dats T m ρ 0 c).arrAt_in (1 : Fin 5) rfl _), ((h c).1 (2 : Fin 5)).trans ((dats T m ρ 0 c).arrAt_in (2 : Fin 5) rfl _), ((h c).1 (3 : Fin 5)).trans ((dats T m ρ 0 c).arrAt_in (3 : Fin 5) rfl _)⟩) (run_main T m ρ hp)

/-- From a memory whose tables are `T`'s every execution ends, nothing faults, every argument array ends unchanged and
    every semaphore counter reads zero. -/
theorem frame (hp : Pinned T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged T m ρ hp) ((θ_run defs _ _).mono (fun _ h => h.2) (run_main_quiescent T m ρ hp))

end Cert.ExpertsIdeal.Moe

end
-- ==== Proof.ExpertsIdealPre.lean ====
/- The precondition gives tables within their ranges. -/
module

public import proofs.«01_k».proof.Defs
public import proofs.«01_k».proof.Proof.Tables
public import proofs.«01_k».proof.Proof.ExpertsIdealFrame

@[expose] public section

noncomputable section

namespace Cert.ExpertsIdeal.Moe

open Cert.ExpertsIdeal Cert.ExpertsIdeal.Gen Idealize.ShloMosaic Idealize.ShloMosaic.TcCoe Idealize.SL.Sem

/-- The tables of a memory the precondition holds of. -/
def tabsOf (m : (ℓ : Loc nD τ sig) → Buf (Elt Ideal) ℓ) (h : Cert.Pre_ExpertsIdeal (hPre_tables := Cert.Pre_tables.Gen.facts) m) : Tabs where
  te := m (((0 : Dev nD).tc : Thread nD τ).loc main_arg0)
  na := m (((0 : Dev nD).tc : Thread nD τ).loc main_arg1)
  te_lt := (Cert.Pre_tables.Val.ranges _ _ _ _ _ _ (h 0)).1
  na_pos x := ((Cert.Pre_tables.Val.ranges _ _ _ _ _ _ (h 0)).2 x).1
  na_le x := ((Cert.Pre_tables.Val.ranges _ _ _ _ _ _ (h 0)).2 x).2

theorem pinned_of_pre (m : (ℓ : Loc nD τ sig) → Buf (Elt Ideal) ℓ) (h : Cert.Pre_ExpertsIdeal (hPre_tables := Cert.Pre_tables.Gen.facts) m) :
    Pinned (tabsOf m h) m :=
  ⟨fun c => by rw [Subsingleton.elim c 0]; rfl, fun c => by rw [Subsingleton.elim c 0]; rfl⟩

/-- The frame claim. -/
theorem frame_pre : Cert.quiescent_ExpertsIdeal (hExpertsIdeal := Cert.ExpertsIdeal.Gen.facts) (hPre_tables := Cert.Pre_tables.Gen.facts) :=
  fun m g h => frame (tabsOf m h) m g (pinned_of_pre m h)

end Cert.ExpertsIdeal.Moe

end
-- ==== Proof.ExpertsBody.lean ====
/- The experts' body at one grid point: seven chunks of 256 hidden units, each run through `CH`, added up. -/
module

public import proofs.«01_k».proof.Proof.Gen.ExpertsIdeal.Flash.Runs
public import Idealize.ShloMosaic.Lib.Pipeline.ReadBack
public import Idealize.ShloMosaic.Lib.Pipeline.ValueKit

@[expose] public section

set_option maxRecDepth 16384
set_option Elab.async false

noncomputable section

namespace Cert.ExpertsIdeal.Moe

open Cert.ExpertsIdeal Cert.ExpertsIdeal.Gen Idealize.ShloMosaic Idealize.ShloMosaic.TcCoe Idealize.SL.Sem

/-- Columns `256·(h mod 7) …` of a block of the first two weights. -/
def col (x : Vec Ideal S1x1024x1792 .bf16) (h : ℕ) : Vec Ideal S1x1024x256 .bf16 :=
  View.ld x (Rect.unit ![0, 0, 256 * (h % 7)] ![1, 1024, 256] (by
    intro a; have h1 := Nat.mod_lt h (show 0 < 7 by omega)
    fin_cases a <;> simp [S1x1024x1792] <;> omega))

/-- Rows `256·(h mod 7) …` of a block of the last weights. -/
def row (x : Vec Ideal S1x1792x1024 .bf16) (h : ℕ) : Vec Ideal S1x256x1024 .bf16 :=
  View.ld x (Rect.unit ![0, 256 * (h % 7), 0] ![1, 256, 1024] (by
    intro a; have h1 := Nat.mod_lt h (show 0 < 7 by omega)
    fin_cases a <;> simp [S1x1792x1024] <;> omega))

/-- One chunk of hidden units: gate, up projection, their product, down projection. -/
def CH (x : Vec Ideal S1024x1024 .f32) (g u : Vec Ideal S1x1024x256 .bf16) (d : Vec Ideal S1x256x1024 .bf16) :
    FVec Ideal S1024x1024 .f32 := k0_pay4 x g u d

/-- Chunk `h` of a point's blocks. -/
def chk (x0 : Vec Ideal S1024x1024 .f32) (x1 x2 : Vec Ideal S1x1024x1792 .bf16) (x3 : Vec Ideal S1x1792x1024 .bf16) (h : ℕ) :
    FVec Ideal S1024x1024 .f32 := CH x0 (col x1 h) (col x2 h) (row x3 h)

/-- The point's contribution: its seven chunks. -/
def BODY (x0 : Vec Ideal S1024x1024 .f32) (x1 x2 : Vec Ideal S1x1024x1792 .bf16) (x3 : Vec Ideal S1x1792x1024 .bf16) :
    FVec Ideal S1024x1024 .f32 :=
  addf (addf (addf (addf (addf (addf (chk x0 x1 x2 x3 0) (chk x0 x1 x2 x3 1)) (chk x0 x1 x2 x3 2)) (chk x0 x1 x2 x3 3))
    (chk x0 x1 x2 x3 4)) (chk x0 x1 x2 x3 5)) (chk x0 x1 x2 x3 6)

/-- The first half stores its contribution. -/
theorem outA_eq (c : Dev nD) (i : grid0.Coords) (arg4 : Memref sig .tc .vmem S1024x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S1024x1024 .f32) (harg8 : arg8.IsWhole) (T0 : (S72.Idx → Elt Ideal .i32)) (T1 : (S1.Idx → Elt Ideal .i32))
     (x0 : (S1024x1024.Idx → Elt Ideal .f32)) (x1 : (S1x1024x1792.Idx → Elt Ideal .bf16)) (x2 : (S1x1024x1792.Idx → Elt Ideal .bf16)) (x3 : (S1x1792x1024.Idx → Elt Ideal .bf16)) (k0_h1 : ¬(k0_cond1 i (View.readAt (Elt Ideal) (tbM0_1).view (Rect.unit (s := S1) ![0] S1.size inb_S1_S1_0).toLoadRect T1 (Shape.Idx.first (numel1_S1.symm ▸ Nat.one_pos))) = 1#1)) (k0_h2 : k0_cond2 i (View.readAt (Elt Ideal) (tbM0_1).view (Rect.unit (s := S1) ![0] S1.size inb_S1_S1_0).toLoadRect T1 (Shape.Idx.first (numel1_S1.symm ▸ Nat.one_pos))) = 1#1) (k0_h3 : k0_cond3 i = 1#1) (k0_h4 : ¬(k0_cond4 i = 1#1)) :
    out0_A_4 c i arg4 harg4 arg5 harg5 arg6 harg6 arg7 harg7 arg8 harg8 T0 T1 x0 x1 x2 x3 k0_h1 k0_h2 k0_h3 k0_h4 = BODY x0 x1 x2 x3 := by
  unfold out0_A_4
  frame_out
  simp only [View.read_rep]
  rfl

/-- The second half's sum: the cast to the same shape drops away. -/
theorem pay2_eq (v w : Vec Ideal S1024x1024 .f32) : k0_pay2 v w = addf (F := Ideal) (φ := .f32) w v := by
  funext y
  obtain ⟨p, q, rfl⟩ : ∃ p q, y = ix2 p q := ⟨y 0, y 1, by blk_ext⟩
  pointwise [k0_pay2]

/-- One entry of a chunk. -/
theorem CH_at (x : Vec Ideal S1024x1024 .f32) (g u : Vec Ideal S1x1024x256 .bf16) (d : Vec Ideal S1x256x1024 .bf16) (r j : Fin 1024) :
    CH x g u d (ix2 r j) = ∑ k : Fin 256, (Ideal.div (∑ e : Fin 1024, x (ix2 r e) * g (ix3 0 e k))
        (1 + Ideal.exp (0 - ∑ e : Fin 1024, x (ix2 r e) * g (ix3 0 e k))) * ∑ e : Fin 1024, x (ix2 r e) * u (ix3 0 e k))
      * d (ix3 0 k j) := by
  pointwise [CH, k0_pay4, k0_pay3]

theorem col_at (x : Vec Ideal S1x1024x1792 .bf16) (h : ℕ) (i : Fin 1024) (k : Fin 256) :
    col x h (ix3 0 i k) = x (ix3 0 i ⟨256 * (h % 7) + k, by omega⟩) := by
  pointwise [col]
theorem row_at (x : Vec Ideal S1x1792x1024 .bf16) (h : ℕ) (k : Fin 256) (i : Fin 1024) :
    row x h (ix3 0 k i) = x (ix3 0 ⟨256 * (h % 7) + k, by omega⟩ i) := by
  pointwise [row]

/-- The second half adds its contribution to what the block holds. -/
theorem outB_eq (c : Dev nD) (i : grid0.Coords) (arg4 : Memref sig .tc .vmem S1024x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S1024x1024 .f32) (harg8 : arg8.IsWhole) (T0 : (S72.Idx → Elt Ideal .i32)) (T1 : (S1.Idx → Elt Ideal .i32))
     (x0 : (S1024x1024.Idx → Elt Ideal .f32)) (x1 : (S1x1024x1792.Idx → Elt Ideal .bf16)) (x2 : (S1x1024x1792.Idx → Elt Ideal .bf16)) (x3 : (S1x1792x1024.Idx → Elt Ideal .bf16)) (xo4 : (S1024x1024.Idx → Elt Ideal .f32)) (k0_h1 : ¬(k0_cond1 i (View.readAt (Elt Ideal) (tbM0_1).view (Rect.unit (s := S1) ![0] S1.size inb_S1_S1_0).toLoadRect T1 (Shape.Idx.first (numel1_S1.symm ▸ Nat.one_pos))) = 1#1)) (k0_h2 : k0_cond2 i (View.readAt (Elt Ideal) (tbM0_1).view (Rect.unit (s := S1) ![0] S1.size inb_S1_S1_0).toLoadRect T1 (Shape.Idx.first (numel1_S1.symm ▸ Nat.one_pos))) = 1#1) (k0_h3 : ¬(k0_cond3 i = 1#1)) (k0_h4 : k0_cond4 i = 1#1) :
    out0_B_4 c i arg4 harg4 arg5 harg5 arg6 harg6 arg7 harg7 arg8 harg8 T0 T1 x0 x1 x2 x3 xo4 k0_h1 k0_h2 k0_h3 k0_h4 = addf (F := Ideal) (φ := .f32) xo4 (BODY x0 x1 x2 x3) := by
  unfold out0_B_4
  frame_out
  simp only [View.read_rep]
  rw [pay2_eq]
  rfl

/-- An idle tile stores zeros. -/
theorem outC_eq (c : Dev nD) (i : grid0.Coords) (arg4 : Memref sig .tc .vmem S1024x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S1024x1024 .f32) (harg8 : arg8.IsWhole) (T0 : (S72.Idx → Elt Ideal .i32)) (T1 : (S1.Idx → Elt Ideal .i32))
     (x0 : (S1024x1024.Idx → Elt Ideal .f32)) (x1 : (S1x1024x1792.Idx → Elt Ideal .bf16)) (x2 : (S1x1024x1792.Idx → Elt Ideal .bf16)) (x3 : (S1x1792x1024.Idx → Elt Ideal .bf16)) (k0_h1 : k0_cond1 i (View.readAt (Elt Ideal) (tbM0_1).view (Rect.unit (s := S1) ![0] S1.size inb_S1_S1_0).toLoadRect T1 (Shape.Idx.first (numel1_S1.symm ▸ Nat.one_pos))) = 1#1) (k0_h2 : ¬(k0_cond2 i (View.readAt (Elt Ideal) (tbM0_1).view (Rect.unit (s := S1) ![0] S1.size inb_S1_S1_0).toLoadRect T1 (Shape.Idx.first (numel1_S1.symm ▸ Nat.one_pos))) = 1#1)) :
    out0_C_4 c i arg4 harg4 arg5 harg5 arg6 harg6 arg7 harg7 arg8 harg8 T0 T1 x0 x1 x2 x3 k0_h1 k0_h2 = fun _ => (0 : EReal) := by
  unfold out0_C_4
  frame_out
  funext y
  pointwise [k0_pay1]

end Cert.ExpertsIdeal.Moe
end
-- ==== Proof.ExpertsTerm.lean ====
/- One token through one expert: the gated hidden layer and the down projection, summed over the 3584 hidden units at
   once or over two halves of seven chunks. -/
module

public import Idealize.ShloMosaic.Lib.Pointwise
public import Idealize.ShloMosaic.PureOps

@[expose] public section

noncomputable section

namespace Cert.Moe

open Idealize.ShloMosaic

theorem exp_nonneg (x : EReal) : 0 ≤ Ideal.exp x := by
  induction x using EReal.rec with
  | bot => exact le_rfl
  | top => exact le_top
  | coe r => exact EReal.coe_nonneg.mpr (Real.exp_pos r).le

/-- The gate's denominator is not zero. -/
theorem den_ne (x : EReal) : 1 + Ideal.exp x ≠ 0 := by
  have h := add_le_add (le_refl (1 : EReal)) (exp_nonneg x)
  rw [add_zero] at h
  exact (lt_of_lt_of_le zero_lt_one h).ne'

/-- The gate, dividing once: the reference multiplies by a reciprocal. -/
theorem silu_eq (g : EReal) : g * Ideal.div 1 (1 + Ideal.exp (-g)) = Ideal.div g (1 + Ideal.exp (0 - g)) := by
  rw [zero_sub, Ideal.div, if_neg (den_ne _), Ideal.div, if_neg (den_ne _), one_mul]

/-- A hidden unit: the gate's value times the up projection's. -/
def hid (g u : EReal) : EReal := Ideal.div g (1 + Ideal.exp (0 - g)) * u

/-- A row's product with a column of weights. -/
def dot (x w : Fin 1024 → EReal) : EReal := ∑ e : Fin 1024, x e * w e

/-- The token `x` through the expert with weights `G`, `U` and one column `D` of the down projection. -/
def ffn (x : Fin 1024 → EReal) (G U : Fin 1024 → Fin 3584 → EReal) (D : Fin 3584 → EReal) : EReal :=
  ∑ k : Fin 3584, hid (dot x fun e => G e k) (dot x fun e => U e k) * D k

/-- The summand of hidden unit `n`, zero past the last. -/
def term (x : Fin 1024 → EReal) (G U : Fin 1024 → Fin 3584 → EReal) (D : Fin 3584 → EReal) (n : ℕ) : EReal :=
  if h : n < 3584 then hid (dot x fun e => G e ⟨n, h⟩) (dot x fun e => U e ⟨n, h⟩) * D ⟨n, h⟩ else 0

/-- A half of the hidden units. -/
def half (F : ℕ → EReal) (h : ℕ) : EReal := ∑ k ∈ Finset.range 1792, F (1792 * h + k)

/-- Chunk `c` of half `h`. -/
def part (F : ℕ → EReal) (h c : ℕ) : EReal := ∑ k : Fin 256, F (1792 * h + (256 * c + k))

/-- A half is its seven chunks. -/
theorem half_eq (F : ℕ → EReal) (h : ℕ) :
    half F h = part F h 0 + part F h 1 + part F h 2 + part F h 3 + part F h 4 + part F h 5 + part F h 6 := by
  have key : ∀ n, ∑ k ∈ Finset.range (256 * n), F (1792 * h + k) = ∑ c ∈ Finset.range n, part F h c := by
    intro n
    induction n with
    | zero => rfl
    | succ n ih =>
      rw [show 256 * (n + 1) = 256 * n + 256 from rfl, Finset.sum_range_add, ih,
        Finset.sum_range_succ (n := n), Finset.sum_range (n := 256)]
      rfl
  refine (key 7).trans ?_
  generalize part F h = p
  simp only [Finset.sum_range_succ, Finset.sum_range_zero, zero_add]

/-- The whole is its two halves. -/
theorem ffn_eq (x : Fin 1024 → EReal) (G U : Fin 1024 → Fin 3584 → EReal) (D : Fin 3584 → EReal) :
    ffn x G U D = half (term x G U D) 0 + half (term x G U D) 1 := by
  have e : ffn x G U D = ∑ k : Fin 3584, term x G U D k :=
    Finset.sum_congr rfl fun k _ => by unfold term; rw [dif_pos k.isLt]
  rw [e, ← Finset.sum_range (n := 3584), show 3584 = 1792 + 1792 from rfl, Finset.sum_range_add]
  unfold half
  simp only [mul_zero, zero_add, mul_one]

end Cert.Moe
end
-- ==== Proof.ExpertsBlocks.lean ====
/- What each input block of the experts' call holds of the arguments, for a tile in use, and where the result's block lies. -/
module

public import proofs.«01_k».proof.Proof.ExpertsIdealFrame
public import proofs.«01_k».proof.Proof.ExpertsBody
public import proofs.«01_k».proof.Proof.ExpertsTerm

@[expose] public section

set_option maxRecDepth 16384
set_option Elab.async false

noncomputable section

namespace Cert.ExpertsIdeal.Moe

open Cert.ExpertsIdeal Cert.ExpertsIdeal.Gen Cert.Moe Idealize.ShloMosaic Idealize.ShloMosaic.TcCoe Idealize.SL.Sem

variable (T : Tabs)
variable (m : (ℓ : Loc nD τ sig) → Buf (Elt Ideal) ℓ) (ρ : Dev nD → PrngReg) (c : Dev nD)

/-- The tokens. -/
def Xa : S73728x1024.Idx → EReal := m ((c : Thread nD τ).loc main_arg2)
/-- The gate's weights. -/
def Ga : S8x1024x3584.Idx → EReal := m ((c : Thread nD τ).loc main_arg3)
/-- The up projection's weights. -/
def Ua : S8x1024x3584.Idx → EReal := m ((c : Thread nD τ).loc main_arg4)
/-- The down projection's weights. -/
def Da : S8x3584x1024.Idx → EReal := m ((c : Thread nD τ).loc main_arg5)

theorem emb0_val (t : Fin (cfgA T).N) (y : S1024x1024.Idx) (a : Fin 2) :
    ((((((cfgA T).win (0 : Fin 5)).blk t).view.emb y) a : Fin _) : ℕ)
      = cc0_transform_0 inb_S1_S1_0 numel1_S1 (pfN T) (crd T t) a * S1024x1024.size a + y a :=
  ValueKit.view_emb_slice_whole_unit_val main_arg2 _ _ _ y a
theorem emb1_val (t : Fin (cfgA T).N) (y : S1x1024x1792.Idx) (a : Fin 3) :
    ((((((cfgA T).win (1 : Fin 5)).blk t).view.emb y) a : Fin _) : ℕ)
      = cc0_transform_1 k0_off1_inb numel1_S1 inb_S1_S1_0 (pfN T) (crd T t) a * S1x1024x1792.size a + y a :=
  ValueKit.view_emb_slice_whole_unit_val main_arg3 _ _ _ y a
theorem emb2_val (t : Fin (cfgA T).N) (y : S1x1024x1792.Idx) (a : Fin 3) :
    ((((((cfgA T).win (2 : Fin 5)).blk t).view.emb y) a : Fin _) : ℕ)
      = cc0_transform_2 k0_off1_inb numel1_S1 inb_S1_S1_0 (pfN T) (crd T t) a * S1x1024x1792.size a + y a :=
  ValueKit.view_emb_slice_whole_unit_val main_arg4 _ _ _ y a
theorem emb3_val (t : Fin (cfgA T).N) (y : S1x1792x1024.Idx) (a : Fin 3) :
    ((((((cfgA T).win (3 : Fin 5)).blk t).view.emb y) a : Fin _) : ℕ)
      = cc0_transform_3 k0_off1_inb numel1_S1 inb_S1_S1_0 (pfN T) (crd T t) a * S1x1792x1024.size a + y a :=
  ValueKit.view_emb_slice_whole_unit_val main_arg5 _ _ _ y a
theorem emb4_val (t : Fin (cfgA T).N) (y : S1024x1024.Idx) (a : Fin 2) :
    ((((((cfgA T).win (4 : Fin 5)).blk t).view.emb y) a : Fin _) : ℕ) = cc0_transform_4 (crd T t) a * S1024x1024.size a + y a :=
  ValueKit.view_emb_slice_whole_unit_val main_v0 _ _ _ y a

section reads
variable (f : (b : Ref sig .tc) → b.ty.Contents (Elt Ideal))
theorem rd0 (t : Fin (cfgA T).N) (y : S1024x1024.Idx) :
    (((cfgA T).win (0 : Fin 5)).blk t).view.read (Elt Ideal) (f main_arg2) y = f main_arg2 ((((cfgA T).win (0 : Fin 5)).blk t).view.emb y) := rfl
theorem rd1 (t : Fin (cfgA T).N) (y : S1x1024x1792.Idx) :
    (((cfgA T).win (1 : Fin 5)).blk t).view.read (Elt Ideal) (f main_arg3) y = f main_arg3 ((((cfgA T).win (1 : Fin 5)).blk t).view.emb y) := rfl
theorem rd2 (t : Fin (cfgA T).N) (y : S1x1024x1792.Idx) :
    (((cfgA T).win (2 : Fin 5)).blk t).view.read (Elt Ideal) (f main_arg4) y = f main_arg4 ((((cfgA T).win (2 : Fin 5)).blk t).view.emb y) := rfl
theorem rd3 (t : Fin (cfgA T).N) (y : S1x1792x1024.Idx) :
    (((cfgA T).win (3 : Fin 5)).blk t).view.read (Elt Ideal) (f main_arg5) y = f main_arg5 ((((cfgA T).win (3 : Fin 5)).blk t).view.emb y) := rfl
end reads

theorem blk0 (t : Fin (cfgA T).N) (y : S1024x1024.Idx) :
    iblk T m ρ c (0 : Fin 5) t y = Xa m c ((((cfgA T).win (0 : Fin 5)).blk t).view.emb y) :=
  rd0 T (fun b => m ((c : Thread nD τ).loc b)) t y
theorem blk1 (t : Fin (cfgA T).N) (y : S1x1024x1792.Idx) :
    iblk T m ρ c (1 : Fin 5) t y = Ga m c ((((cfgA T).win (1 : Fin 5)).blk t).view.emb y) :=
  rd1 T (fun b => m ((c : Thread nD τ).loc b)) t y
theorem blk2 (t : Fin (cfgA T).N) (y : S1x1024x1792.Idx) :
    iblk T m ρ c (2 : Fin 5) t y = Ua m c ((((cfgA T).win (2 : Fin 5)).blk t).view.emb y) :=
  rd2 T (fun b => m ((c : Thread nD τ).loc b)) t y
theorem blk3 (t : Fin (cfgA T).N) (y : S1x1792x1024.Idx) :
    iblk T m ρ c (3 : Fin 5) t y = Da m c ((((cfgA T).win (3 : Fin 5)).blk t).view.emb y) :=
  rd3 T (fun b => m ((c : Thread nD τ).loc b)) t y

variable (t : Fin (cfgA T).N) (i : Fin 72) (hi : t.val / 2 = i) (hn : (i : ℕ) < T.n)

include hi in
theorem crd0_eq : (crd T t) 0 = i := Fin.ext ((crd_0 t).trans hi)
include hi hn in
theorem half_crd : T.half (crd T t) = t.val % 2 := by
  have e0 : ((crd T t) 0).val = t.val / 2 := crd_0 t
  have e1 : ((crd T t) 1).val = t.val % 2 := crd_1 t
  unfold Tabs.half
  rw [e0, e1, if_pos (by omega)]

/-- The tile's expert. -/
def Tabs.ex (i : Fin 72) : Fin 8 := ⟨T.e i, T.e_lt i⟩

include hi hn in
theorem x_at (r e : Fin 1024) (s : Fin 73728) (hs : (s : ℕ) = 1024 * i + r) :
    iblk T m ρ c (0 : Fin 5) t (ix2 r e) = Xa m c (ix2 s e) := by
  rw [blk0]
  refine congrArg (Xa m c) (funext fun a => Fin.ext ?_)
  rw [emb0_val, t0_eq, crd0_eq T t i hi]
  fin_cases a
  · show min (i : ℕ) (T.n - 1) * 1024 + (r : ℕ) = s; omega
  · show 0 * 1024 + (e : ℕ) = e; omega
include hi hn in
theorem g_at (e : Fin 1024) (k : Fin 1792) (q : Fin 3584) (hq : (q : ℕ) = 1792 * (t.val % 2) + k) :
    iblk T m ρ c (1 : Fin 5) t (ix3 0 e k) = Ga m c (ix3 (T.ex i) e q) := by
  rw [blk1]
  refine congrArg (Ga m c) (funext fun a => Fin.ext ?_)
  rw [emb1_val, t1_eq, crd0_eq T t i hi, half_crd T t i hi hn]
  fin_cases a
  · show T.e i * 1 + 0 = T.e i; omega
  · show 0 * 1024 + (e : ℕ) = e; omega
  · show t.val % 2 * 1792 + (k : ℕ) = q; omega
include hi hn in
theorem u_at (e : Fin 1024) (k : Fin 1792) (q : Fin 3584) (hq : (q : ℕ) = 1792 * (t.val % 2) + k) :
    iblk T m ρ c (2 : Fin 5) t (ix3 0 e k) = Ua m c (ix3 (T.ex i) e q) := by
  rw [blk2]
  refine congrArg (Ua m c) (funext fun a => Fin.ext ?_)
  rw [emb2_val, t2_eq, crd0_eq T t i hi, half_crd T t i hi hn]
  fin_cases a
  · show T.e i * 1 + 0 = T.e i; omega
  · show 0 * 1024 + (e : ℕ) = e; omega
  · show t.val % 2 * 1792 + (k : ℕ) = q; omega
include hi hn in
theorem d_at (k : Fin 1792) (q : Fin 3584) (hq : (q : ℕ) = 1792 * (t.val % 2) + k) (j : Fin 1024) :
    iblk T m ρ c (3 : Fin 5) t (ix3 0 k j) = Da m c (ix3 (T.ex i) q j) := by
  rw [blk3]
  refine congrArg (Da m c) (funext fun a => Fin.ext ?_)
  rw [emb3_val, t3_eq, crd0_eq T t i hi, half_crd T t i hi hn]
  fin_cases a
  · show T.e i * 1 + 0 = T.e i; omega
  · show t.val % 2 * 1792 + (k : ℕ) = q; omega
  · show 0 * 1024 + (j : ℕ) = j; omega

/-- The summand of a token in a tile in use. -/
def trm (s : Fin 73728) (j : Fin 1024) : ℕ → EReal :=
  term (fun d => Xa m c (ix2 s d)) (fun d k => Ga m c (ix3 (T.ex i) d k)) (fun d k => Ua m c (ix3 (T.ex i) d k)) (fun k => Da m c (ix3 (T.ex i) k j))

include hi hn in
/-- One chunk at one entry. -/
theorem chk_at (r j : Fin 1024) (s : Fin 73728) (hs : (s : ℕ) = 1024 * i + r) (h : ℕ) (h7 : h < 7) :
    chk (iblk T m ρ c (0 : Fin 5) t) (iblk T m ρ c (1 : Fin 5) t) (iblk T m ρ c (2 : Fin 5) t) (iblk T m ρ c (3 : Fin 5) t) h (ix2 r j)
      = part (trm T m c i s j) (t.val % 2) h := by
  refine (CH_at _ _ _ _ r j).trans (Finset.sum_congr rfl fun k _ => ?_)
  have hk := k.isLt
  have h2 : t.val % 2 < 2 := Nat.mod_lt _ (by omega)
  have hq : 1792 * (t.val % 2) + (256 * h + (k : ℕ)) < 3584 := by omega
  have eq : (⟨256 * (h % 7) + k, by omega⟩ : Fin 1792) = ⟨256 * h + k, by omega⟩ := Fin.ext (by show 256 * (h % 7) + (k : ℕ) = 256 * h + k; omega)
  unfold trm term
  rw [dif_pos hq]
  simp only [col_at, row_at, eq]
  rw [d_at T m ρ c t i hi hn _ ⟨_, hq⟩ rfl j]
  simp only [x_at T m ρ c t i hi hn r _ s hs, g_at T m ρ c t i hi hn _ (⟨256 * h + k, by omega⟩ : Fin 1792) ⟨_, hq⟩ rfl,
    u_at T m ρ c t i hi hn _ (⟨256 * h + k, by omega⟩ : Fin 1792) ⟨_, hq⟩ rfl]
  rfl

include hi hn in
/-- A point's contribution at one entry: its half. -/
theorem body_at (r j : Fin 1024) (s : Fin 73728) (hs : (s : ℕ) = 1024 * i + r) :
    BODY (iblk T m ρ c (0 : Fin 5) t) (iblk T m ρ c (1 : Fin 5) t) (iblk T m ρ c (2 : Fin 5) t) (iblk T m ρ c (3 : Fin 5) t) (ix2 r j)
      = half (trm T m c i s j) (t.val % 2) := by
  rw [half_eq]
  unfold BODY
  show chk _ _ _ _ 0 (ix2 r j) + chk _ _ _ _ 1 (ix2 r j) + chk _ _ _ _ 2 (ix2 r j) + chk _ _ _ _ 3 (ix2 r j) + chk _ _ _ _ 4 (ix2 r j)
    + chk _ _ _ _ 5 (ix2 r j) + chk _ _ _ _ 6 (ix2 r j) = _
  rw [chk_at T m ρ c t i hi hn r j s hs 0 (by omega), chk_at T m ρ c t i hi hn r j s hs 1 (by omega),
    chk_at T m ρ c t i hi hn r j s hs 2 (by omega), chk_at T m ρ c t i hi hn r j s hs 3 (by omega),
    chk_at T m ρ c t i hi hn r j s hs 4 (by omega), chk_at T m ρ c t i hi hn r j s hs 5 (by omega),
    chk_at T m ρ c t i hi hn r j s hs 6 (by omega)]

end Cert.ExpertsIdeal.Moe
end
-- ==== Proof.ExpertsOut.lean ====
/- The experts' result array after the run: a token of a tile in use goes through its tile's expert, any other row is zero. -/
module

public import proofs.«01_k».proof.Proof.ExpertsBlocks
public import Idealize.ShloMosaic.Lib.Pipeline.ValueKit

@[expose] public section

set_option maxRecDepth 16384
set_option Elab.async false

noncomputable section

namespace Cert.ExpertsIdeal.Moe

open Cert.ExpertsIdeal Cert.ExpertsIdeal.Gen Cert.Moe Idealize.ShloMosaic Idealize.ShloMosaic.TcCoe Idealize.SL.Sem

variable (T : Tabs)
variable (m : (ℓ : Loc nD τ sig) → Buf (Elt Ideal) ℓ) (ρ : Dev nD → PrngReg) (c : Dev nD)

/-- One token through its tile's expert, at one feature. -/
def tok (i : Fin 72) (s : Fin 73728) (j : Fin 1024) : EReal :=
  ffn (fun d => Xa m c (ix2 s d)) (fun d k => Ga m c (ix3 (T.ex i) d k)) (fun d k => Ua m c (ix3 (T.ex i) d k)) (fun k => Da m c (ix3 (T.ex i) k j))

/-- The tile of a token. -/
def tile (s : Fin 73728) : Fin 72 := ⟨s / 1024, by omega⟩

/-- The result array. -/
def outM : S73728x1024.Idx → EReal := fun q => if (tile (q 0) : ℕ) < T.n then tok T m c (tile (q 0)) (q 0) (q 1) else 0

/-- What the first point of a tile in use leaves. -/
theorem traj_even (t : Fin (cfgA T).N) (he : t.val % 2 = 0) (hn : t.val / 2 < T.n) :
    traj0 T m ρ c t.val t.isLt = BODY (iblk T m ρ c (0 : Fin 5) t) (iblk T m ρ c (1 : Fin 5) t) (iblk T m ρ c (2 : Fin 5) t) (iblk T m ρ c (3 : Fin 5) t) := by
  have q0 : ¬P0_0 T t := fun h => ((P0_0_iff T t).mp h).1 hn
  have q1 : P0_1 T t := (P0_1_iff T t).mpr hn
  have q2 : P0_2 T t := (P0_2_iff T t).mpr he
  rw [traj0_eq, step0_A T m ρ c t _ q0 q1 q2]
  exact outA_eq _ _ _ _ _ _ _ _ _ _ _ _ _ _ _ _ _ _ _ _ _ _

/-- What the second point of a tile in use leaves: what was there plus the second half. -/
theorem traj_odd (t : Fin (cfgA T).N) (ho : ¬ t.val % 2 = 0) (hn : t.val / 2 < T.n) :
    traj0 T m ρ c t.val t.isLt = addf (F := Ideal) (φ := .f32) (prev0 T m ρ c t)
      (BODY (iblk T m ρ c (0 : Fin 5) t) (iblk T m ρ c (1 : Fin 5) t) (iblk T m ρ c (2 : Fin 5) t) (iblk T m ρ c (3 : Fin 5) t)) := by
  have q0 : ¬P0_0 T t := fun h => ((P0_0_iff T t).mp h).1 hn
  have q1 : P0_1 T t := (P0_1_iff T t).mpr hn
  have q2 : ¬P0_2 T t := fun h => ho ((P0_2_iff T t).mp h)
  rw [traj0_eq, step0_B T m ρ c t _ q0 q1 q2]
  exact outB_eq _ _ _ _ _ _ _ _ _ _ _ _ _ _ _ _ _ _ _ _ _ _ _

/-- What the first point of an idle tile leaves. -/
theorem traj_idle_even (t : Fin (cfgA T).N) (he : t.val % 2 = 0) (hn : ¬ t.val / 2 < T.n) :
    traj0 T m ρ c t.val t.isLt = fun _ => (0 : EReal) := by
  have q0 : P0_0 T t := (P0_0_iff T t).mpr ⟨hn, he⟩
  rw [traj0_eq, step0_C T m ρ c t _ q0]
  exact outC_eq _ _ _ _ _ _ _ _ _ _ _ _ _ _ _ _ _ _ _ _

/-- The second point of an idle tile changes nothing. -/
theorem traj_idle_odd (t : Fin (cfgA T).N) (ho : ¬ t.val % 2 = 0) (hn : ¬ t.val / 2 < T.n) :
    traj0 T m ρ c t.val t.isLt = prev0 T m ρ c t := by
  have q0 : ¬P0_0 T t := fun h => ho ((P0_0_iff T t).mp h).2
  have q1 : ¬P0_1 T t := fun h => hn ((P0_1_iff T t).mp h)
  rw [traj0_eq, step0_D T m ρ c t _ q0 q1, fresh4, decide_eq_false ho]
  rfl

/-- The block a tile's second point writes back, at one entry. -/
theorem traj_at (t : Fin (cfgA T).N) (ho : t.val % 2 = 1) (i : Fin 72) (hi : t.val / 2 = i) (r j : Fin 1024) (s : Fin 73728)
    (hs : (s : ℕ) = 1024 * i + r) :
    traj0 T m ρ c t.val t.isLt (ix2 r j) = (if (i : ℕ) < T.n then tok T m c i s j else 0 : EReal) := by
  have h0 : t.val ≠ 0 := by omega
  have hp : prev0 T m ρ c t = traj0 T m ρ c (t.val - 1) (by omega) := by unfold prev0; rw [dif_neg h0]
  let t' : Fin (cfgA T).N := ⟨t.val - 1, by omega⟩
  have ht' : t'.val = t.val - 1 := rfl
  have he' : t'.val % 2 = 0 := by omega
  have hi' : t'.val / 2 = i := by omega
  have hp' : prev0 T m ρ c t = traj0 T m ρ c t'.val t'.isLt := hp
  by_cases hn : (i : ℕ) < T.n
  · rw [if_pos hn, traj_odd T m ρ c t (by omega) (by omega), hp', traj_even T m ρ c t' he' (by omega)]
    show BODY (iblk T m ρ c (0 : Fin 5) t') (iblk T m ρ c (1 : Fin 5) t') (iblk T m ρ c (2 : Fin 5) t') (iblk T m ρ c (3 : Fin 5) t') (ix2 r j)
      + BODY (iblk T m ρ c (0 : Fin 5) t) (iblk T m ρ c (1 : Fin 5) t) (iblk T m ρ c (2 : Fin 5) t) (iblk T m ρ c (3 : Fin 5) t) (ix2 r j) = _
    rw [body_at T m ρ c t' i hi' hn r j s hs, body_at T m ρ c t i hi hn r j s hs, he', ho]
    exact (ffn_eq _ _ _ _).symm
  · rw [if_neg hn, traj_idle_odd T m ρ c t (by omega) (by omega), hp', traj_idle_even T m ρ c t' he' (by omega)]

theorem gridN : grid0.N = 144 := by decide +kernel
theorem t4_0 : ∀ t : Fin grid0.N, cc0_transform_4 (grid0.coords t) 0 = t.val / 2 := by decide +kernel
theorem t4_1 : ∀ t : Fin grid0.N, cc0_transform_4 (grid0.coords t) 1 = 0 := by decide +kernel
theorem size_pos : ∀ a : Fin 2, 0 < S1024x1024.size a := by decide
theorem blocks_0 : (S73728x1024.size 0 + S1024x1024.size 0 - 1) / S1024x1024.size 0 = 72 := by decide
theorem blocks_1 : (S73728x1024.size 1 + S1024x1024.size 1 - 1) / S1024x1024.size 1 = 1 := by decide

/-- Every block of the result is written back. -/
theorem covers : ((cfgA T).win (4 : Fin 5)).Covers := by
  refine ⟨fun a => size_pos a, fun β => ?_⟩
  have h0 : (β (0 : Fin 2) : ℕ) < 72 := lt_of_lt_of_eq (β (0 : Fin 2)).isLt blocks_0
  have h1 : (β (1 : Fin 2) : ℕ) < 1 := lt_of_lt_of_eq (β (1 : Fin 2)).isLt blocks_1
  have hN : (cfgA T).N = 144 := gridN
  refine ⟨⟨2 * (β (0 : Fin 2) : ℕ) + 1, lt_of_lt_of_eq (by omega : _ < 144) hN.symm⟩, ?_, fun a => ⟨?_, Or.inl rfl⟩⟩
  · rw [flush4]; exact decide_eq_true (by show (2 * (β (0 : Fin 2) : ℕ) + 1) % 2 = 1; omega)
  · fin_cases a
    · refine (t4_0 _).trans ?_
      show (2 * (β (0 : Fin 2) : ℕ) + 1) / 2 = (β (0 : Fin 2) : ℕ)
      omega
    · show 0 = (β (1 : Fin 2) : ℕ)
      omega

/-- The result array after the run. -/
theorem arr_eq : (dats T m ρ 0 c).arrAt (4 : Fin 5) (cfgA T).N = outM T m c := by
  refine (dats T m ρ 0 c).arrAt_eq_of_covers (4 : Fin 5) (outM T m c) (covers T) fun t hf y => ?_
  rw [flush4] at hf
  have ho : t.val % 2 = 1 := of_decide_eq_true hf
  have hN : (cfgA T).N = 144 := gridN
  have ht : t.val < 144 := hN ▸ t.isLt
  let z : S1024x1024.Idx := y
  show traj0 T m ρ c t.val t.isLt z = outM T m c ((((cfgA T).win (4 : Fin 5)).blk t).view.emb z)
  have hz : z = ix2 (z 0) (z 1) := by funext a; fin_cases a <;> rfl
  have b0 : (z 0 : ℕ) < 1024 := (z 0).isLt
  have e0 := emb4_val T t z 0
  have e1 := emb4_val T t z 1
  have c0 : cc0_transform_4 (crd T t) 0 = t.val / 2
    := t4_0 t
  have c1 : cc0_transform_4 (crd T t) 1 = 0 := t4_1 t
  rw [c0] at e0
  rw [c1] at e1
  generalize hq : (((cfgA T).win (4 : Fin 5)).blk t).view.emb z = q at e0 e1 ⊢
  change S73728x1024.Idx at q
  replace e0 : ((q 0 : Fin 73728) : ℕ) = t.val / 2 * 1024 + (z 0 : ℕ) := e0
  replace e1 : ((q 1 : Fin 1024) : ℕ) = 0 * 1024 + (z 1 : ℕ) := e1
  have f1 : (q 1 : Fin 1024) = z 1 := Fin.ext (by omega)
  have hi : t.val / 2 = (tile (q 0) : ℕ) := by show t.val / 2 = ((q 0 : Fin 73728) : ℕ) / 1024; omega
  rw [hz]
  refine (traj_at T m ρ c t ho (tile (q 0)) hi (z 0) (z 1) (q 0) (by omega)).trans ?_
  unfold outM
  rw [f1]

end Cert.ExpertsIdeal.Moe
end
-- ==== Proof.ExpertsRef.lean ====
/- The experts' reference at one entry: a token of a tile in use goes through its tile's expert, any other gives zero. -/
module

public import proofs.«01_k».proof.Proof.ExpertsTerm
public import proofs.«01_k».proof.Proof.Words
public import proofs.«01_k».proof.Proof.Gen.ExpertsRefIdeal.Read
public import Idealize.ShloMosaic.Lib.Pipeline.ValueKit

@[expose] public section

set_option maxRecDepth 16384

noncomputable section

namespace Cert.ExpertsRefIdeal.Val

open Cert.ExpertsRefIdeal Cert.ExpertsRefIdeal.Gen Cert.ExpertsRefIdeal.Read Cert.Moe Idealize.ShloMosaic Idealize.ShloMosaic.TcCoe Idealize.SL.Sem

variable (x0 : IVec S72 32) (x1 : IVec S1 32) (x2 : FVec Ideal S73728x1024 .f32) (x3 x4 : FVec Ideal S8x1024x3584 .bf16)
  (x5 : FVec Ideal S8x3584x1024 .bf16)
variable (s : Fin 73728) (e : Fin 8) (j : Fin 1024)

theorem v11_at (k : Fin 3584) : val_main_v11 (F := Ideal) x2 x3 (ix3 s e k)
    = dot (fun d => x2 (ix2 s d)) (fun d => x3 (ix3 e d k)) := by
  pointwise [val_main_v11, val_main_v10, dot]
theorem v13_at (k : Fin 3584) : val_main_v13 (F := Ideal) x2 x4 (ix3 s e k)
    = dot (fun d => x2 (ix2 s d)) (fun d => x4 (ix3 e d k)) := by
  pointwise [val_main_v13, val_main_v12, dot]
theorem v15_at (k : Fin 3584) : val_main_v15 (F := Ideal) x2 x3 x4 (ix3 s e k)
    = hid (val_main_v11 (F := Ideal) x2 x3 (ix3 s e k)) (val_main_v13 (F := Ideal) x2 x4 (ix3 s e k)) := by
  unfold hid
  rw [← silu_eq]
  unfold val_main_v15 val_main_v14 val_main_call1_v5 val_main_call1_v3 val_main_call1_v1 val_main_call1_v0
  generalize val_main_v11 (F := Ideal) x2 x3 = g
  generalize val_main_v13 (F := Ideal) x2 x4 = u
  pointwise [val_main_call1_v4, val_main_call1_v2, val_main_call1_cst_0, val_main_call1_cst]
theorem v18_at : val_main_v18 (F := Ideal) x2 x3 x4 x5 (ix3 s e j)
    = ffn (fun d => x2 (ix2 s d)) (fun d k => x3 (ix3 e d k)) (fun d k => x4 (ix3 e d k)) (fun k => x5 (ix3 e k j)) := by
  have h : val_main_v18 (F := Ideal) x2 x3 x4 x5 (ix3 s e j)
      = ∑ k : Fin 3584, x5 (ix3 e k j) * val_main_v15 (F := Ideal) x2 x3 x4 (ix3 s e k) := by
    unfold val_main_v18 val_main_v17
    generalize val_main_v15 (F := Ideal) x2 x3 x4 = u
    pointwise [val_main_v16]
  rw [h]
  unfold ffn
  exact Finset.sum_congr rfl fun k _ => by rw [v15_at, v11_at, v13_at, mul_comm]

/-- The one place of the second table. -/
theorem one_place (a b : S1.Idx) : a = b := funext fun i => by
  have h : ∀ b : Fin 1, ∀ p q : Fin (S1.size b), p = q := by decide
  exact h i _ _

/-- A tile's weight for an expert: one if the tile is in use and the expert is its own. -/
theorem v7_at (i : Fin 72) (p : S72.Idx) (hp : (p 0 : ℕ) = i) (z : S1.Idx) (h0 : (x0 p).toNat < 8) (h1 : (x1 z).toNat ≤ 72) :
    val_main_v7 (F := Ideal) x0 x1 (ix2 i e) = (if (e : ℕ) = (x0 p).toNat ∧ (i : ℕ) < (x1 z).toNat then 1 else 0 : EReal) := by
  have ep : ix1 i = p := by funext a; fin_cases a; exact Fin.ext hp.symm
  have a0 : val_main_v0 (F := Ideal) x0 (ix2 i e) = (if (e : ℕ) = (x0 p).toNat then 1 else 0 : EReal) := by
    rw [val_main_v0_apply, val_main_call0_v4_apply, val_main_call0_v2_apply, val_main_call0_v0_apply, val_main_call0_v3_apply,
      val_main_call0_v1_apply]
    have e0 : idx_main_call0_v0 (idx_main_call0_v2 (ix2 i e)) = p := by rw [← ep]; funext a; fin_cases a; rfl
    rw [e0]
    show (((BitVec.ofBool (x0 p == BitVec.ofNat 32 (e : ℕ))).toNat : ℝ) : EReal) = _
    have hb : (x0 p == BitVec.ofNat 32 (e : ℕ)) = decide ((e : ℕ) = (x0 p).toNat) := by
      rw [Bool.eq_iff_iff, beq_iff_eq, decide_eq_true_eq]
      have he := e.isLt
      constructor
      · intro h; rw [h, Cert.Words.toNat_ofNat _ (by omega)]
      · intro h; apply BitVec.eq_of_toNat_eq; rw [Cert.Words.toNat_ofNat _ (by omega), h]
    rw [hb]
    by_cases h : (e : ℕ) = (x0 p).toNat
    · simp [h]
    · simp [h]
  have a6 : val_main_v6 (F := Ideal) x1 (ix2 i e) = (if (i : ℕ) < (x1 z).toNat then 1 else 0 : EReal) := by
    rw [val_main_v6_apply, val_main_v5_apply, val_main_v4_apply, val_main_v3_apply, val_main_v2_apply, val_main_v1_apply,
      one_place (idx_main_v2 _) z]
    show (((BitVec.ofBool ((BitVec.ofNat 32 (i : ℕ)).slt (x1 z))).toNat : ℝ) : EReal) = _
    have hi := i.isLt
    rw [Cert.Words.slt_ofNat _ (by omega) _ (by omega)]
    by_cases h : (i : ℕ) < (x1 z).toNat
    · simp [h]
    · simp [h]
  rw [val_main_v7_apply, a0, a6]
  show _ * _ = _
  by_cases h : (e : ℕ) = (x0 p).toNat <;> by_cases h' : (i : ℕ) < (x1 z).toNat <;> simp [h, h']

theorem v20_at (i : Fin 72) (hs : (s : ℕ) / 1024 = i) :
    val_main_v20 (F := Ideal) x0 x1 (ix3 s e j) = val_main_v7 (F := Ideal) x0 x1 (ix2 i e) := by
  rw [val_main_v20_apply, val_main_v19_apply, val_main_v9_apply, val_main_v8_apply]
  generalize val_main_v7 (F := Ideal) x0 x1 = w
  refine congrArg w ?_
  have he := e.isLt
  funext a
  fin_cases a
  · exact Fin.ext (by show ((s : ℕ) * 8 + (e : ℕ)) / 8192 = i; omega)
  · exact Fin.ext (by show ((s : ℕ) * 8 + (e : ℕ)) % 8 = e; omega)

/-- THE REFERENCE AT ONE ENTRY. -/
theorem ref_at (i : Fin 72) (hs : (s : ℕ) / 1024 = i) (p : S72.Idx) (hp : (p 0 : ℕ) = i) (z : S1.Idx) (h0 : (x0 p).toNat < 8)
    (h1 : (x1 z).toNat ≤ 72) :
    val_main_v22 (F := Ideal) x0 x1 x2 x3 x4 x5 (ix2 s j)
      = if (i : ℕ) < (x1 z).toNat then
          ffn (fun d => x2 (ix2 s d)) (fun d k => x3 (ix3 ⟨(x0 p).toNat, h0⟩ d k)) (fun d k => x4 (ix3 ⟨(x0 p).toNat, h0⟩ d k))
            (fun k => x5 (ix3 ⟨(x0 p).toNat, h0⟩ k j))
        else 0 := by
  have hc : (val_main_cst (F := Ideal)) (Shape.Idx.first h_S_) = (0 : EReal) := by pointwise [val_main_cst]
  have hk : ∀ k : Fin 8, idx_main_v22 (ix2 s j) k = ix3 s k j := fun k => by funext a; fin_cases a <;> rfl
  have hv : ∀ k : Fin 8, val_main_v21 (F := Ideal) x0 x1 x2 x3 x4 x5 (ix3 s k j)
      = (if (k : ℕ) = (x0 p).toNat ∧ (i : ℕ) < (x1 z).toNat then 1 else 0 : EReal)
        * ffn (fun d => x2 (ix2 s d)) (fun d q => x3 (ix3 k d q)) (fun d q => x4 (ix3 k d q)) (fun q => x5 (ix3 k q j)) := fun k => by
    rw [val_main_v21_apply, v20_at x0 x1 s k j i hs, v7_at x0 x1 k i p hp z h0 h1, v18_at]
    rfl
  rw [val_main_v22_apply, hc, zero_add]
  simp only [hk, hv]
  split
  · rename_i h
    rw [Finset.sum_eq_single (⟨(x0 p).toNat, h0⟩ : Fin 8)]
    · rw [if_pos ⟨rfl, h⟩, one_mul]
    · intro k _ hne
      rw [if_neg (fun hh => hne (Fin.ext hh.1)), zero_mul]
    · intro hh; exact absurd (Finset.mem_univ _) hh
  · rename_i h
    exact Finset.sum_eq_zero fun k _ => by rw [if_neg (fun hh => h hh.2), zero_mul]

end Cert.ExpertsRefIdeal.Val
end
-- ==== Proof.ExpertsValue.lean ====
/- The experts' call computes the reference's result at the ideal values. -/
module

public import proofs.«01_k».proof.Proof.ExpertsOut
public import proofs.«01_k».proof.Proof.ExpertsRef
public import proofs.«01_k».proof.Proof.ExpertsIdealPre
public import proofs.«01_k».proof.Proof.Gen.ExpertsRefIdeal.Run

@[expose] public section

set_option maxRecDepth 16384

noncomputable section

namespace Cert.Moe

open Idealize.ShloMosaic Idealize.ShloMosaic.TcCoe Idealize.SL.Sem

/-- The first table as the call's argument. -/
def te (m : (ℓ : Loc Cert.ExpertsIdeal.nD Cert.ExpertsIdeal.τ Cert.ExpertsIdeal.sig) → Buf (Elt Ideal) ℓ) (c : Dev Cert.ExpertsIdeal.nD) :
    Cert.ExpertsIdeal.S72.Idx → BitVec 32 := m ((c.tc : Thread Cert.ExpertsIdeal.nD Cert.ExpertsIdeal.τ).loc Cert.ExpertsIdeal.main_arg0)
/-- The second table as the call's argument. -/
def na (m : (ℓ : Loc Cert.ExpertsIdeal.nD Cert.ExpertsIdeal.τ Cert.ExpertsIdeal.sig) → Buf (Elt Ideal) ℓ) (c : Dev Cert.ExpertsIdeal.nD) :
    Cert.ExpertsIdeal.S1.Idx → BitVec 32 := m ((c.tc : Thread Cert.ExpertsIdeal.nD Cert.ExpertsIdeal.τ).loc Cert.ExpertsIdeal.main_arg1)

/-- The two closed forms agree. -/
theorem outM_eq_ref (T : Cert.ExpertsIdeal.Moe.Tabs)
    (m : (ℓ : Loc Cert.ExpertsIdeal.nD Cert.ExpertsIdeal.τ Cert.ExpertsIdeal.sig) → Buf (Elt Ideal) ℓ) (c : Dev Cert.ExpertsIdeal.nD)
    (h0 : te m c = T.te) (h1 : na m c = T.na) :
    Cert.ExpertsIdeal.Moe.outM T m c = Cert.ExpertsRefIdeal.Read.val_main_v22 (F := Ideal) (te m c) (na m c)
      (Cert.ExpertsIdeal.Moe.Xa m c) (Cert.ExpertsIdeal.Moe.Ga m c) (Cert.ExpertsIdeal.Moe.Ua m c) (Cert.ExpertsIdeal.Moe.Da m c) := by
  funext i
  have hi : i = ix2 (i 0) (i 1) := by funext a; fin_cases a <;> rfl
  rw [hi, h0, h1]
  exact (Cert.ExpertsRefIdeal.Val.ref_at T.te T.na _ _ _ _ (i 0) (i 1) (Cert.ExpertsIdeal.Moe.tile (i 0)) rfl
    (Cert.ExpertsIdeal.Moe.p72 (Cert.ExpertsIdeal.Moe.tile (i 0))) rfl Cert.ExpertsIdeal.Moe.z1 (T.te_lt _) (T.na_le _)).symm

/-- The claim that the kernel computes the reference's result at the ideal values. -/
theorem algebraic :
    Cert.algebraic_ExpertsIdeal_ExpertsRefIdeal (hExpertsIdeal := Cert.ExpertsIdeal.Gen.facts)
      (hExpertsRefIdeal := Cert.ExpertsRefIdeal.Gen.facts) (hPre_tables := Cert.Pre_tables.Gen.facts) := by
  intro m g m' g' hpre hag
  have hp := Cert.ExpertsIdeal.Moe.pinned_of_pre m hpre
  refine ⟨fun c => Cert.ExpertsIdeal.Moe.outM (Cert.ExpertsIdeal.Moe.tabsOf m hpre) m c, ?_, ?_⟩
  · refine (θ_run _ _ _).mono (fun r h c => ?_)
      (θ_run_and (Cert.ExpertsIdeal.Moe.run_main (Cert.ExpertsIdeal.Moe.tabsOf m hpre) m g hp)
        (Cert.ExpertsIdeal.Moe.unchanged (Cert.ExpertsIdeal.Moe.tabsOf m hpre) m g hp))
    exact ⟨((h.1 c).1 (4 : Fin 5)).trans (Cert.ExpertsIdeal.Moe.arr_eq (Cert.ExpertsIdeal.Moe.tabsOf m hpre) m g c), h.2 c⟩
  · refine (θ_run _ _ _).mono (fun r h c => ?_) (Cert.ExpertsRefIdeal.Value.run (F := Ideal) m' g')
    obtain ⟨hv, ha⟩ := h c
    obtain ⟨e0, e1, e2, e3, e4, e5⟩ := hag c
    refine ⟨hv.trans ?_, ha⟩
    rw [e0, e1, e2, e3, e4, e5]
    exact (Cert.ExpertsRefIdeal.Read.val_main_v22_eq _ _ _ _ _ _).trans
      (outM_eq_ref (Cert.ExpertsIdeal.Moe.tabsOf m hpre) m c (hp.1 c) (hp.2 c)).symm

end Cert.Moe
end
-- ==== Proof.DenseBody.lean ====
/- The dense feed-forward kernel's body at one point: seven chunks of hidden units, and the last point's normalisation. -/
module

public import proofs.«01_k».proof.Proof.ExpertsTerm
public import proofs.«01_k».proof.Proof.Gen.DenseIdeal.Frame
public import Idealize.ShloMosaic.Lib.Pipeline.ReadBack
public import Idealize.ShloMosaic.Lib.Pipeline.ValueKit

@[expose] public section

set_option maxRecDepth 16384
set_option Elab.async false

noncomputable section

namespace Cert.DenseIdeal.Val

open Cert.DenseIdeal Cert.DenseIdeal.Gen Cert.Moe Idealize.ShloMosaic Idealize.ShloMosaic.TcCoe Idealize.SL.Sem

/-- Columns `256·(h mod 7) …` of a block of the first two weights. -/
def col (x : Vec Ideal S1024x1792 .bf16) (h : ℕ) : Vec Ideal S1024x256 .bf16 :=
  View.ld x (Rect.unit ![0, 256 * (h % 7)] ![1024, 256] (by
    intro a; have h1 := Nat.mod_lt h (show 0 < 7 by omega)
    fin_cases a <;> simp [S1024x1792] <;> omega))

/-- Rows `256·(h mod 7) …` of a block of the last weights. -/
def row (x : Vec Ideal S1792x1024 .bf16) (h : ℕ) : Vec Ideal S256x1024 .bf16 :=
  View.ld x (Rect.unit ![256 * (h % 7), 0] ![256, 1024] (by
    intro a; have h1 := Nat.mod_lt h (show 0 < 7 by omega)
    fin_cases a <;> simp [S1792x1024] <;> omega))

theorem col_at (x : Vec Ideal S1024x1792 .bf16) (h : ℕ) (i : Fin 1024) (k : Fin 256) :
    col x h (ix2 i k) = x (ix2 i ⟨256 * (h % 7) + k, by omega⟩) := by
  pointwise [col]
theorem row_at (x : Vec Ideal S1792x1024 .bf16) (h : ℕ) (k : Fin 256) (i : Fin 1024) :
    row x h (ix2 k i) = x (ix2 ⟨256 * (h % 7) + k, by omega⟩ i) := by
  pointwise [row]

/-- One entry of a chunk of 256 hidden units. -/
def ch (x : Vec Ideal S1024x1024 .bf16) (g u : Vec Ideal S1024x256 .bf16) (d : Vec Ideal S256x1024 .bf16) (r j : Fin 1024) : EReal :=
  ∑ k : Fin 256, hid (dot (fun e => x (ix2 r e)) fun e => g (ix2 e k)) (dot (fun e => x (ix2 r e)) fun e => u (ix2 e k)) * d (ix2 k j)

theorem pay4_at (x : Vec Ideal S1024x1024 .bf16) (g u : Vec Ideal S1024x256 .bf16) (d : Vec Ideal S256x1024 .bf16)
    (g' u' : Vec Ideal S1024x256 .bf16) (d' : Vec Ideal S256x1024 .bf16) (r j : Fin 1024) :
    k0_pay4 x g u d g' u' d' (ix2 r j) = ch x g u d r j + ch x g' u' d' r j := by
  pointwise [k0_pay4, ch, hid, dot]

/-- The zeros a product starts from. -/
abbrev zeros : FVec Ideal S1024x256 .f32 := constant S1024x256 .f32 0x00000000#32

theorem pay5_at (x : Vec Ideal S1024x1024 .bf16) (v : FVec Ideal S1024x1024 .f32) (g u : Vec Ideal S1024x256 .bf16) (d : Vec Ideal S256x1024 .bf16)
    (g' u' : Vec Ideal S1024x256 .bf16) (d' : Vec Ideal S256x1024 .bf16) (r j : Fin 1024) :
    k0_pay5 x v g zeros u d g' u' d' (ix2 r j) = v (ix2 r j) + ch x g u d r j + ch x g' u' d' r j := by
  pointwise [k0_pay5, ch, hid, dot]

theorem pay9_at (x : Vec Ideal S1024x1024 .bf16) (v : FVec Ideal S1024x1024 .f32) (g u : Vec Ideal S1024x256 .bf16) (d : Vec Ideal S256x1024 .bf16)
    (g' u' : Vec Ideal S1024x256 .bf16) (d' : Vec Ideal S256x1024 .bf16) (r j : Fin 1024) :
    k0_pay9 x v (k0_pay6 x g) (k0_pay7 x u) k0_pay8 d g' u' d' (ix2 r j) = v (ix2 r j) + ch x g u d r j + ch x g' u' d' r j := by
  pointwise [k0_pay9, k0_pay6, k0_pay7, k0_pay8, ch, hid, dot]

theorem pay1_at (x : Vec Ideal S1024x1024 .bf16) (v : FVec Ideal S1024x1024 .f32) (g u : Vec Ideal S1024x256 .bf16) (d : Vec Ideal S256x1024 .bf16)
    (r j : Fin 1024) :
    k0_pay1 v (k0_pay10 x g u) d (ix2 r j) = v (ix2 r j) + ch x g u d r j := by
  pointwise [k0_pay1, k0_pay10, ch, hid, dot]

/-- The point's contribution: its seven chunks. -/
def BODY (x0 : Vec Ideal S1024x1024 .bf16) (x1 x2 : Vec Ideal S1024x1792 .bf16) (x3 : Vec Ideal S1792x1024 .bf16) :
    FVec Ideal S1024x1024 .f32 :=
  k0_pay1 (k0_pay9 x0 (k0_pay5 x0 (k0_pay4 x0 (col x1 0) (col x2 0) (row x3 0) (col x1 1) (col x2 1) (row x3 1))
      (col x1 2) zeros (col x2 2) (row x3 2) (col x1 3) (col x2 3) (row x3 3))
    (k0_pay6 x0 (col x1 4)) (k0_pay7 x0 (col x2 4)) k0_pay8 (row x3 4) (col x1 5) (col x2 5) (row x3 5))
    (k0_pay10 x0 (col x1 6) (col x2 6)) (row x3 6)

theorem BODY_at (x0 : Vec Ideal S1024x1024 .bf16) (x1 x2 : Vec Ideal S1024x1792 .bf16) (x3 : Vec Ideal S1792x1024 .bf16) (r j : Fin 1024) :
    BODY x0 x1 x2 x3 (ix2 r j) = ch x0 (col x1 0) (col x2 0) (row x3 0) r j + ch x0 (col x1 1) (col x2 1) (row x3 1) r j
      + ch x0 (col x1 2) (col x2 2) (row x3 2) r j + ch x0 (col x1 3) (col x2 3) (row x3 3) r j + ch x0 (col x1 4) (col x2 4) (row x3 4) r j
      + ch x0 (col x1 5) (col x2 5) (row x3 5) r j + ch x0 (col x1 6) (col x2 6) (row x3 6) r j := by
  unfold BODY
  rw [pay1_at, pay9_at, pay5_at, pay4_at]

/-- The residual, the gate and the normalised row. -/
def nrm (h g p : EReal) (z : Fin 1024 → EReal) (j : Fin 1024) : EReal :=
  h + g * (z j * Ideal.rsqrt (Ideal.div (∑ k : Fin 1024, z k * z k) (FloatOps.ofBits (F := Ideal) .f32 0x44800000#32)
    + FloatOps.ofBits (F := Ideal) .f32 0x358637BD#32) * p)

/-- The last point's result. -/
def FIN (b o h : Vec Ideal S1024x1024 .f32) (g : Vec Ideal S1x1x1024 .f32) (p : Vec Ideal S1x1024 .f32) (r j : Fin 1024) : EReal :=
  nrm (h (ix2 r j)) (g (ix3 0 0 j)) (p (ix2 0 j)) (fun k => o (ix2 r k) + b (ix2 r k)) j

theorem pay3_at (v : FVec Ideal S1024x1024 .f32) (w : FVec Ideal S1024x256 .bf16) (d : Vec Ideal S256x1024 .bf16)
    (h : Vec Ideal S1024x1024 .f32) (g : Vec Ideal S1x1x1024 .f32) (o : Vec Ideal S1024x1024 .f32) (p : Vec Ideal S1x1024 .f32) (r j : Fin 1024) :
    k0_pay3 v w d h g o p (ix2 r j) = FIN (k0_pay1 v w d) o h g p r j := by
  unfold k0_pay3
  generalize k0_pay1 v w d = b
  pointwise [FIN, nrm]

/-- The first point stores its contribution. -/
theorem outA_eq (c : Dev nD) (i : grid0.Coords) (arg2 : Memref sig .tc .vmem S1024x1024 .bf16) (harg2 : arg2.IsWhole) (arg3 : Memref sig .tc .vmem S1024x1792 .bf16) (harg3 : arg3.IsWhole) (arg4 : Memref sig .tc .vmem S1024x1792 .bf16) (harg4 : arg4.IsWhole) (arg5 : Memref sig .tc .vmem S1792x1024 .bf16) (harg5 : arg5.IsWhole) (arg6 : Memref sig .tc .vmem S1024x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1024x1024 .f32) (harg9 : arg9.IsWhole) (hc0 : cond0_0 i) (hc1 : ¬cond0_1 i) (hc2 : ¬cond0_2 i)
    (x0 : Vec Ideal S1024x1024 .bf16) (x1 : Vec Ideal S1024x1792 .bf16) (x2 : Vec Ideal S1024x1792 .bf16) (x3 : Vec Ideal S1792x1024 .bf16) (x4 : Vec Ideal S1024x1024 .f32) (x5 : Vec Ideal S1x1x1024 .f32) (x6 : Vec Ideal S1x1024 .f32) :
    out0_A_7 c i arg2 harg2 arg3 harg3 arg4 harg4 arg5 harg5 arg6 harg6 arg7 harg7 arg8 harg8 arg9 harg9 hc0 hc1 hc2 x0 x1 x2 x3 x4 x5 x6 = BODY x0 x1 x2 x3 := by
  unfold out0_A_7
  frame_out
  (try simp only [View.read_rep])
  rfl

/-- The last point stores the result. -/
theorem outB_at (c : Dev nD) (i : grid0.Coords) (arg2 : Memref sig .tc .vmem S1024x1024 .bf16) (harg2 : arg2.IsWhole) (arg3 : Memref sig .tc .vmem S1024x1792 .bf16) (harg3 : arg3.IsWhole) (arg4 : Memref sig .tc .vmem S1024x1792 .bf16) (harg4 : arg4.IsWhole) (arg5 : Memref sig .tc .vmem S1792x1024 .bf16) (harg5 : arg5.IsWhole) (arg6 : Memref sig .tc .vmem S1024x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1024x1024 .f32) (harg9 : arg9.IsWhole) (hc0 : ¬cond0_0 i) (hc1 : ¬cond0_1 i) (hc2 : cond0_2 i)
    (x0 : Vec Ideal S1024x1024 .bf16) (x1 : Vec Ideal S1024x1792 .bf16) (x2 : Vec Ideal S1024x1792 .bf16) (x3 : Vec Ideal S1792x1024 .bf16) (x4 : Vec Ideal S1024x1024 .f32) (x5 : Vec Ideal S1x1x1024 .f32) (x6 : Vec Ideal S1x1024 .f32) (xo7 : Vec Ideal S1024x1024 .f32) (r j : Fin 1024) :
    out0_B_7 c i arg2 harg2 arg3 harg3 arg4 harg4 arg5 harg5 arg6 harg6 arg7 harg7 arg8 harg8 arg9 harg9 hc0 hc1 hc2 x0 x1 x2 x3 x4 x5 x6 xo7 (ix2 r j) = FIN (BODY x0 x1 x2 x3) xo7 x4 x5 x6 r j := by
  unfold out0_B_7
  frame_out
  (try simp only [View.read_rep])
  rw [pay3_at]
  rfl

end Cert.DenseIdeal.Val
end
-- ==== Proof.DenseOut.lean ====
/- The dense feed-forward kernel's result array after the run. Point `t` is token tile `t / 2` and half `t % 2` of the hidden units. -/
module

public import proofs.«01_k».proof.Proof.DenseBody
public import proofs.«01_k».proof.Proof.Gen.DenseIdeal.Value

@[expose] public section

set_option maxRecDepth 16384
set_option Elab.async false

noncomputable section

namespace Cert.DenseIdeal.Val

open Cert.DenseIdeal Cert.DenseIdeal.Gen Cert.Moe Idealize.ShloMosaic Idealize.ShloMosaic.TcCoe Idealize.SL.Sem

variable (m : (ℓ : Loc nD τ sig) → Buf (Elt Ideal) ℓ) (c : Dev nD)

/-- The tokens. -/
def Xa : S32768x1024.Idx → EReal := m ((c : Thread nD τ).loc main_arg0)
/-- The gate's weights. -/
def Ga : S1024x3584.Idx → EReal := m ((c : Thread nD τ).loc main_arg1)
/-- The up projection's weights. -/
def Ua : S1024x3584.Idx → EReal := m ((c : Thread nD τ).loc main_arg2)
/-- The down projection's weights. -/
def Da : S3584x1024.Idx → EReal := m ((c : Thread nD τ).loc main_arg3)
/-- The residual. -/
def Ha : S32768x1024.Idx → EReal := m ((c : Thread nD τ).loc main_arg4)
/-- The residual's gate, one row a batch. -/
def Ta : S4x1x1024.Idx → EReal := m ((c : Thread nD τ).loc main_arg5)
/-- The normalisation's weights. -/
def Na : S1x1024.Idx → EReal := m ((c : Thread nD τ).loc main_arg6)

/-! ## Where the blocks lie -/

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![0, t.val % 2] := (by decide +kernel : ∀ t : Fin grid0.N, _)
theorem idx3 : ∀ t : Fin cfg0.N, win0_3.index t = ![t.val % 2, 0] := (by decide +kernel : ∀ t : Fin grid0.N, _)
theorem idx4 : ∀ t : Fin cfg0.N, win0_4.index t = ![t.val / 2, 0] := (by decide +kernel : ∀ t : Fin grid0.N, _)
theorem idx5 : ∀ t : Fin cfg0.N, win0_5.index t = ![t.val / 2 / 8, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val / 2, 0] := (by decide +kernel : ∀ t : Fin grid0.N, _)

section
variable (t : Fin cfg0.N)
theorem emb0 (r e : Fin 1024) (s : Fin 32768) (hs : (s : ℕ) = t.val / 2 * 1024 + r) :
    ((cfg0.win 0).blk t).view.emb (ix2 r e) = ix2 s e := by
  blk_ext [idx0 t]
theorem emb1 (e : Fin 1024) (k : Fin 1792) (q : Fin 3584) (hq : (q : ℕ) = t.val % 2 * 1792 + k) :
    ((cfg0.win 1).blk t).view.emb (ix2 e k) = ix2 e q := by
  blk_ext [idx1 t]
theorem emb2 (e : Fin 1024) (k : Fin 1792) (q : Fin 3584) (hq : (q : ℕ) = t.val % 2 * 1792 + k) :
    ((cfg0.win 2).blk t).view.emb (ix2 e k) = ix2 e q := by
  blk_ext [idx2 t]
theorem emb3 (k : Fin 1792) (q : Fin 3584) (hq : (q : ℕ) = t.val % 2 * 1792 + k) (j : Fin 1024) :
    ((cfg0.win 3).blk t).view.emb (ix2 k j) = ix2 q j := by
  blk_ext [idx3 t]
theorem emb4 (r j : Fin 1024) (s : Fin 32768) (hs : (s : ℕ) = t.val / 2 * 1024 + r) :
    ((cfg0.win 4).blk t).view.emb (ix2 r j) = ix2 s j := by
  blk_ext [idx4 t]
theorem emb5 (j : Fin 1024) (b : Fin 4) (hb : (b : ℕ) = t.val / 2 / 8) :
    ((cfg0.win 5).blk t).view.emb (ix3 0 0 j) = ix3 b 0 j := by
  blk_ext [idx5 t]
theorem emb6 (j : Fin 1024) : ((cfg0.win 6).blk t).view.emb (ix2 0 j) = ix2 0 j := by
  blk_ext [idx6 t]

variable (f : (b : Ref sig .tc) → Buf (Elt Ideal) ((c : Thread nD τ).loc b))
theorem rd0 (y : S1024x1024.Idx) : ((cfg0.win 0).blk t).view.read (Elt Ideal) (f (Pipeline.arrRef spec0 0)) y
    = f main_arg0 (((cfg0.win 0).blk t).view.emb y) := rfl
theorem rd1 (y : S1024x1792.Idx) : ((cfg0.win 1).blk t).view.read (Elt Ideal) (f (Pipeline.arrRef spec0 1)) y
    = f main_arg1 (((cfg0.win 1).blk t).view.emb y) := rfl
theorem rd2 (y : S1024x1792.Idx) : ((cfg0.win 2).blk t).view.read (Elt Ideal) (f (Pipeline.arrRef spec0 2)) y
    = f main_arg2 (((cfg0.win 2).blk t).view.emb y) := rfl
theorem rd3 (y : S1792x1024.Idx) : ((cfg0.win 3).blk t).view.read (Elt Ideal) (f (Pipeline.arrRef spec0 3)) y
    = f main_arg3 (((cfg0.win 3).blk t).view.emb y) := rfl
theorem rd4 (y : S1024x1024.Idx) : ((cfg0.win 4).blk t).view.read (Elt Ideal) (f (Pipeline.arrRef spec0 4)) y
    = f main_arg4 (((cfg0.win 4).blk t).view.emb y) := rfl
theorem rd5 (y : S1x1x1024.Idx) : ((cfg0.win 5).blk t).view.read (Elt Ideal) (f (Pipeline.arrRef spec0 5)) y
    = f main_arg5 (((cfg0.win 5).blk t).view.emb y) := rfl
theorem rd6 (y : S1x1024.Idx) : ((cfg0.win 6).blk t).view.read (Elt Ideal) (f (Pipeline.arrRef spec0 6)) y
    = f main_arg6 (((cfg0.win 6).blk t).view.emb y) := rfl
end

section
variable (t : Fin cfg0.N)
theorem x_at (r e : Fin 1024) (s : Fin 32768) (hs : (s : ℕ) = t.val / 2 * 1024 + r) : iblk m c 0 t (ix2 r e) = Xa m c (ix2 s e) := by
  unfold iblk
  exact (rd0 c t (fun b => V m c b) _).trans (congrArg (Xa m c) (emb0 t r e s hs))
theorem g_at (e : Fin 1024) (k : Fin 1792) (q : Fin 3584) (hq : (q : ℕ) = t.val % 2 * 1792 + k) : iblk m c 1 t (ix2 e k) = Ga m c (ix2 e q) := by
  unfold iblk
  exact (rd1 c t (fun b => V m c b) _).trans (congrArg (Ga m c) (emb1 t e k q hq))
theorem u_at (e : Fin 1024) (k : Fin 1792) (q : Fin 3584) (hq : (q : ℕ) = t.val % 2 * 1792 + k) : iblk m c 2 t (ix2 e k) = Ua m c (ix2 e q) := by
  unfold iblk
  exact (rd2 c t (fun b => V m c b) _).trans (congrArg (Ua m c) (emb2 t e k q hq))
theorem d_at (k : Fin 1792) (q : Fin 3584) (hq : (q : ℕ) = t.val % 2 * 1792 + k) (j : Fin 1024) : iblk m c 3 t (ix2 k j) = Da m c (ix2 q j) := by
  unfold iblk
  exact (rd3 c t (fun b => V m c b) _).trans (congrArg (Da m c) (emb3 t k q hq j))
theorem h_at (r j : Fin 1024) (s : Fin 32768) (hs : (s : ℕ) = t.val / 2 * 1024 + r) : iblk m c 4 t (ix2 r j) = Ha m c (ix2 s j) := by
  unfold iblk
  exact (rd4 c t (fun b => V m c b) _).trans (congrArg (Ha m c) (emb4 t r j s hs))
theorem t_at (j : Fin 1024) (b : Fin 4) (hb : (b : ℕ) = t.val / 2 / 8) : iblk m c 5 t (ix3 0 0 j) = Ta m c (ix3 b 0 j) := by
  unfold iblk
  exact (rd5 c t (fun b => V m c b) _).trans (congrArg (Ta m c) (emb5 t j b hb))
theorem n_at (j : Fin 1024) : iblk m c 6 t (ix2 0 j) = Na m c (ix2 0 j) := by
  unfold iblk
  exact (rd6 c t (fun b => V m c b) _).trans (congrArg (Na m c) (emb6 t j))
end

/-! ## A point's contribution -/

/-- The summand of a token. -/
def trm (s : Fin 32768) (j : Fin 1024) : ℕ → EReal :=
  term (fun d => Xa m c (ix2 s d)) (fun d k => Ga m c (ix2 d k)) (fun d k => Ua m c (ix2 d k)) (fun k => Da m c (ix2 k j))

/-- One token through the feed-forward layer, at one feature. -/
def tok (s : Fin 32768) (j : Fin 1024) : EReal :=
  ffn (fun d => Xa m c (ix2 s d)) (fun d k => Ga m c (ix2 d k)) (fun d k => Ua m c (ix2 d k)) (fun k => Da m c (ix2 k j))

/-- One chunk at one entry. -/
theorem ch_at (t : Fin cfg0.N) (r j : Fin 1024) (s : Fin 32768) (hs : (s : ℕ) = t.val / 2 * 1024 + r) (h : ℕ) (h7 : h < 7) :
    ch (iblk m c 0 t) (col (iblk m c 1 t) h) (col (iblk m c 2 t) h) (row (iblk m c 3 t) h) r j = part (trm m c s j) (t.val % 2) h := by
  refine Finset.sum_congr rfl fun k _ => ?_
  have hk := k.isLt
  have h2 : t.val % 2 < 2 := Nat.mod_lt _ (by omega)
  have hq : 1792 * (t.val % 2) + (256 * h + (k : ℕ)) < 3584 := by omega
  have eq : (⟨256 * (h % 7) + k, by omega⟩ : Fin 1792) = ⟨256 * h + k, by omega⟩ := Fin.ext (by show 256 * (h % 7) + (k : ℕ) = 256 * h + k; omega)
  have hq' : 1792 * (t.val % 2) + (256 * h + (k : ℕ)) = t.val % 2 * 1792 + (256 * h + (k : ℕ)) := by omega
  unfold trm term
  rw [dif_pos hq]
  simp only [col_at, row_at, eq]
  rw [d_at m c t _ ⟨_, hq⟩ hq' j]
  simp only [x_at m c t r _ s hs, g_at m c t _ (⟨256 * h + k, by omega⟩ : Fin 1792) ⟨_, hq⟩ hq',
    u_at m c t _ (⟨256 * h + k, by omega⟩ : Fin 1792) ⟨_, hq⟩ hq']

/-- A point's contribution at one entry: its half. -/
theorem body_at (t : Fin cfg0.N) (r j : Fin 1024) (s : Fin 32768) (hs : (s : ℕ) = t.val / 2 * 1024 + r) :
    BODY (iblk m c 0 t) (iblk m c 1 t) (iblk m c 2 t) (iblk m c 3 t) (ix2 r j) = half (trm m c s j) (t.val % 2) := by
  rw [half_eq]
  refine (BODY_at _ _ _ _ r j).trans ?_
  rw [ch_at m c t r j s hs 0 (by omega), ch_at m c t r j s hs 1 (by omega), ch_at m c t r j s hs 2 (by omega),
    ch_at m c t r j s hs 3 (by omega), ch_at m c t r j s hs 4 (by omega), ch_at m c t r j s hs 5 (by omega),
    ch_at m c t r j s hs 6 (by omega)]

/-! ## The result -/

/-- The batch of a token. -/
def bat (s : Fin 32768) : Fin 4 := ⟨s / 8192, by omega⟩

/-- The result at one entry. -/
def outE (s : Fin 32768) (j : Fin 1024) : EReal :=
  nrm (Ha m c (ix2 s j)) (Ta m c (ix3 (bat s) 0 j)) (Na m c (ix2 0 j)) (tok m c s) j

/-- The result array. -/
def outD : S32768x1024.Idx → EReal := fun q => outE m c (q 0) (q 1)

/-- What the first point of a tile leaves. -/
theorem outs_even (t : Fin cfg0.N) (he : t.val % 2 = 0) :
    outsAt0 m c t.val t.isLt = BODY (iblk m c 0 t) (iblk m c 1 t) (iblk m c 2 t) (iblk m c 3 t) := by
  rw [outsAt0_A m c t he (by omega)]
  exact outA_eq _ _ _ _ _ _ _ _ _ _ _ _ _ _ _ _ _ _ _ _ _ _ _ _ _ _ _ _

/-- What the second point of a tile leaves at one entry. -/
theorem outs_odd (t : Fin cfg0.N) (ho : t.val % 2 = 1) (r j : Fin 1024) :
    outsAt0 m c t.val t.isLt (ix2 r j) = FIN (BODY (iblk m c 0 t) (iblk m c 1 t) (iblk m c 2 t) (iblk m c 3 t))
      (outsAt0 m c (t.val - 1) (by omega)) (iblk m c 4 t) (iblk m c 5 t) (iblk m c 6 t) r j := by
  rw [outsAt0_B m c t (by omega) ho]
  exact outB_at _ _ _ _ _ _ _ _ _ _ _ _ _ _ _ _ _ _ _ _ _ _ _ _ _ _ _ _ _ _ _

/-- What the second point of a tile leaves at one entry, in the arguments. -/
theorem outs_odd' (t : Fin cfg0.N) (ho : t.val % 2 = 1) (r j : Fin 1024) (s : Fin 32768) (hs : (s : ℕ) = t.val / 2 * 1024 + r) :
    outsAt0 m c t.val t.isLt (ix2 r j) = outE m c s j := by
  have b0 := r.isLt
  let t' : Fin cfg0.N := ⟨t.val - 1, by omega⟩
  have ht' : t'.val = t.val - 1 := rfl
  have he' : t'.val % 2 = 0 := by omega
  have hs' : (s : ℕ) = t'.val / 2 * 1024 + (r : ℕ) := by omega
  have hp : outsAt0 m c (t.val - 1) (by omega) = BODY (iblk m c 0 t') (iblk m c 1 t') (iblk m c 2 t') (iblk m c 3 t') := outs_even m c t' he'
  refine (outs_odd m c t ho r j).trans ?_
  rw [hp]
  unfold FIN outE
  rw [h_at m c t r j s hs, t_at m c t j (bat s) (by show (s : ℕ) / 8192 = _; omega), n_at m c t j]
  refine congrArg (fun z => nrm _ _ _ z j) (funext fun k => ?_)
  rw [body_at m c t' r k s hs', body_at m c t r k s hs, he', ho]
  exact (ffn_eq _ _ _ _).symm

/-- What the second point of a tile leaves at an index of its block. -/
theorem outs_at (t : Fin cfg0.N) (ho : t.val % 2 = 1) (y : S1024x1024.Idx) (q : S32768x1024.Idx)
    (e0 : (q 0 : ℕ) = t.val / 2 * 1024 + y 0) (e1 : (q 1 : ℕ) = y 1) :
    outsAt0 m c t.val t.isLt y = outD m c q := by
  have hy : y = ix2 (y 0) (q 1) := by funext a; fin_cases a; exacts [rfl, Fin.ext e1.symm]
  rw [hy]
  exact outs_odd' m c t ho (y 0) (q 1) (q 0) e0

theorem flush7 : ∀ t : Fin cfg0.N, (cfg0.win 7).flush t = true → t.val % 2 = 1 := (by decide +kernel : ∀ t : Fin grid0.N, _)

/-- The result array after the run. -/
theorem arr_eq : (dats m 0 c).arrAt 7 cfg0.N = outD m c := by
  refine (dats m 0 c).arrAt_eq_of_covers 7 (outD m c) (by decide +kernel) fun t hf y => ?_
  have ho := flush7 t hf
  blk_simp
  rw [after0_7]
  refine outs_at m c t ho y _ ?_ ?_ <;> blk_simp [idx7 t] <;> try omega

end Cert.DenseIdeal.Val
end
-- ==== Proof.DenseRef.lean ====
/- The dense feed-forward reference's result at one entry. -/
module

public import proofs.«01_k».proof.Proof.DenseBody
public import proofs.«01_k».proof.Proof.Gen.DenseRefIdeal.Read
public import Idealize.ShloMosaic.Lib.Pointwise

@[expose] public section

set_option maxRecDepth 16384

noncomputable section

namespace Cert.DenseRefIdeal.Val

open Cert.DenseRefIdeal Cert.DenseRefIdeal.Read Cert.Moe Idealize.ShloMosaic Idealize.ShloMosaic.TcCoe

variable (x0 : Vec Ideal S32768x1024 .bf16) (x1 x2 : Vec Ideal S1024x3584 .bf16) (x3 : Vec Ideal S3584x1024 .bf16)
  (x4 : Vec Ideal S32768x1024 .f32) (x5 : Vec Ideal S4x1x1024 .f32) (x6 : Vec Ideal S1x1024 .f32)
variable (s : Fin 32768) (j : Fin 1024)

theorem v2_at (k : Fin 3584) : val_main_v2 (F := Ideal) x0 x1 (ix2 s k) = dot (fun d => x0 (ix2 s d)) fun d => x1 (ix2 d k) := by
  unfold dot
  pointwise [val_main_v2, val_main_v0, val_main_v1]
theorem v5_at (k : Fin 3584) : val_main_v5 (F := Ideal) x0 x2 (ix2 s k) = dot (fun d => x0 (ix2 s d)) fun d => x2 (ix2 d k) := by
  unfold dot
  pointwise [val_main_v5, val_main_v0, val_main_v4]
theorem v6_at (k : Fin 3584) : val_main_v6 (F := Ideal) x0 x1 x2 (ix2 s k)
    = hid (dot (fun d => x0 (ix2 s d)) fun d => x1 (ix2 d k)) (dot (fun d => x0 (ix2 s d)) fun d => x2 (ix2 d k)) := by
  unfold hid
  rw [← v2_at x0 x1 s k, ← v5_at x0 x2 s k, ← silu_eq, val_main_v6_apply, val_main_v3_apply, val_main_call0_v5_apply]
  unfold val_main_call0_v3 val_main_call0_v1 val_main_call0_v0
  generalize val_main_v2 (F := Ideal) x0 x1 = u
  generalize val_main_v5 (F := Ideal) x0 x2 = w
  pointwise [val_main_call0_v4, val_main_call0_v2, val_main_call0_cst_0, val_main_call0_cst]
theorem v8_at : val_main_v8 (F := Ideal) x0 x1 x2 x3 (ix2 s j)
    = ffn (fun d => x0 (ix2 s d)) (fun d k => x1 (ix2 d k)) (fun d k => x2 (ix2 d k)) (fun k => x3 (ix2 k j)) := by
  have h : val_main_v8 (F := Ideal) x0 x1 x2 x3 (ix2 s j) = ∑ k : Fin 3584, val_main_v6 (F := Ideal) x0 x1 x2 (ix2 s k) * x3 (ix2 k j) := by
    unfold val_main_v8
    generalize val_main_v6 (F := Ideal) x0 x1 x2 = u
    pointwise [val_main_v7]
  rw [h]
  unfold ffn
  exact Finset.sum_congr rfl fun k _ => by rw [v6_at]

/-- The sum of a row's squares. -/
theorem v10_at : val_main_v10 (F := Ideal) x0 x1 x2 x3 (ix1 s)
    = ∑ k : Fin 1024, val_main_v8 (F := Ideal) x0 x1 x2 x3 (ix2 s k) * val_main_v8 (F := Ideal) x0 x1 x2 x3 (ix2 s k) := by
  unfold val_main_v10 val_main_v9
  generalize val_main_v8 (F := Ideal) x0 x1 x2 x3 = u
  pointwise [val_main_cst]

/-- THE REFERENCE AT ONE ENTRY. -/
theorem ref_at (b : Fin 4) (hb : (b : ℕ) = (s : ℕ) / 8192) : val_main_v26 (F := Ideal) x0 x1 x2 x3 x4 x5 x6 (ix2 s j)
    = Cert.DenseIdeal.Val.nrm (x4 (ix2 s j)) (x5 (ix3 b 0 j)) (x6 (ix2 0 j))
      (fun k => ffn (fun d => x0 (ix2 s d)) (fun d k => x1 (ix2 d k)) (fun d k => x2 (ix2 d k)) (fun q => x3 (ix2 q k))) j := by
  have lt : (s : ℕ) / 8192 < 4 := by have := s.isLt; omega
  have eb : b = ⟨(s : ℕ) / 8192, lt⟩ := Fin.ext hb
  rw [eb]
  have h : val_main_v26 (F := Ideal) x0 x1 x2 x3 x4 x5 x6 (ix2 s j)
      = Cert.DenseIdeal.Val.nrm (x4 (ix2 s j)) (x5 (ix3 ⟨(s : ℕ) / 8192, lt⟩ 0 j)) (x6 (ix2 0 j))
        (fun k => val_main_v8 (F := Ideal) x0 x1 x2 x3 (ix2 s k)) j := by
    unfold Cert.DenseIdeal.Val.nrm
    rw [← v10_at]
    unfold val_main_v26 val_main_v25 val_main_v24 val_main_v22 val_main_v20 val_main_v18 val_main_v17 val_main_v16 val_main_v15 val_main_v13 val_main_v11
    generalize val_main_v8 (F := Ideal) x0 x1 x2 x3 = u
    generalize val_main_v10 (F := Ideal) x0 x1 x2 x3 = w
    pointwise [val_main_v12, val_main_v14, val_main_v19, val_main_v21, val_main_v23, val_main_cst_0, val_main_cst_1]
  rw [h]
  exact congrArg (fun z => Cert.DenseIdeal.Val.nrm _ _ _ z j) (funext fun k => v8_at x0 x1 x2 x3 s k)

end Cert.DenseRefIdeal.Val
end
-- ==== Proof.DenseValue.lean ====
/- The dense feed-forward kernel computes the reference's result at the ideal values. -/
module

public import proofs.«01_k».proof.Proof.DenseOut
public import proofs.«01_k».proof.Proof.DenseRef
public import proofs.«01_k».proof.Proof.Gen.DenseRefIdeal.Run
public import proofs.«01_k».proof.Defs

@[expose] public section

set_option maxRecDepth 16384

noncomputable section

namespace Cert.DenseIdeal.Val

open Idealize.ShloMosaic Idealize.ShloMosaic.TcCoe Idealize.SL.Sem Cert.DenseIdeal Cert.DenseIdeal.Gen

/-- The two closed forms agree. -/
theorem outD_eq_ref (m : (ℓ : Loc nD τ sig) → Buf (Elt Ideal) ℓ) (c : Dev nD) :
    outD m c = Cert.DenseRefIdeal.Read.val_main_v26 (F := Ideal) (Xa m c) (Ga m c) (Ua m c) (Da m c) (Ha m c) (Ta m c) (Na m c) := by
  funext i
  have hi : i = ix2 (i 0) (i 1) := by funext a; fin_cases a <;> rfl
  rw [hi]
  exact (Cert.DenseRefIdeal.Val.ref_at _ _ _ _ _ _ _ (i 0) (i 1) (bat (i 0)) rfl).symm

/-- The claim that the kernel computes the reference's result at the ideal values. -/
theorem algebraic :
    Cert.algebraic_DenseIdeal_DenseRefIdeal (hDenseIdeal := Cert.DenseIdeal.Gen.facts) (hDenseRefIdeal := Cert.DenseRefIdeal.Gen.facts) := by
  intro m g m' g' _ hag
  refine ⟨fun c => outD m c, ?_, ?_⟩
  · refine (θ_run _ _ _).mono (fun r h c => ?_) (Cert.DenseIdeal.Value.run_blocks m g)
    obtain ⟨hv, ha⟩ := h c
    exact ⟨hv.trans (arr_eq m c), ha⟩
  · refine (θ_run _ _ _).mono (fun r h c => ?_) (Cert.DenseRefIdeal.Value.run (F := Ideal) m' g')
    obtain ⟨hv, ha⟩ := h c
    obtain ⟨e0, e1, e2, e3, e4, e5, e6⟩ := hag c
    refine ⟨hv.trans ?_, ha⟩
    rw [e0, e1, e2, e3, e4, e5, e6]
    exact (Cert.DenseRefIdeal.Read.val_main_v26_eq _ _ _ _ _ _ _).trans (outD_eq_ref m c).symm

end Cert.DenseIdeal.Val
end
-- ==== Proof.MixedTerm.lean ====
/- One token through the output projection: four groups of 256 features against their rows of the weights, normalised,
   gated, added to the residual, then normalised and modulated again. -/
module

public import Idealize.ShloMosaic.Lib.Pointwise
public import Idealize.ShloMosaic.PureOps

@[expose] public section

noncomputable section

namespace Cert.Mix

open Idealize.ShloMosaic

/-- The four groups' products with one column of the weights, added up. -/
def mix (a b c d : Fin 256 → EReal) (w : Fin 1024 → EReal) : EReal :=
  (∑ k : Fin 256, a k * w ⟨k, by omega⟩) + (∑ k : Fin 256, b k * w ⟨256 + k, by omega⟩)
    + (∑ k : Fin 256, c k * w ⟨512 + k, by omega⟩) + ∑ k : Fin 256, d k * w ⟨768 + k, by omega⟩

/-- A row divided by its root mean square. -/
def rms (z : Fin 1024 → EReal) (j : Fin 1024) : EReal :=
  z j * Ideal.rsqrt (Ideal.div (∑ k : Fin 1024, z k * z k) (Ideal.ofBits .f32 0x44800000#32) + Ideal.ofBits .f32 0x358637BD#32)

/-- The residual plus the gated, normalised row. -/
def res (h g p z : Fin 1024 → EReal) (j : Fin 1024) : EReal := h j + g j * (rms z j * p j)

/-- A row normalised and modulated. -/
def modu (q sc sh z : Fin 1024 → EReal) (j : Fin 1024) : EReal := rms z j * q j * (1 + sc j) + sh j

/-- A sum over 1024 is four sums over 256. -/
theorem sum_four (f : Fin 1024 → EReal) :
    ∑ k : Fin 1024, f k = (∑ k : Fin 256, f ⟨k, by omega⟩) + (∑ k : Fin 256, f ⟨256 + k, by omega⟩)
      + (∑ k : Fin 256, f ⟨512 + k, by omega⟩) + ∑ k : Fin 256, f ⟨768 + k, by omega⟩ := by
  refine (Fin.sum_univ_add (a := 768) (b := 256) (f : Fin (768 + 256) → EReal)).trans ?_
  refine congrArg₂ _ ?_ rfl
  refine (Fin.sum_univ_add (a := 512) (b := 256) (fun k : Fin (512 + 256) => f ⟨k, by omega⟩)).trans ?_
  refine congrArg₂ _ ?_ rfl
  exact Fin.sum_univ_add (a := 256) (b := 256) (fun k : Fin (256 + 256) => f ⟨k, by omega⟩)

end Cert.Mix
end
-- ==== Proof.MixedBody.lean ====
/- The output projection's body at one point: what it leaves in its two results' blocks, entry by entry. -/
module

public import proofs.«01_k».proof.Proof.MixedTerm
public import proofs.«01_k».proof.Proof.Gen.MixedIdeal.Frame
public import Idealize.ShloMosaic.Lib.Pipeline.ReadBack
public import Idealize.ShloMosaic.Lib.Pipeline.ValueKit

@[expose] public section

set_option maxRecDepth 16384
set_option Elab.async false

noncomputable section

namespace Cert.MixedIdeal.Val

open Cert.MixedIdeal Cert.MixedIdeal.Gen Cert.Mix Idealize.ShloMosaic Idealize.ShloMosaic.TcCoe Idealize.SL.Sem

theorem pay4_at (a : Vec Ideal S512x256 .bf16) (wa : Vec Ideal S256x1024 .bf16) (b : Vec Ideal S512x256 .bf16) (wb : Vec Ideal S256x1024 .bf16)
    (c : Vec Ideal S512x256 .bf16) (wc : Vec Ideal S256x1024 .bf16) (d : Vec Ideal S512x256 .bf16) (wd : Vec Ideal S256x1024 .bf16)
    (r : Fin 512) (j : Fin 1024) :
    k0_pay4 a wa b wb c wc d wd (ix2 r j)
      = rms (fun j => (∑ k : Fin 256, a (ix2 r k) * wa (ix2 k j)) + (∑ k : Fin 256, b (ix2 r k) * wb (ix2 k j))
        + (∑ k : Fin 256, c (ix2 r k) * wc (ix2 k j)) + ∑ k : Fin 256, d (ix2 r k) * wd (ix2 k j)) j := by
  pointwise [k0_pay4, rms]

theorem pay1_at (h : Vec Ideal S512x1024 .f32) (g : Vec Ideal S1x1x1024 .f32) (p : Vec Ideal S1x1024 .f32) (z : FVec Ideal S512x1024 .f32)
    (r : Fin 512) (j : Fin 1024) :
    k0_pay1 h (k0_pay3 g) p z (ix2 r j) = h (ix2 r j) + g (ix3 0 0 j) * (z (ix2 r j) * p (ix2 0 j)) := by
  pointwise [k0_pay1, k0_pay3]

theorem pay2_at (h : Vec Ideal S512x1024 .f32) (g : FVec Ideal S1x1024 .f32) (p : Vec Ideal S1x1024 .f32) (z : FVec Ideal S512x1024 .f32)
    (q : Vec Ideal S1x1024 .f32) (sc sh : Vec Ideal S1x1x1024 .f32) (r : Fin 512) (j : Fin 1024) :
    k0_pay2 h g p z q sc sh (ix2 r j)
      = modu (fun j => q (ix2 0 j)) (fun j => sc (ix3 0 0 j)) (fun j => sh (ix3 0 0 j)) (fun j => k0_pay1 h g p z (ix2 r j)) j := by
  unfold k0_pay2
  generalize k0_pay1 h g p z = b
  pointwise [modu, rms]

variable (x0 x1 x2 x3 : Vec Ideal S512x256 .bf16) (x4 : Vec Ideal S1024x1024 .bf16) (x5 : Vec Ideal S512x1024 .f32)
  (x6 : Vec Ideal S1x1x1024 .f32) (x7 x8 : Vec Ideal S1x1024 .f32) (x9 x10 : Vec Ideal S1x1x1024 .f32)

/-- A row of the first result's block. -/
def HN (r : Fin 512) : Fin 1024 → EReal :=
  res (fun j => x5 (ix2 r j)) (fun j => x6 (ix3 0 0 j)) (fun j => x7 (ix2 0 j))
    fun j => mix (fun k => x0 (ix2 r k)) (fun k => x1 (ix2 r k)) (fun k => x2 (ix2 r k)) (fun k => x3 (ix2 r k)) fun k => x4 (ix2 k j)

/-- The first 256 rows of the weights. -/
def rowsA (x : Vec Ideal S1024x1024 .bf16) : Vec Ideal S256x1024 .bf16 := fun q => x (ix2 ⟨q 0, by have : (q 0 : ℕ) < 256 := (q 0).isLt; omega⟩ (q 1))
/-- The 256 rows of the weights that begin at row `o`. -/
def rowsB (x : Vec Ideal S1024x1024 .bf16) (o : ℕ) (ho : o + 256 ≤ 1024) : Vec Ideal S256x1024 .bf16 :=
  fun q => x (ix2 ⟨o + q 0, by have : (q 0 : ℕ) < 256 := (q 0).isLt; omega⟩ (q 1))

theorem ld0 (x : Vec Ideal S512x256 .bf16) : (View.ld x r0_0 : Vec Ideal S512x256 .bf16) = x := by
  funext q; obtain ⟨a, b, rfl⟩ : ∃ (a : Fin 512) (b : Fin 256), q = ix2 a b := ⟨q 0, q 1, by funext a; fin_cases a <;> rfl⟩; pointwise []
theorem ld1 (x : Vec Ideal S1024x1024 .bf16) : (View.ld x r0_1 : Vec Ideal S256x1024 .bf16) = rowsA x := by
  funext q; obtain ⟨a, b, rfl⟩ : ∃ (a : Fin 256) (b : Fin 1024), q = ix2 a b := ⟨q 0, q 1, by funext a; fin_cases a <;> rfl⟩; pointwise [rowsA]
theorem ld2 (x : Vec Ideal S1024x1024 .bf16) : (View.ld x r0_2 : Vec Ideal S256x1024 .bf16) = rowsB x 256 (by omega) := by
  funext q; obtain ⟨a, b, rfl⟩ : ∃ (a : Fin 256) (b : Fin 1024), q = ix2 a b := ⟨q 0, q 1, by funext a; fin_cases a <;> rfl⟩; pointwise [rowsB]
theorem ld3 (x : Vec Ideal S1024x1024 .bf16) : (View.ld x r0_3 : Vec Ideal S256x1024 .bf16) = rowsB x 512 (by omega) := by
  funext q; obtain ⟨a, b, rfl⟩ : ∃ (a : Fin 256) (b : Fin 1024), q = ix2 a b := ⟨q 0, q 1, by funext a; fin_cases a <;> rfl⟩; pointwise [rowsB]
theorem ld4 (x : Vec Ideal S1024x1024 .bf16) : (View.ld x r0_4 : Vec Ideal S256x1024 .bf16) = rowsB x 768 (by omega) := by
  funext q; obtain ⟨a, b, rfl⟩ : ∃ (a : Fin 256) (b : Fin 1024), q = ix2 a b := ⟨q 0, q 1, by funext a; fin_cases a <;> rfl⟩; pointwise [rowsB]
theorem ld5 (x : Vec Ideal S512x1024 .f32) : (View.ld x r0_5 : Vec Ideal S512x1024 .f32) = x := by
  funext q; obtain ⟨a, b, rfl⟩ : ∃ (a : Fin 512) (b : Fin 1024), q = ix2 a b := ⟨q 0, q 1, by funext a; fin_cases a <;> rfl⟩; pointwise []
theorem ld6 (x : Vec Ideal S1x1x1024 .f32) : (View.ld x r0_6 : Vec Ideal S1x1x1024 .f32) = x := by
  funext q; obtain ⟨a, b, d, rfl⟩ : ∃ (a b : Fin 1) (d : Fin 1024), q = ix3 a b d := ⟨q 0, q 1, q 2, by funext a; fin_cases a <;> rfl⟩
  obtain rfl : a = 0 := Subsingleton.elim _ _
  obtain rfl : b = 0 := Subsingleton.elim _ _
  pointwise []
theorem ld7 (x : Vec Ideal S1x1024 .f32) : (View.ld x r0_7 : Vec Ideal S1x1024 .f32) = x := by
  funext q; obtain ⟨a, b, rfl⟩ : ∃ (a : Fin 1) (b : Fin 1024), q = ix2 a b := ⟨q 0, q 1, by funext a; fin_cases a <;> rfl⟩
  obtain rfl : a = 0 := Subsingleton.elim _ _
  pointwise []

/-- The first store's payload at one entry. -/
theorem hn_at (r : Fin 512) (j : Fin 1024) :
    k0_pay1 (View.ld x5 r0_5) (k0_pay5 x0 x1 x2 x3 x4 x5 x6 x7 x8 x9 x10) (View.ld x7 r0_7) (k0_pay6 x0 x1 x2 x3 x4 x5 x6 x7 x8 x9 x10) (ix2 r j)
      = HN x0 x1 x2 x3 x4 x5 x6 x7 r j := by
  unfold k0_pay5 k0_pay6
  rw [ld0, ld0, ld0, ld0, ld1, ld2, ld3, ld4, ld5, ld6, ld7, pay1_at, pay4_at]
  rfl

theorem out11_at (r : Fin 512) (j : Fin 1024) : out0_11 x0 x1 x2 x3 x4 x5 x6 x7 x8 x9 x10 (ix2 r j) = HN x0 x1 x2 x3 x4 x5 x6 x7 r j := by
  refine Eq.trans ?_ (hn_at x0 x1 x2 x3 x4 x5 x6 x7 x8 x9 x10 r j)
  unfold out0_11
  generalize k0_pay1 (F := Ideal) _ _ _ _ = b
  canon_tiles x p
  exact congrArg b (by funext a; fin_cases a; exacts [Fin.ext p0.symm, Fin.ext p1.symm])

theorem out12_at (r : Fin 512) (j : Fin 1024) : out0_12 x0 x1 x2 x3 x4 x5 x6 x7 x8 x9 x10 (ix2 r j)
    = modu (fun j => x8 (ix2 0 j)) (fun j => x10 (ix3 0 0 j)) (fun j => x9 (ix3 0 0 j)) (HN x0 x1 x2 x3 x4 x5 x6 x7 r) j := by
  have e := pay2_at (View.ld x5 r0_5) (k0_pay5 x0 x1 x2 x3 x4 x5 x6 x7 x8 x9 x10) (View.ld x7 r0_7)
    (k0_pay6 x0 x1 x2 x3 x4 x5 x6 x7 x8 x9 x10) (View.ld x8 r0_7) (View.ld x10 r0_6) (View.ld x9 r0_6) r j
  simp only [hn_at] at e
  rw [ld6, ld6, ld7 x8] at e
  rw [← e]
  unfold out0_12
  rw [ld6, ld6, ld7 x8]
  generalize k0_pay2 (F := Ideal) _ _ _ _ _ _ _ = b
  canon_tiles x p
  exact congrArg b (by funext a; fin_cases a; exacts [Fin.ext p0.symm, Fin.ext p1.symm])

end Cert.MixedIdeal.Val
end
-- ==== Proof.MixedOut.lean ====
/- The output projection's two result arrays after the run. Point `t` is one tile of 512 tokens, and its batch is `t / 16`. -/
module

public import proofs.«01_k».proof.Proof.MixedBody
public import proofs.«01_k».proof.Proof.Gen.MixedIdeal.Value

@[expose] public section

set_option maxRecDepth 16384
set_option Elab.async false

noncomputable section

namespace Cert.MixedIdeal.Val

open Cert.MixedIdeal Cert.MixedIdeal.Gen Cert.Mix Idealize.ShloMosaic Idealize.ShloMosaic.TcCoe Idealize.SL.Sem

variable (m : (ℓ : Loc nD τ sig) → Buf (Elt Ideal) ℓ) (c : Dev nD)

/-- The first group's features. -/
def Aa : S32768x256.Idx → EReal := m ((c : Thread nD τ).loc main_arg0)
/-- The second group's features. -/
def Ab : S32768x256.Idx → EReal := m ((c : Thread nD τ).loc main_arg1)
/-- The third group's features. -/
def Ac : S32768x256.Idx → EReal := m ((c : Thread nD τ).loc main_arg2)
/-- The fourth group's features. -/
def Ad : S32768x256.Idx → EReal := m ((c : Thread nD τ).loc main_arg3)
/-- The weights. -/
def Wa : S1024x1024.Idx → EReal := m ((c : Thread nD τ).loc main_arg4)
/-- The residual. -/
def Ha : S32768x1024.Idx → EReal := m ((c : Thread nD τ).loc main_arg5)
/-- The residual's gate, one row a batch. -/
def Ta : S4x1x1024.Idx → EReal := m ((c : Thread nD τ).loc main_arg6)
/-- The first normalisation's weights. -/
def Na : S1x1024.Idx → EReal := m ((c : Thread nD τ).loc main_arg7)
/-- The second normalisation's weights. -/
def Qa : S1x1024.Idx → EReal := m ((c : Thread nD τ).loc main_arg8)
/-- The shift, one row a batch. -/
def Sh : S4x1x1024.Idx → EReal := m ((c : Thread nD τ).loc main_arg9)
/-- The scale, one row a batch. -/
def Sc : S4x1x1024.Idx → EReal := m ((c : Thread nD τ).loc main_arg10)

/-! ## Where the blocks lie -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val / 16, 0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val / 16, 0, 0] := (by decide +kernel : ∀ t : Fin grid0.N, _)
theorem idx10 : ∀ t : Fin cfg0.N, win0_10.index t = ![t.val / 16, 0, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)

section
variable (t : Fin cfg0.N)
theorem emb0 (r : Fin 512) (e : Fin 256) (s : Fin 32768) (hs : (s : ℕ) = t.val * 512 + r) :
    ((cfg0.win 0).blk t).view.emb (ix2 r e) = ix2 s e := by
  blk_ext [idx0 t]
theorem emb1 (r : Fin 512) (e : Fin 256) (s : Fin 32768) (hs : (s : ℕ) = t.val * 512 + r) :
    ((cfg0.win 1).blk t).view.emb (ix2 r e) = ix2 s e := by
  blk_ext [idx1 t]
theorem emb2 (r : Fin 512) (e : Fin 256) (s : Fin 32768) (hs : (s : ℕ) = t.val * 512 + r) :
    ((cfg0.win 2).blk t).view.emb (ix2 r e) = ix2 s e := by
  blk_ext [idx2 t]
theorem emb3 (r : Fin 512) (e : Fin 256) (s : Fin 32768) (hs : (s : ℕ) = t.val * 512 + r) :
    ((cfg0.win 3).blk t).view.emb (ix2 r e) = ix2 s e := by
  blk_ext [idx3 t]
theorem emb4 (k j : Fin 1024) :
    ((cfg0.win 4).blk t).view.emb (ix2 k j) = ix2 k j := by
  blk_ext [idx4 t]
theorem emb5 (r : Fin 512) (e : Fin 1024) (s : Fin 32768) (hs : (s : ℕ) = t.val * 512 + r) :
    ((cfg0.win 5).blk t).view.emb (ix2 r e) = ix2 s e := by
  blk_ext [idx5 t]
theorem emb6 (j : Fin 1024) (b : Fin 4) (hb : (b : ℕ) = t.val / 16) :
    ((cfg0.win 6).blk t).view.emb (ix3 0 0 j) = ix3 b 0 j := by
  blk_ext [idx6 t]
theorem emb7 (j : Fin 1024) :
    ((cfg0.win 7).blk t).view.emb (ix2 0 j) = ix2 0 j := by
  blk_ext [idx7 t]
theorem emb8 (j : Fin 1024) :
    ((cfg0.win 8).blk t).view.emb (ix2 0 j) = ix2 0 j := by
  blk_ext [idx8 t]
theorem emb9 (j : Fin 1024) (b : Fin 4) (hb : (b : ℕ) = t.val / 16) :
    ((cfg0.win 9).blk t).view.emb (ix3 0 0 j) = ix3 b 0 j := by
  blk_ext [idx9 t]
theorem emb10 (j : Fin 1024) (b : Fin 4) (hb : (b : ℕ) = t.val / 16) :
    ((cfg0.win 10).blk t).view.emb (ix3 0 0 j) = ix3 b 0 j := by
  blk_ext [idx10 t]

variable (f : (b : Ref sig .tc) → Buf (Elt Ideal) ((c : Thread nD τ).loc b))
theorem rd0 (y : S512x256.Idx) : ((cfg0.win 0).blk t).view.read (Elt Ideal) (f (Pipeline.arrRef spec0 0)) y
    = f main_arg0 (((cfg0.win 0).blk t).view.emb y) := rfl
theorem rd1 (y : S512x256.Idx) : ((cfg0.win 1).blk t).view.read (Elt Ideal) (f (Pipeline.arrRef spec0 1)) y
    = f main_arg1 (((cfg0.win 1).blk t).view.emb y) := rfl
theorem rd2 (y : S512x256.Idx) : ((cfg0.win 2).blk t).view.read (Elt Ideal) (f (Pipeline.arrRef spec0 2)) y
    = f main_arg2 (((cfg0.win 2).blk t).view.emb y) := rfl
theorem rd3 (y : S512x256.Idx) : ((cfg0.win 3).blk t).view.read (Elt Ideal) (f (Pipeline.arrRef spec0 3)) y
    = f main_arg3 (((cfg0.win 3).blk t).view.emb y) := rfl
theorem rd4 (y : S1024x1024.Idx) : ((cfg0.win 4).blk t).view.read (Elt Ideal) (f (Pipeline.arrRef spec0 4)) y
    = f main_arg4 (((cfg0.win 4).blk t).view.emb y) := rfl
theorem rd5 (y : S512x1024.Idx) : ((cfg0.win 5).blk t).view.read (Elt Ideal) (f (Pipeline.arrRef spec0 5)) y
    = f main_arg5 (((cfg0.win 5).blk t).view.emb y) := rfl
theorem rd6 (y : S1x1x1024.Idx) : ((cfg0.win 6).blk t).view.read (Elt Ideal) (f (Pipeline.arrRef spec0 6)) y
    = f main_arg6 (((cfg0.win 6).blk t).view.emb y) := rfl
theorem rd7 (y : S1x1024.Idx) : ((cfg0.win 7).blk t).view.read (Elt Ideal) (f (Pipeline.arrRef spec0 7)) y
    = f main_arg7 (((cfg0.win 7).blk t).view.emb y) := rfl
theorem rd8 (y : S1x1024.Idx) : ((cfg0.win 8).blk t).view.read (Elt Ideal) (f (Pipeline.arrRef spec0 8)) y
    = f main_arg8 (((cfg0.win 8).blk t).view.emb y) := rfl
theorem rd9 (y : S1x1x1024.Idx) : ((cfg0.win 9).blk t).view.read (Elt Ideal) (f (Pipeline.arrRef spec0 9)) y
    = f main_arg9 (((cfg0.win 9).blk t).view.emb y) := rfl
theorem rd10 (y : S1x1x1024.Idx) : ((cfg0.win 10).blk t).view.read (Elt Ideal) (f (Pipeline.arrRef spec0 10)) y
    = f main_arg10 (((cfg0.win 10).blk t).view.emb y) := rfl
end

section
variable (t : Fin cfg0.N)
theorem in0 (r : Fin 512) (e : Fin 256) (s : Fin 32768) (hs : (s : ℕ) = t.val * 512 + r) :
    iblk m c 0 t (ix2 r e) = Aa m c (ix2 s e) := by
  unfold iblk
  exact (rd0 c t (fun b => V m c b) _).trans (congrArg (Aa m c) (emb0 t r e s hs))
theorem in1 (r : Fin 512) (e : Fin 256) (s : Fin 32768) (hs : (s : ℕ) = t.val * 512 + r) :
    iblk m c 1 t (ix2 r e) = Ab m c (ix2 s e) := by
  unfold iblk
  exact (rd1 c t (fun b => V m c b) _).trans (congrArg (Ab m c) (emb1 t r e s hs))
theorem in2 (r : Fin 512) (e : Fin 256) (s : Fin 32768) (hs : (s : ℕ) = t.val * 512 + r) :
    iblk m c 2 t (ix2 r e) = Ac m c (ix2 s e) := by
  unfold iblk
  exact (rd2 c t (fun b => V m c b) _).trans (congrArg (Ac m c) (emb2 t r e s hs))
theorem in3 (r : Fin 512) (e : Fin 256) (s : Fin 32768) (hs : (s : ℕ) = t.val * 512 + r) :
    iblk m c 3 t (ix2 r e) = Ad m c (ix2 s e) := by
  unfold iblk
  exact (rd3 c t (fun b => V m c b) _).trans (congrArg (Ad m c) (emb3 t r e s hs))
theorem in4 (k j : Fin 1024) :
    iblk m c 4 t (ix2 k j) = Wa m c (ix2 k j) := by
  unfold iblk
  exact (rd4 c t (fun b => V m c b) _).trans (congrArg (Wa m c) (emb4 t k j))
theorem in5 (r : Fin 512) (e : Fin 1024) (s : Fin 32768) (hs : (s : ℕ) = t.val * 512 + r) :
    iblk m c 5 t (ix2 r e) = Ha m c (ix2 s e) := by
  unfold iblk
  exact (rd5 c t (fun b => V m c b) _).trans (congrArg (Ha m c) (emb5 t r e s hs))
theorem in6 (j : Fin 1024) (b : Fin 4) (hb : (b : ℕ) = t.val / 16) :
    iblk m c 6 t (ix3 0 0 j) = Ta m c (ix3 b 0 j) := by
  unfold iblk
  exact (rd6 c t (fun b => V m c b) _).trans (congrArg (Ta m c) (emb6 t j b hb))
theorem in7 (j : Fin 1024) :
    iblk m c 7 t (ix2 0 j) = Na m c (ix2 0 j) := by
  unfold iblk
  exact (rd7 c t (fun b => V m c b) _).trans (congrArg (Na m c) (emb7 t j))
theorem in8 (j : Fin 1024) :
    iblk m c 8 t (ix2 0 j) = Qa m c (ix2 0 j) := by
  unfold iblk
  exact (rd8 c t (fun b => V m c b) _).trans (congrArg (Qa m c) (emb8 t j))
theorem in9 (j : Fin 1024) (b : Fin 4) (hb : (b : ℕ) = t.val / 16) :
    iblk m c 9 t (ix3 0 0 j) = Sh m c (ix3 b 0 j) := by
  unfold iblk
  exact (rd9 c t (fun b => V m c b) _).trans (congrArg (Sh m c) (emb9 t j b hb))
theorem in10 (j : Fin 1024) (b : Fin 4) (hb : (b : ℕ) = t.val / 16) :
    iblk m c 10 t (ix3 0 0 j) = Sc m c (ix3 b 0 j) := by
  unfold iblk
  exact (rd10 c t (fun b => V m c b) _).trans (congrArg (Sc m c) (emb10 t j b hb))
end

/-! ## The results -/

/-- The batch of a token. -/
def bat (s : Fin 32768) : Fin 4 := ⟨s / 8192, by omega⟩

/-- The first result at a token. -/
def outE (s : Fin 32768) : Fin 1024 → EReal :=
  res (fun j => Ha m c (ix2 s j)) (fun j => Ta m c (ix3 (bat s) 0 j)) (fun j => Na m c (ix2 0 j))
    fun j => mix (fun k => Aa m c (ix2 s k)) (fun k => Ab m c (ix2 s k)) (fun k => Ac m c (ix2 s k)) (fun k => Ad m c (ix2 s k)) fun k => Wa m c (ix2 k j)

/-- The second result at a token. -/
def outF (s : Fin 32768) : Fin 1024 → EReal :=
  modu (fun j => Qa m c (ix2 0 j)) (fun j => Sc m c (ix3 (bat s) 0 j)) (fun j => Sh m c (ix3 (bat s) 0 j)) (outE m c s)

/-- The first result array. -/
def outD : S32768x1024.Idx → EReal := fun q => outE m c (q 0) (q 1)
/-- The second result array. -/
def outG : S32768x1024.Idx → EReal := fun q => outF m c (q 0) (q 1)

theorem row_at (t : Fin cfg0.N) (r : Fin 512) (s : Fin 32768) (hs : (s : ℕ) = t.val * 512 + r) :
    HN (iblk m c 0 t) (iblk m c 1 t) (iblk m c 2 t) (iblk m c 3 t) (iblk m c 4 t) (iblk m c 5 t) (iblk m c 6 t) (iblk m c 7 t) r = outE m c s := by
  have hb : ((bat s : Fin 4) : ℕ) = t.val / 16 := by show (s : ℕ) / 8192 = _; omega
  unfold HN outE
  simp only [in0 m c t r _ s hs, in1 m c t r _ s hs, in2 m c t r _ s hs, in3 m c t r _ s hs, in4 m c t, in5 m c t r _ s hs,
    in6 m c t _ (bat s) hb, in7 m c t]

theorem one_at (t : Fin cfg0.N) (y : S512x1024.Idx) (q : S32768x1024.Idx) (e0 : (q 0 : ℕ) = t.val * 512 + y 0) (e1 : (q 1 : ℕ) = y 1) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y = outD m c q := by
  have hy : y = ix2 (y 0) (q 1) := by funext a; fin_cases a; exacts [rfl, Fin.ext e1.symm]
  rw [hy]
  refine (out11_at _ _ _ _ _ _ _ _ _ _ _ (y 0) (q 1)).trans ?_
  exact congrFun (row_at m c t (y 0) (q 0) e0) (q 1)

theorem two_at (t : Fin cfg0.N) (y : S512x1024.Idx) (q : S32768x1024.Idx) (e0 : (q 0 : ℕ) = t.val * 512 + y 0) (e1 : (q 1 : ℕ) = y 1) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y = outG m c q := by
  have hy : y = ix2 (y 0) (q 1) := by funext a; fin_cases a; exacts [rfl, Fin.ext e1.symm]
  have hr : (y 0 : ℕ) < 512 := (y 0).isLt
  have hb : ((bat (q 0) : Fin 4) : ℕ) = t.val / 16 := by show (q 0 : ℕ) / 8192 = _; omega
  rw [hy]
  refine (out12_at _ _ _ _ _ _ _ _ _ _ _ (y 0) (q 1)).trans ?_
  rw [row_at m c t (y 0) (q 0) e0]
  simp only [in8 m c t, in9 m c t _ (bat (q 0)) hb, in10 m c t _ (bat (q 0)) hb]
  rfl

/-- The first result array after the run. -/
theorem arr11_eq : (dats m 0 c).arrAt 11 cfg0.N = outD m c := by
  refine (dats m 0 c).arrAt_eq_of_covers 11 (outD m c) (by decide +kernel) fun t _ y => ?_
  blk_simp
  rw [after0_11]
  refine one_at m c t y _ ?_ ?_ <;> blk_simp [idx11 t] <;> try omega

/-- The second result array after the run. -/
theorem arr12_eq : (dats m 0 c).arrAt 12 cfg0.N = outG m c := by
  refine (dats m 0 c).arrAt_eq_of_covers 12 (outG m c) (by decide +kernel) fun t _ y => ?_
  blk_simp
  rw [after0_12]
  refine two_at m c t y _ ?_ ?_ <;> blk_simp [idx12 t] <;> try omega

end Cert.MixedIdeal.Val
end
-- ==== Proof.MixedRef.lean ====
/- The output projection's reference at one entry of each of its two results. -/
module

public import proofs.«01_k».proof.Proof.MixedTerm
public import proofs.«01_k».proof.Proof.Gen.MixedRefIdeal.Read
public import Idealize.ShloMosaic.Lib.Pointwise

@[expose] public section

set_option maxRecDepth 16384

noncomputable section

namespace Cert.MixedRefIdeal.Val

open Cert.MixedRefIdeal Cert.MixedRefIdeal.Read Cert.Mix Idealize.ShloMosaic Idealize.ShloMosaic.TcCoe

variable (x0 x1 x2 x3 : Vec Ideal S32768x256 .bf16) (x4 : Vec Ideal S1024x1024 .bf16) (x5 : Vec Ideal S32768x1024 .f32)
  (x6 : Vec Ideal S4x1x1024 .f32) (x7 x8 : Vec Ideal S1x1024 .f32) (x9 x10 : Vec Ideal S4x1x1024 .f32)
variable (s : Fin 32768) (j : Fin 1024)

theorem a_at (k : Fin 256) : val_main_v0 (F := Ideal) x0 x1 x2 x3 (ix2 s ⟨k, by omega⟩) = x0 (ix2 s k) := by
  pointwise [val_main_v0]
theorem b_at (k : Fin 256) : val_main_v0 (F := Ideal) x0 x1 x2 x3 (ix2 s ⟨256 + k, by omega⟩) = x1 (ix2 s k) := by
  pointwise [val_main_v0]
theorem c_at (k : Fin 256) : val_main_v0 (F := Ideal) x0 x1 x2 x3 (ix2 s ⟨512 + k, by omega⟩) = x2 (ix2 s k) := by
  pointwise [val_main_v0]
  refine (dif_neg (by omega)).trans ((dif_neg (by omega)).trans ((dif_pos (by omega)).trans ?_))
  exact congrArg (fun q => x2 (ix2 s q)) (Fin.ext (by show 512 + (k : ℕ) - 256 - 256 = k; omega))
theorem d_at (k : Fin 256) : val_main_v0 (F := Ideal) x0 x1 x2 x3 (ix2 s ⟨768 + k, by omega⟩) = x3 (ix2 s k) := by
  pointwise [val_main_v0]
  refine (dif_neg (by omega)).trans ((dif_neg (by omega)).trans ((dif_neg (by omega)).trans ?_))
  exact congrArg (fun q => x3 (ix2 s q)) (Fin.ext (by show 768 + (k : ℕ) - 256 - 256 - 256 = k; omega))

/-- A row of the projection. -/
theorem v3_at : val_main_v3 (F := Ideal) x0 x1 x2 x3 x4 (ix2 s j)
    = mix (fun k => x0 (ix2 s k)) (fun k => x1 (ix2 s k)) (fun k => x2 (ix2 s k)) (fun k => x3 (ix2 s k)) fun k => x4 (ix2 k j) := by
  have h : val_main_v3 (F := Ideal) x0 x1 x2 x3 x4 (ix2 s j)
      = ∑ k : Fin 1024, val_main_v0 (F := Ideal) x0 x1 x2 x3 (ix2 s k) * x4 (ix2 k j) := by
    unfold val_main_v3 val_main_v1
    generalize val_main_v0 (F := Ideal) x0 x1 x2 x3 = u
    pointwise [val_main_v2]
  rw [h, sum_four]
  simp only [a_at, b_at, c_at, d_at]
  rfl

/-- The sum of a row's squares. -/
theorem v5_at : val_main_v5 (F := Ideal) x0 x1 x2 x3 x4 (ix1 s)
    = ∑ k : Fin 1024, val_main_v3 (F := Ideal) x0 x1 x2 x3 x4 (ix2 s k) * val_main_v3 (F := Ideal) x0 x1 x2 x3 x4 (ix2 s k) := by
  unfold val_main_v5 val_main_v4
  generalize val_main_v3 (F := Ideal) x0 x1 x2 x3 x4 = u
  pointwise [val_main_cst]

/-- The normalised row times its weights. -/
theorem v15_at : val_main_v15 (F := Ideal) x0 x1 x2 x3 x4 x7 (ix2 s j)
    = rms (fun j => val_main_v3 (F := Ideal) x0 x1 x2 x3 x4 (ix2 s j)) j * x7 (ix2 0 j) := by
  unfold rms
  rw [← v5_at]
  unfold val_main_v15 val_main_v13 val_main_v12 val_main_v11 val_main_v10 val_main_v8 val_main_v6
  generalize val_main_v3 (F := Ideal) x0 x1 x2 x3 x4 = u
  generalize val_main_v5 (F := Ideal) x0 x1 x2 x3 x4 = w
  pointwise [val_main_v7, val_main_v9, val_main_v14, val_main_cst_0, val_main_cst_1]

/-- A row of the first result. -/
def HN (b : Fin 4) : Fin 1024 → EReal :=
  res (fun j => x5 (ix2 s j)) (fun j => x6 (ix3 b 0 j)) (fun j => x7 (ix2 0 j))
    fun j => mix (fun k => x0 (ix2 s k)) (fun k => x1 (ix2 s k)) (fun k => x2 (ix2 s k)) (fun k => x3 (ix2 s k)) fun k => x4 (ix2 k j)

variable (b : Fin 4) (n : Fin 8192) (hs : (s : ℕ) = b * 8192 + n)

include hs in
theorem v20_at : val_main_v20 (F := Ideal) x0 x1 x2 x3 x4 x5 x6 x7 (ix3 b n j) = HN x0 x1 x2 x3 x4 x5 x6 x7 s b j := by
  have h : val_main_v20 (F := Ideal) x0 x1 x2 x3 x4 x5 x6 x7 (ix3 b n j)
      = x5 (ix2 s j) + x6 (ix3 b 0 j) * val_main_v15 (F := Ideal) x0 x1 x2 x3 x4 x7 (ix2 s j) := by
    have lt : (b : ℕ) * 8192 + n < 32768 := by omega
    obtain rfl : s = ⟨(b : ℕ) * 8192 + n, lt⟩ := Fin.ext hs
    unfold val_main_v20 val_main_v19 val_main_v17
    generalize val_main_v15 (F := Ideal) x0 x1 x2 x3 x4 x7 = u
    pointwise [val_main_v16, val_main_v18]
  rw [h, v15_at]
  simp only [v3_at]
  rfl

/-- The sum of a row's squares. -/
theorem v22_at : val_main_v22 (F := Ideal) x0 x1 x2 x3 x4 x5 x6 x7 (ix2 b n)
    = ∑ k : Fin 1024, val_main_v20 (F := Ideal) x0 x1 x2 x3 x4 x5 x6 x7 (ix3 b n k) * val_main_v20 (F := Ideal) x0 x1 x2 x3 x4 x5 x6 x7 (ix3 b n k) := by
  unfold val_main_v22 val_main_v21
  generalize val_main_v20 (F := Ideal) x0 x1 x2 x3 x4 x5 x6 x7 = u
  pointwise [val_main_cst_2]

/-- The modulated row. -/
theorem v39_at : val_main_v39 (F := Ideal) x0 x1 x2 x3 x4 x5 x6 x7 x8 x9 x10 (ix3 b n j)
    = modu (fun j => x8 (ix2 0 j)) (fun j => x10 (ix3 b 0 j)) (fun j => x9 (ix3 b 0 j))
      (fun j => val_main_v20 (F := Ideal) x0 x1 x2 x3 x4 x5 x6 x7 (ix3 b n j)) j := by
  unfold modu rms
  rw [← v22_at]
  unfold val_main_v39 val_main_v37 val_main_v33 val_main_v30 val_main_v29 val_main_v28 val_main_v27 val_main_v25 val_main_v23
  generalize val_main_v20 (F := Ideal) x0 x1 x2 x3 x4 x5 x6 x7 = u
  generalize val_main_v22 (F := Ideal) x0 x1 x2 x3 x4 x5 x6 x7 = w
  pointwise [val_main_v24, val_main_v26, val_main_v31, val_main_v32, val_main_v34, val_main_v35, val_main_v36, val_main_v38, val_main_cst_3,
    val_main_cst_4, val_main_cst_5]

include hs in
/-- THE FIRST RESULT AT ONE ENTRY. -/
theorem ref0_at : val_main_v40 (F := Ideal) x0 x1 x2 x3 x4 x5 x6 x7 (ix2 s j) = HN x0 x1 x2 x3 x4 x5 x6 x7 s b j := by
  rw [← v20_at x0 x1 x2 x3 x4 x5 x6 x7 s j b n hs, val_main_v40_apply]
  refine congrArg _ (funext fun a => ?_)
  have hj := j.isLt
  fin_cases a
  · exact Fin.ext (by show ((s : ℕ) * 1024 + (j : ℕ)) / 8388608 = b; omega)
  · exact Fin.ext (by show ((s : ℕ) * 1024 + (j : ℕ)) / 1024 % 8192 = n; omega)
  · exact Fin.ext (by show ((s : ℕ) * 1024 + (j : ℕ)) % 1024 = j; omega)

include hs in
/-- THE SECOND RESULT AT ONE ENTRY. -/
theorem ref1_at : val_main_v42 (F := Ideal) x0 x1 x2 x3 x4 x5 x6 x7 x8 x9 x10 (ix2 s j)
    = modu (fun j => x8 (ix2 0 j)) (fun j => x10 (ix3 b 0 j)) (fun j => x9 (ix3 b 0 j)) (HN x0 x1 x2 x3 x4 x5 x6 x7 s b) j := by
  have e : val_main_v39 (F := Ideal) x0 x1 x2 x3 x4 x5 x6 x7 x8 x9 x10 (ix3 b n j) = _ := v39_at x0 x1 x2 x3 x4 x5 x6 x7 x8 x9 x10 j b n
  simp only [v20_at x0 x1 x2 x3 x4 x5 x6 x7 s _ b n hs] at e
  refine Eq.trans ?_ e
  rw [val_main_v42_apply, val_main_v41_apply]
  show val_main_v39 (F := Ideal) x0 x1 x2 x3 x4 x5 x6 x7 x8 x9 x10 _ = _
  refine congrArg _ (funext fun a => ?_)
  have hj := j.isLt
  fin_cases a
  · exact Fin.ext (by show ((s : ℕ) * 1024 + (j : ℕ)) / 8388608 = b; omega)
  · exact Fin.ext (by show ((s : ℕ) * 1024 + (j : ℕ)) / 1024 % 8192 = n; omega)
  · exact Fin.ext (by show ((s : ℕ) * 1024 + (j : ℕ)) % 1024 = j; omega)

end Cert.MixedRefIdeal.Val
end
-- ==== Proof.MixedValue.lean ====
/- The output projection kernel computes the reference's two results at the ideal values. -/
module

public import proofs.«01_k».proof.Proof.MixedOut
public import proofs.«01_k».proof.Proof.MixedRef
public import proofs.«01_k».proof.Proof.Gen.MixedRefIdeal.Run
public import proofs.«01_k».proof.Defs

@[expose] public section

set_option maxRecDepth 16384

noncomputable section

namespace Cert.MixedIdeal.Val

open Idealize.ShloMosaic Idealize.ShloMosaic.TcCoe Idealize.SL.Sem Cert.MixedIdeal Cert.MixedIdeal.Gen

theorem split_tok (s : Fin 32768) : (s : ℕ) = (bat s : ℕ) * 8192 + ((⟨(s : ℕ) % 8192, Nat.mod_lt _ (by omega)⟩ : Fin 8192) : ℕ) := by
  show (s : ℕ) = s / 8192 * 8192 + s % 8192
  omega

/-- The two closed forms of the first result agree. -/
theorem outD_eq_ref (m : (ℓ : Loc nD τ sig) → Buf (Elt Ideal) ℓ) (c : Dev nD) :
    outD m c = Cert.MixedRefIdeal.Read.val_main_v40 (F := Ideal) (Aa m c) (Ab m c) (Ac m c) (Ad m c) (Wa m c) (Ha m c) (Ta m c) (Na m c) := by
  funext i
  have hi : i = ix2 (i 0) (i 1) := by funext a; fin_cases a <;> rfl
  rw [hi]
  exact (Cert.MixedRefIdeal.Val.ref0_at _ _ _ _ _ _ _ _ (i 0) (i 1) (bat (i 0)) _ (split_tok (i 0))).symm

/-- The two closed forms of the second result agree. -/
theorem outG_eq_ref (m : (ℓ : Loc nD τ sig) → Buf (Elt Ideal) ℓ) (c : Dev nD) :
    outG m c = Cert.MixedRefIdeal.Read.val_main_v42 (F := Ideal) (Aa m c) (Ab m c) (Ac m c) (Ad m c) (Wa m c) (Ha m c) (Ta m c) (Na m c)
      (Qa m c) (Sh m c) (Sc m c) := by
  funext i
  have hi : i = ix2 (i 0) (i 1) := by funext a; fin_cases a <;> rfl
  rw [hi]
  exact (Cert.MixedRefIdeal.Val.ref1_at _ _ _ _ _ _ _ _ _ _ _ (i 0) (i 1) (bat (i 0)) _ (split_tok (i 0))).symm

/-- The claim that the kernel computes the reference's results at the ideal values. -/
theorem algebraic :
    Cert.algebraic_MixedIdeal_MixedRefIdeal (hMixedIdeal := Cert.MixedIdeal.Gen.facts) (hMixedRefIdeal := Cert.MixedRefIdeal.Gen.facts) := by
  intro m g m' g' _ hag
  refine ⟨fun c => outD m c, fun c => outG m c, ?_, ?_⟩
  · refine (θ_run _ _ _).mono (fun r h c => ?_) (Cert.MixedIdeal.Value.run_blocks m g)
    obtain ⟨hv, hw, ha⟩ := h c
    exact ⟨hv.trans (arr11_eq m c), hw.trans (arr12_eq m c), ha⟩
  · refine (θ_run _ _ _).mono (fun r h c => ?_) (Cert.MixedRefIdeal.Value.run (F := Ideal) m' g')
    obtain ⟨hv, hw, ha⟩ := h c
    obtain ⟨e0, e1, e2, e3, e4, e5, e6, e7, e8, e9, e10⟩ := hag c
    refine ⟨hv.trans ?_, hw.trans ?_, ha⟩
    · rw [e0, e1, e2, e3, e4, e5, e6, e7]
      exact (Cert.MixedRefIdeal.Read.val_main_v40_eq _ _ _ _ _ _ _ _).trans (outD_eq_ref m c).symm
    · refine (Cert.MixedRefIdeal.Read.val_main_v42_eq m' c).trans ?_
      rw [e0, e1, e2, e3, e4, e5, e6, e7, e8, e9, e10]
      exact (outG_eq_ref m c).symm

end Cert.MixedIdeal.Val
end
-- ==== Proof.InsTerm.lean ====
/- One token through the input projection, result by result. -/
module

public import Idealize.ShloMosaic.Lib.Pointwise
public import Idealize.ShloMosaic.PureOps

@[expose] public section

noncomputable section

namespace Cert.Inp

open Idealize.ShloMosaic

/-- The normalisations' small constant. -/
def ep : EReal := Ideal.ofBits .f32 0x358637BD#32

/-- A row divided by its root mean square, `c` the row's length. -/
def nrm {n : ℕ} (c : EReal) (z : Fin n → EReal) (j : Fin n) : EReal :=
  z j * Ideal.rsqrt (Ideal.div (∑ k : Fin n, z k * z k) c + ep)

/-- The modulated row of a token. -/
def axr (h g sh sc : Fin 1024 → EReal) (d : Fin 1024) : EReal :=
  nrm (Ideal.ofBits .f32 0x44800000#32) h d * g d * (1 + sc d) + sh d

/-- The projected row of a token. -/
def zrow (h g sh sc : Fin 1024 → EReal) (w : Fin 1024 → Fin 1920 → EReal) (q : Fin 1920) : EReal :=
  ∑ d : Fin 1024, axr h g sh sc d * w d q

/-- The other lane of a pair, of 128. -/
def pt128 (j : Fin 128) : Fin 128 := if (j : ℕ) % 2 = 0 then ⟨((j : ℕ) + 128 - 127) % 128, by omega⟩ else ⟨((j : ℕ) + 128 - 1) % 128, by omega⟩
/-- The other lane of a pair, of 256. -/
def pt256 (j : Fin 256) : Fin 256 := if (j : ℕ) % 2 = 0 then ⟨((j : ℕ) + 256 - 255) % 256, by omega⟩ else ⟨((j : ℕ) + 256 - 1) % 256, by omega⟩

theorem pt128_val (j : Fin 128) : (pt128 j : ℕ) = (j : ℕ) / 2 * 2 + (1 - (j : ℕ) % 2) := by
  unfold pt128; split <;> simp only <;> omega
theorem pt256_val (j : Fin 256) : (pt256 j : ℕ) = (j : ℕ) / 2 * 2 + (1 - (j : ℕ) % 2) := by
  unfold pt256; split <;> simp only <;> omega

/-- The rotation of 128 lanes. -/
def rope128 (z c s : Fin 128 → EReal) (j : Fin 128) : EReal := z j * c j + z (pt128 j) * s j
/-- The rotation of 256 lanes. -/
def rope256 (z c s : Fin 256 → EReal) (j : Fin 256) : EReal := z j * c j + z (pt256 j) * s j

/-- Lane `l` of head `h`. -/
def lane (h : Fin 4) (l : Fin 128) : Fin 512 := ⟨128 * h + l, by omega⟩
/-- The head of a lane. -/
def hd (j : Fin 512) : Fin 4 := ⟨(j : ℕ) / 128, by omega⟩
/-- The lane within its head. -/
def ln (j : Fin 512) : Fin 128 := ⟨(j : ℕ) % 128, by omega⟩

/-- A row through weights. -/
def thr {n : ℕ} (a : Fin n → EReal) (w : Fin n → Fin 512 → EReal) (j : Fin 512) : EReal := ∑ k : Fin n, a k * w k j

/-- The exact Gaussian error linear unit. -/
def gel (x : EReal) : EReal := Ideal.ofBits .f32 0x3F000000#32 * x * (1 + FloatOps.erf (F := Ideal) (φ := .f32) (x * Ideal.ofBits .f32 0x3F3504F3#32))

variable (z : Fin 1920 → EReal)

def oA (j : Fin 256) : EReal := z ⟨j, by omega⟩
def oQ (c s : Fin 256 → EReal) (j : Fin 256) : EReal := rope256 (fun j => z ⟨256 + j, by omega⟩) c s j * Ideal.ofBits .f32 0x3E38AA3B#32
def oK (c s : Fin 256 → EReal) (j : Fin 128) : EReal :=
  rope128 (fun j => z ⟨512 + j, by omega⟩) (fun j => c ⟨j, by omega⟩) (fun j => s ⟨j, by omega⟩) j
def oV (j : Fin 256) : EReal := if (j : ℕ) % 128 = 64 then 1 else z ⟨640 + j, by omega⟩
/-- The queries' latent row. -/
def lq (g : Fin 256 → EReal) (j : Fin 256) : EReal := nrm (Ideal.ofBits .f32 0x43800000#32) (fun j : Fin 256 => z ⟨896 + j, by omega⟩) j * g j
/-- The keys' and values' latent row. -/
def lkv (g : Fin 128 → EReal) (j : Fin 128) : EReal := nrm (Ideal.ofBits .f32 0x43000000#32) (fun j : Fin 128 => z ⟨1152 + j, by omega⟩) j * g j
def oQm (g : Fin 256 → EReal) (w : Fin 256 → Fin 512 → EReal) (c s : Fin 128 → EReal) (h : Fin 4) (l : Fin 128) : EReal :=
  rope128 (fun l => thr (lq z g) w (lane h l)) c s l * Ideal.ofBits .f32 0x3E16C740#32
def oKm (g : Fin 128 → EReal) (w : Fin 128 → Fin 512 → EReal) (c s : Fin 128 → EReal) (h : Fin 4) (l : Fin 128) : EReal :=
  thr (lkv z g) w (lane h l) + rope128 (fun j => z ⟨1280 + j, by omega⟩) c s l
def oVm (g : Fin 128 → EReal) (w : Fin 128 → Fin 512 → EReal) (j : Fin 512) : EReal := if (j : ℕ) % 128 = 64 then 1 else thr (lkv z g) w j
def oU (j : Fin 256) : EReal := gel (z ⟨1408 + j, by omega⟩)
/-- A row less its mean. -/
def cen (v : Fin 256 → EReal) (j : Fin 256) : EReal := v j - Ideal.div (∑ k : Fin 256, v k) (Ideal.ofBits .f32 0x43800000#32)
def oN (j : Fin 256) : EReal := nrm (Ideal.ofBits .f32 0x43800000#32) (cen fun j => gel (z ⟨1664 + j, by omega⟩)) j

end Cert.Inp
end
-- ==== Proof.InsBody.lean ====
/- The input projection's body at one point: what it leaves in its results' blocks, entry by entry. -/
module

public import proofs.«01_k».proof.Proof.InsTerm
public import proofs.«01_k».proof.Proof.Gen.InsIdeal.Frame
public import Idealize.ShloMosaic.Lib.Pipeline.ReadBack
public import Idealize.ShloMosaic.Lib.Pipeline.ValueKit

@[expose] public section

set_option maxRecDepth 16384
set_option Elab.async false

noncomputable section

namespace Cert.InsIdeal.Val

open Cert.InsIdeal Cert.InsIdeal.Gen Cert.Inp Idealize.ShloMosaic Idealize.ShloMosaic.TcCoe Idealize.SL.Sem

/-! ## The lane masks -/

/-- Even lanes. -/
def ev (j : ℕ) : BitVec 1 :=
  IntOp.cmpi CmpIPredicate.eq
    (Scalar.select
      (IntOp.andi
        (IntOp.xori (IntOp.cmpi CmpIPredicate.slt (IntOp.remsi ArithUnit.vector (BitVec.ofNat 32 j)
          (Scalar.select (Scalar.cmpi CmpIPredicate.eq 2#32 0#32) 1#32 2#32)) 0#32)
          (Scalar.cmpi CmpIPredicate.slt (Scalar.select (Scalar.cmpi CmpIPredicate.eq 2#32 0#32) 1#32 2#32) 0#32))
        (IntOp.cmpi CmpIPredicate.ne (IntOp.remsi ArithUnit.vector (BitVec.ofNat 32 j)
          (Scalar.select (Scalar.cmpi CmpIPredicate.eq 2#32 0#32) 1#32 2#32)) 0#32))
      (IntOp.addi (IntOp.remsi ArithUnit.vector (BitVec.ofNat 32 j) (Scalar.select (Scalar.cmpi CmpIPredicate.eq 2#32 0#32) 1#32 2#32))
        (Scalar.select (Scalar.cmpi CmpIPredicate.eq 2#32 0#32) 1#32 2#32))
      (IntOp.remsi ArithUnit.vector (BitVec.ofNat 32 j) (Scalar.select (Scalar.cmpi CmpIPredicate.eq 2#32 0#32) 1#32 2#32)))
    0#32

/-- Lanes 64 of each group of 128. -/
def ml (j : ℕ) : BitVec 1 :=
  IntOp.cmpi CmpIPredicate.eq
    (Scalar.select
      (IntOp.andi
        (IntOp.xori (IntOp.cmpi CmpIPredicate.slt (IntOp.remsi ArithUnit.vector (BitVec.ofNat 32 j)
          (Scalar.select (Scalar.cmpi CmpIPredicate.eq 128#32 0#32) 1#32 128#32)) 0#32)
          (Scalar.cmpi CmpIPredicate.slt (Scalar.select (Scalar.cmpi CmpIPredicate.eq 128#32 0#32) 1#32 128#32) 0#32))
        (IntOp.cmpi CmpIPredicate.ne (IntOp.remsi ArithUnit.vector (BitVec.ofNat 32 j)
          (Scalar.select (Scalar.cmpi CmpIPredicate.eq 128#32 0#32) 1#32 128#32)) 0#32))
      (IntOp.addi (IntOp.remsi ArithUnit.vector (BitVec.ofNat 32 j) (Scalar.select (Scalar.cmpi CmpIPredicate.eq 128#32 0#32) 1#32 128#32))
        (Scalar.select (Scalar.cmpi CmpIPredicate.eq 128#32 0#32) 1#32 128#32))
      (IntOp.remsi ArithUnit.vector (BitVec.ofNat 32 j) (Scalar.select (Scalar.cmpi CmpIPredicate.eq 128#32 0#32) 1#32 128#32)))
    64#32

theorem ev_eq : ∀ j : Fin 512, ev j = if (j : ℕ) % 2 = 0 then 1#1 else 0#1 := by decide +kernel
theorem ml_eq : ∀ j : Fin 512, ml j = if (j : ℕ) % 128 = 64 then 1#1 else 0#1 := by decide +kernel

theorem sel_ev {α : Type} (j : ℕ) (hj : j < 512) (a b : α) : Scalar.select (ev j) a b = if j % 2 = 0 then a else b := by
  rw [ev_eq ⟨j, hj⟩]
  show Scalar.select (if j % 2 = 0 then 1#1 else 0#1) a b = _
  split <;> rfl
theorem sel_ml {α : Type} (j : ℕ) (hj : j < 512) (a b : α) : Scalar.select (ml j) a b = if j % 128 = 64 then a else b := by
  rw [ml_eq ⟨j, hj⟩]
  show Scalar.select (if j % 128 = 64 then 1#1 else 0#1) a b = _
  split <;> rfl

/-- The rotated lane of 128 as the kernel selects it. -/
theorem sel128 (z : Fin 128 → EReal) (j : Fin 128) :
    Scalar.select (ev j) (z ⟨((j : ℕ) + 128 - 127) % 128, by omega⟩) (z ⟨((j : ℕ) + 128 - 1) % 128, by omega⟩) = z (pt128 j) := by
  rw [sel_ev _ (by omega)]
  unfold pt128
  split <;> rfl
theorem sel256 (z : Fin 256 → EReal) (j : Fin 256) :
    Scalar.select (ev j) (z ⟨((j : ℕ) + 256 - 255) % 256, by omega⟩) (z ⟨((j : ℕ) + 256 - 1) % 256, by omega⟩) = z (pt256 j) := by
  rw [sel_ev _ (by omega)]
  unfold pt256
  split <;> rfl

/-- The rotation of 128 lanes, as the kernel selects. -/
theorem rope128_sel (z c s : Fin 128 → EReal) (j : Fin 128) : rope128 z c s j
    = z j * c j + Scalar.select (ev j) (z ⟨((j : ℕ) + 128 - 127) % 128, by omega⟩) (z ⟨((j : ℕ) + 128 - 1) % 128, by omega⟩) * s j := by
  rw [sel128]; rfl
theorem rope256_sel (z c s : Fin 256 → EReal) (j : Fin 256) : rope256 z c s j
    = z j * c j + Scalar.select (ev j) (z ⟨((j : ℕ) + 256 - 255) % 256, by omega⟩) (z ⟨((j : ℕ) + 256 - 1) % 256, by omega⟩) * s j := by
  rw [sel256]; rfl

/-! ## The payloads -/

variable (r : Fin 512)

theorem pay4_at (a : Vec Ideal S512x1024 .f32) (b : Vec Ideal S1x1024 .f32) (c d : Vec Ideal S1x1x1024 .f32) (j : Fin 1024) :
    k0_pay4 a b c d (ix2 r j) = axr (fun d => a (ix2 r d)) (fun d => b (ix2 0 d)) (fun j => d (ix3 0 0 j)) (fun j => c (ix3 0 0 j)) j := by
  pointwise [k0_pay4, axr, nrm, ep]

theorem pay6_at (a : FVec Ideal S512x1024 .bf16) (c s : Vec Ideal S512x256 .f32) (w : Vec Ideal S1024x256 .bf16) (j : Fin 256) :
    k0_pay6 a c s w (constant S512x256 .f32 0x00000000#32) (ix2 r j)
      = rope256 (fun j => ∑ d : Fin 1024, a (ix2 r d) * w (ix2 d j)) (fun j => c (ix2 r j)) (fun j => s (ix2 r j)) j * Ideal.ofBits .f32 0x3E38AA3B#32 := by
  rw [rope256_sel]
  pointwise [k0_pay6]
  try rfl

theorem pay12_at (a : FVec Ideal S512x1024 .bf16) (c s : Vec Ideal S512x256 .f32) (w : Vec Ideal S1024x128 .bf16) (j : Fin 128) :
    k0_pay12 (k0_pay7 a w) (k0_pay8 c) (k0_pay9 s) (Scalar.select (Scalar.cmpi .eq 2#32 0#32) 1#32 2#32) k0_pay10 k0_pay11 (ix2 r j)
      = rope128 (fun j => ∑ d : Fin 1024, a (ix2 r d) * w (ix2 d j)) (fun j => c (ix2 r ⟨j, by omega⟩)) (fun j => s (ix2 r ⟨j, by omega⟩)) j := by
  rw [rope128_sel]
  pointwise [k0_pay12, k0_pay7, k0_pay8, k0_pay9, k0_pay10, k0_pay11]
  try rfl

theorem pay15_at (a : FVec Ideal S512x1024 .bf16) (w : Vec Ideal S1024x256 .bf16) (j : Fin 256) :
    k0_pay15 (k0_pay13 a w) k0_pay14 (ix2 r j) = if (j : ℕ) % 128 = 64 then 1 else ∑ d : Fin 1024, a (ix2 r d) * w (ix2 d j) := by
  rw [← sel_ml _ (by omega)]
  pointwise [k0_pay15, k0_pay13, k0_pay14]
  try rfl

theorem pay16_at (a : FVec Ideal S512x1024 .bf16) (w : Vec Ideal S1024x256 .bf16) (g : Vec Ideal S1x256 .f32) (v : Vec Ideal S256x512 .bf16) (j : Fin 512) :
    k0_pay16 a w g v (ix2 r j)
      = thr (fun k => nrm (Ideal.ofBits .f32 0x43800000#32) (fun j : Fin 256 => ∑ d : Fin 1024, a (ix2 r d) * w (ix2 d j)) k * g (ix2 0 k)) (fun k j => v (ix2 k j)) j := by
  pointwise [k0_pay16, thr, nrm, ep]

theorem pay30_at (a : FVec Ideal S512x1024 .bf16) (w : Vec Ideal S1024x128 .bf16) (g : Vec Ideal S1x128 .f32) (k : Fin 128) :
    k0_pay30 a w g (ix2 r k)
      = nrm (Ideal.ofBits .f32 0x43000000#32) (fun j : Fin 128 => ∑ d : Fin 1024, a (ix2 r d) * w (ix2 d j)) k * g (ix2 0 k) := by
  pointwise [k0_pay30, nrm, ep]

section
variable (c s : Vec Ideal S512x128 .f32) (y : FVec Ideal S512x512 .f32) (l : Fin 128)

/-- A head's rotated, scaled queries. -/
def hq (h : Fin 4) : EReal :=
  rope128 (fun l => y (ix2 r (lane h l))) (fun l => c (ix2 r l)) (fun l => s (ix2 r l)) l * Ideal.ofBits .f32 0x3E16C740#32

theorem pay21_at (z : FVec Ideal S512x128 .f32) :
    k0_pay21 c s z (Scalar.select (Scalar.cmpi .eq 2#32 0#32) 1#32 2#32) k0_pay18 k0_pay19 k0_pay20
      (Scalar.cmpi .slt (Scalar.select (Scalar.cmpi .eq 2#32 0#32) 1#32 2#32) 0#32) (ix2 r l)
      = rope128 (fun l => z (ix2 r l)) (fun l => c (ix2 r l)) (fun l => s (ix2 r l)) l * Ideal.ofBits .f32 0x3E16C740#32 := by
  rw [rope128_sel]
  pointwise [k0_pay21, k0_pay18, k0_pay19, k0_pay20]
  try rfl

theorem pay25_at : k0_pay25 (k0_pay23 c y) (k0_pay24 s y) (ix2 r l) = hq r c s y l 1 := by
  unfold hq
  rw [rope128_sel]
  pointwise [k0_pay25, k0_pay23, k0_pay24, k0_pay22, lane]
  try rfl

theorem pay26_at : k0_pay26 c s y (ix2 r l) = hq r c s y l 2 := by
  unfold hq
  rw [rope128_sel]
  pointwise [k0_pay26, lane]
  try rfl

theorem pay29_at : k0_pay29 c s (k0_pay27 y) (iota .tc S512x128 32 [1] iota_S512x128_d1_w32)
    (Scalar.select (Scalar.cmpi .eq 2#32 0#32) 1#32 2#32) k0_pay28 (ix2 r l) = hq r c s y l 3 := by
  unfold hq
  rw [rope128_sel]
  pointwise [k0_pay29, k0_pay28, k0_pay27, lane]
  try rfl

theorem pay31_at (a : FVec Ideal S512x1024 .bf16) (w : Vec Ideal S1024x128 .bf16) :
    k0_pay31 a c s w (ix2 r l)
      = rope128 (fun j => ∑ d : Fin 1024, a (ix2 r d) * w (ix2 d j)) (fun l => c (ix2 r l)) (fun l => s (ix2 r l)) l := by
  rw [rope128_sel]
  pointwise [k0_pay31]
  try rfl

variable (k : FVec Ideal S512x128 .bf16) (w : Vec Ideal S128x512 .bf16) (a : FVec Ideal S512x1024 .bf16) (v : Vec Ideal S1024x128 .bf16)

theorem pay33_at : k0_pay33 a c s k v w (ix2 r l) = thr (fun q => k (ix2 r q)) (fun q j => w (ix2 q j)) (lane 0 l) + k0_pay31 a c s v (ix2 r l) := by
  unfold k0_pay33
  generalize k0_pay31 a c s v = b
  pointwise [k0_pay32, thr, lane]
theorem pay34_at : k0_pay34 a c s k v w (ix2 r l) = thr (fun q => k (ix2 r q)) (fun q j => w (ix2 q j)) (lane 1 l) + k0_pay31 a c s v (ix2 r l) := by
  unfold k0_pay34
  generalize k0_pay31 a c s v = b
  pointwise [k0_pay32, thr, lane]
theorem pay35_at : k0_pay35 a c s k v w (ix2 r l) = thr (fun q => k (ix2 r q)) (fun q j => w (ix2 q j)) (lane 2 l) + k0_pay31 a c s v (ix2 r l) := by
  unfold k0_pay35
  generalize k0_pay31 a c s v = b
  pointwise [k0_pay32, thr, lane]
theorem pay36_at : k0_pay36 (k0_pay31 a c s v) (k0_pay32 k w) (ix2 r l)
    = thr (fun q => k (ix2 r q)) (fun q j => w (ix2 q j)) (lane 3 l) + k0_pay31 a c s v (ix2 r l) := by
  generalize k0_pay31 a c s v = b
  pointwise [k0_pay36, k0_pay32, thr, lane]
theorem pay37_at (j : Fin 512) : k0_pay37 k w (ix2 r j) = if (j : ℕ) % 128 = 64 then 1 else thr (fun q => k (ix2 r q)) (fun q j => w (ix2 q j)) j := by
  rw [← sel_ml _ (by omega)]
  pointwise [k0_pay37, thr]
  try rfl
end

section
variable (a : FVec Ideal S512x1024 .bf16) (w : Vec Ideal S1024x512 .bf16)

theorem pay1_at (j : Fin 512) : k0_pay1 (k0_pay38 a w) (k0_pay39 a w) (k0_pay40 (F := Ideal)) (ix2 r j) = gel (∑ d : Fin 1024, a (ix2 r d) * w (ix2 d j)) := by
  pointwise [k0_pay1, k0_pay38, k0_pay39, k0_pay40, gel]

theorem pay2_at (x y z : FVec Ideal S512x512 .f32) (j : Fin 256) : k0_pay2 x y z (ix2 r j) = k0_pay1 x y z (ix2 r ⟨j, by omega⟩) := by
  unfold k0_pay2
  generalize k0_pay1 x y z = b
  pointwise []

theorem pay3_at (x y z : FVec Ideal S512x512 .f32) (j : Fin 256) : k0_pay3 x y z (ix2 r j)
    = nrm (Ideal.ofBits .f32 0x43800000#32) (cen fun j => k0_pay1 x y z (ix2 r ⟨256 + j, by omega⟩)) j := by
  unfold k0_pay3
  generalize k0_pay1 x y z = b
  pointwise [nrm, cen, ep]
end

/-! ## The blocks read -/

section
variable (x0 : Vec Ideal S512x1024 .f32) (x1 : Vec Ideal S1x1024 .f32) (x2 x3 : Vec Ideal S1x1x1024 .f32) (x4 : Vec Ideal S1024x1920 .bf16)
  (x5 x6 : Vec Ideal S512x256 .f32) (x7 x8 : Vec Ideal S512x128 .f32) (x9 : Vec Ideal S1x256 .f32) (x10 : Vec Ideal S1x128 .f32)
  (x11 : Vec Ideal S256x512 .bf16) (x12 x13 : Vec Ideal S128x512 .bf16)

/-- A token's projected row. -/
def ZR (r : Fin 512) : Fin 1920 → EReal :=
  zrow (fun d => x0 (ix2 r d)) (fun d => x1 (ix2 0 d)) (fun d => x2 (ix3 0 0 d)) (fun d => x3 (ix3 0 0 d)) (fun d q => x4 (ix2 d q))

/-- The first 256 columns of the weights. -/
def colsA (x : Vec Ideal S1024x1920 .bf16) : Vec Ideal S1024x256 .bf16 := fun q => x (ix2 (q 0) ⟨q 1, by have : (q 1 : ℕ) < 256 := (q 1).isLt; omega⟩)
/-- The 128 columns of the weights that begin at column `o`. -/
def cols128 (x : Vec Ideal S1024x1920 .bf16) (o : ℕ) (ho : o + 128 ≤ 1920) : Vec Ideal S1024x128 .bf16 :=
  fun q => x (ix2 (q 0) ⟨o + q 1, by have : (q 1 : ℕ) < 128 := (q 1).isLt; omega⟩)
/-- The 256 columns of the weights that begin at column `o`. -/
def cols256 (x : Vec Ideal S1024x1920 .bf16) (o : ℕ) (ho : o + 256 ≤ 1920) : Vec Ideal S1024x256 .bf16 :=
  fun q => x (ix2 (q 0) ⟨o + q 1, by have : (q 1 : ℕ) < 256 := (q 1).isLt; omega⟩)
/-- The 512 columns of the weights that begin at column `o`. -/
def cols512 (x : Vec Ideal S1024x1920 .bf16) (o : ℕ) (ho : o + 512 ≤ 1920) : Vec Ideal S1024x512 .bf16 :=
  fun q => x (ix2 (q 0) ⟨o + q 1, by have : (q 1 : ℕ) < 512 := (q 1).isLt; omega⟩)

theorem ld0 (x : Vec Ideal S512x1024 .f32) : (View.ld x r0_0 : Vec Ideal S512x1024 .f32) = x := by
  funext q; obtain ⟨a, b, rfl⟩ : ∃ (a : Fin 512) (b : Fin 1024), q = ix2 a b := ⟨q 0, q 1, by funext a; fin_cases a <;> rfl⟩
  pointwise []
theorem ld1 (x : Vec Ideal S1x1024 .f32) : (View.ld x r0_1 : Vec Ideal S1x1024 .f32) = x := by
  funext q; obtain ⟨a, b, rfl⟩ : ∃ (a : Fin 1) (b : Fin 1024), q = ix2 a b := ⟨q 0, q 1, by funext a; fin_cases a <;> rfl⟩
  obtain rfl : a = 0 := Subsingleton.elim _ _
  pointwise []
theorem ld2 (x : Vec Ideal S1x1x1024 .f32) : (View.ld x r0_2 : Vec Ideal S1x1x1024 .f32) = x := by
  funext q; obtain ⟨a, b, d, rfl⟩ : ∃ (a b : Fin 1) (d : Fin 1024), q = ix3 a b d := ⟨q 0, q 1, q 2, by funext a; fin_cases a <;> rfl⟩
  obtain rfl : a = 0 := Subsingleton.elim _ _
  obtain rfl : b = 0 := Subsingleton.elim _ _
  pointwise []
theorem ld3 (x : Vec Ideal S1024x1920 .bf16) : (View.ld x r0_3 : Vec Ideal S1024x256 .bf16) = colsA x := by
  funext q; obtain ⟨a, b, rfl⟩ : ∃ (a : Fin 1024) (b : Fin 256), q = ix2 a b := ⟨q 0, q 1, by funext a; fin_cases a <;> rfl⟩
  pointwise [colsA]
theorem ld5 (x : Vec Ideal S1024x1920 .bf16) : (View.ld x r0_5 : Vec Ideal S1024x256 .bf16) = cols256 x 256 (by omega) := by
  funext q; obtain ⟨a, b, rfl⟩ : ∃ (a : Fin 1024) (b : Fin 256), q = ix2 a b := ⟨q 0, q 1, by funext a; fin_cases a <;> rfl⟩
  pointwise [cols256]
theorem ld6 (x : Vec Ideal S1024x1920 .bf16) : (View.ld x r0_6 : Vec Ideal S1024x128 .bf16) = cols128 x 512 (by omega) := by
  funext q; obtain ⟨a, b, rfl⟩ : ∃ (a : Fin 1024) (b : Fin 128), q = ix2 a b := ⟨q 0, q 1, by funext a; fin_cases a <;> rfl⟩
  pointwise [cols128]
theorem ld8 (x : Vec Ideal S1024x1920 .bf16) : (View.ld x r0_8 : Vec Ideal S1024x256 .bf16) = cols256 x 640 (by omega) := by
  funext q; obtain ⟨a, b, rfl⟩ : ∃ (a : Fin 1024) (b : Fin 256), q = ix2 a b := ⟨q 0, q 1, by funext a; fin_cases a <;> rfl⟩
  pointwise [cols256]
theorem ld9 (x : Vec Ideal S1024x1920 .bf16) : (View.ld x r0_9 : Vec Ideal S1024x256 .bf16) = cols256 x 896 (by omega) := by
  funext q; obtain ⟨a, b, rfl⟩ : ∃ (a : Fin 1024) (b : Fin 256), q = ix2 a b := ⟨q 0, q 1, by funext a; fin_cases a <;> rfl⟩
  pointwise [cols256]
theorem ld16 (x : Vec Ideal S1024x1920 .bf16) : (View.ld x r0_16 : Vec Ideal S1024x128 .bf16) = cols128 x 1152 (by omega) := by
  funext q; obtain ⟨a, b, rfl⟩ : ∃ (a : Fin 1024) (b : Fin 128), q = ix2 a b := ⟨q 0, q 1, by funext a; fin_cases a <;> rfl⟩
  pointwise [cols128]
theorem ld18 (x : Vec Ideal S1024x1920 .bf16) : (View.ld x r0_18 : Vec Ideal S1024x128 .bf16) = cols128 x 1280 (by omega) := by
  funext q; obtain ⟨a, b, rfl⟩ : ∃ (a : Fin 1024) (b : Fin 128), q = ix2 a b := ⟨q 0, q 1, by funext a; fin_cases a <;> rfl⟩
  pointwise [cols128]
theorem ld21 (x : Vec Ideal S1024x1920 .bf16) : (View.ld x r0_21 : Vec Ideal S1024x512 .bf16) = cols512 x 1408 (by omega) := by
  funext q; obtain ⟨a, b, rfl⟩ : ∃ (a : Fin 1024) (b : Fin 512), q = ix2 a b := ⟨q 0, q 1, by funext a; fin_cases a <;> rfl⟩
  pointwise [cols512]
theorem ld4 (x : Vec Ideal S512x256 .f32) : (View.ld x r0_4 : Vec Ideal S512x256 .f32) = x := by
  funext q; obtain ⟨a, b, rfl⟩ : ∃ (a : Fin 512) (b : Fin 256), q = ix2 a b := ⟨q 0, q 1, by funext a; fin_cases a <;> rfl⟩
  pointwise []
theorem ld7 (x : Vec Ideal S512x128 .f32) : (View.ld x r0_7 : Vec Ideal S512x128 .f32) = x := by
  funext q; obtain ⟨a, b, rfl⟩ : ∃ (a : Fin 512) (b : Fin 128), q = ix2 a b := ⟨q 0, q 1, by funext a; fin_cases a <;> rfl⟩
  pointwise []
theorem ld10 (x : Vec Ideal S1x256 .f32) : (View.ld x r0_10 : Vec Ideal S1x256 .f32) = x := by
  funext q; obtain ⟨a, b, rfl⟩ : ∃ (a : Fin 1) (b : Fin 256), q = ix2 a b := ⟨q 0, q 1, by funext a; fin_cases a <;> rfl⟩
  obtain rfl : a = 0 := Subsingleton.elim _ _
  pointwise []
theorem ld11 (x : Vec Ideal S256x512 .bf16) : (View.ld x r0_11 : Vec Ideal S256x512 .bf16) = x := by
  funext q; obtain ⟨a, b, rfl⟩ : ∃ (a : Fin 256) (b : Fin 512), q = ix2 a b := ⟨q 0, q 1, by funext a; fin_cases a <;> rfl⟩
  pointwise []
theorem ld17 (x : Vec Ideal S1x128 .f32) : (View.ld x r0_17 : Vec Ideal S1x128 .f32) = x := by
  funext q; obtain ⟨a, b, rfl⟩ : ∃ (a : Fin 1) (b : Fin 128), q = ix2 a b := ⟨q 0, q 1, by funext a; fin_cases a <;> rfl⟩
  obtain rfl : a = 0 := Subsingleton.elim _ _
  pointwise []
theorem ld19 (x : Vec Ideal S128x512 .bf16) : (View.ld x r0_19 : Vec Ideal S128x512 .bf16) = x := by
  funext q; obtain ⟨a, b, rfl⟩ : ∃ (a : Fin 128) (b : Fin 512), q = ix2 a b := ⟨q 0, q 1, by funext a; fin_cases a <;> rfl⟩
  pointwise []

/-! ## The shared values -/

theorem pay41_at (d : Fin 1024) : k0_pay41 x0 x1 x2 x3 x4 x5 x6 x7 x8 x9 x10 x11 x12 x13 (ix2 r d)
    = axr (fun d => x0 (ix2 r d)) (fun d => x1 (ix2 0 d)) (fun d => x2 (ix3 0 0 d)) (fun d => x3 (ix3 0 0 d)) d := by
  unfold k0_pay41
  rw [ld0, ld1, ld2, ld2]
  exact pay4_at r x0 x1 x3 x2 d

theorem pay42_at (j : Fin 512) : k0_pay42 x0 x1 x2 x3 x4 x5 x6 x7 x8 x9 x10 x11 x12 x13 (ix2 r j)
    = thr (lq (ZR x0 x1 x2 x3 x4 r) fun j => x9 (ix2 0 j)) (fun k j => x11 (ix2 k j)) j := by
  unfold k0_pay42
  rw [ld9, ld10, ld11, pay16_at]
  simp only [pay41_at]
  rfl

theorem pay43_at (j : Fin 128) : k0_pay43 x0 x1 x2 x3 x4 x5 x6 x7 x8 x9 x10 x11 x12 x13 (ix2 r j) = lkv (ZR x0 x1 x2 x3 x4 r) (fun j => x10 (ix2 0 j)) j := by
  unfold k0_pay43
  rw [ld16, ld17, pay30_at]
  simp only [pay41_at]
  rfl

theorem pay17_at (a : FVec Ideal S512x1024 .bf16) (w : Vec Ideal S1024x256 .bf16) (g : Vec Ideal S1x256 .f32) (v : Vec Ideal S256x512 .bf16) (l : Fin 128) :
    k0_pay17 a w g v (ix2 r l) = k0_pay16 a w g v (ix2 r (lane 0 l)) := by
  unfold k0_pay17
  generalize k0_pay16 a w g v = b
  pointwise [lane]

theorem gelu_at (j : Fin 512) : k0_pay1 (k0_pay44 x0 x1 x2 x3 x4 x5 x6 x7 x8 x9 x10 x11 x12 x13) (k0_pay45 x0 x1 x2 x3 x4 x5 x6 x7 x8 x9 x10 x11 x12 x13) (k0_pay46 x0 x1 x2 x3 x4 x5 x6 x7 x8 x9 x10 x11 x12 x13) (ix2 r j)
    = gel (ZR x0 x1 x2 x3 x4 r ⟨1408 + j, by omega⟩) := by
  unfold k0_pay44 k0_pay45 k0_pay46
  rw [ld21, pay1_at]
  simp only [pay41_at]
  rfl

/-! ## The results' blocks -/

theorem pay5_at (a : Vec Ideal S512x1024 .f32) (b : Vec Ideal S1x1024 .f32) (c d : Vec Ideal S1x1x1024 .f32) (w : Vec Ideal S1024x256 .bf16) (j : Fin 256) :
    k0_pay5 a b c d w (ix2 r j) = ∑ k : Fin 1024, k0_pay4 a b c d (ix2 r k) * w (ix2 k j) := by
  unfold k0_pay5
  generalize k0_pay4 a b c d = u
  pointwise []

theorem out14_at (j : Fin 256) : out0_14 x0 x1 x2 x3 x4 x5 x6 x7 x8 x9 x10 x11 x12 x13 (ix2 r j)
    = oA (ZR x0 x1 x2 x3 x4 r) j := by
  refine Eq.trans ?_ ((pay5_at r x0 x1 x3 x2 (colsA x4) j).trans ?_)
  · unfold out0_14
    rw [ld0, ld1, ld2, ld2, ld3]
    generalize k0_pay5 (F := Ideal) _ _ _ _ _ = b
    canon_tiles x p
    exact congrArg b (by funext a; fin_cases a; exacts [Fin.ext p0.symm, Fin.ext p1.symm])
  · simp only [pay4_at]
    rfl

theorem out15_at (j : Fin 256) : out0_15 x0 x1 x2 x3 x4 x5 x6 x7 x8 x9 x10 x11 x12 x13 (ix2 r j)
    = oQ (ZR x0 x1 x2 x3 x4 r) (fun j => x5 (ix2 r j)) (fun j => x6 (ix2 r j)) j := by
  refine Eq.trans ?_ ((pay6_at r (k0_pay41 x0 x1 x2 x3 x4 x5 x6 x7 x8 x9 x10 x11 x12 x13) x5 x6 (cols256 x4 256 (by omega)) j).trans ?_)
  · unfold out0_15
    rw [ld4, ld4, ld5]
    generalize k0_pay6 (F := Ideal) _ _ _ _ _ = b
    canon_tiles x p
    exact congrArg b (by funext a; fin_cases a; exacts [Fin.ext p0.symm, Fin.ext p1.symm])
  · simp only [pay41_at]
    rfl

theorem out16_at (j : Fin 128) : out0_16 x0 x1 x2 x3 x4 x5 x6 x7 x8 x9 x10 x11 x12 x13 (ix2 r j)
    = oK (ZR x0 x1 x2 x3 x4 r) (fun j => x5 (ix2 r j)) (fun j => x6 (ix2 r j)) j := by
  refine Eq.trans ?_ ((pay12_at r (k0_pay41 x0 x1 x2 x3 x4 x5 x6 x7 x8 x9 x10 x11 x12 x13) x5 x6 (cols128 x4 512 (by omega)) j).trans ?_)
  · unfold out0_16
    rw [ld4, ld4, ld6]
    generalize k0_pay12 (F := Ideal) _ _ _ _ _ _ = b
    canon_tiles x p
    exact congrArg b (by funext a; fin_cases a; exacts [Fin.ext p0.symm, Fin.ext p1.symm])
  · simp only [pay41_at]
    rfl

theorem out17_at (j : Fin 256) : out0_17 x0 x1 x2 x3 x4 x5 x6 x7 x8 x9 x10 x11 x12 x13 (ix2 r j)
    = oV (ZR x0 x1 x2 x3 x4 r) j := by
  refine Eq.trans ?_ ((pay15_at r (k0_pay41 x0 x1 x2 x3 x4 x5 x6 x7 x8 x9 x10 x11 x12 x13) (cols256 x4 640 (by omega)) j).trans ?_)
  · unfold out0_17
    rw [ld8]
    generalize k0_pay15 (F := Ideal) _ _ = b
    canon_tiles x p
    exact congrArg b (by funext a; fin_cases a; exacts [Fin.ext p0.symm, Fin.ext p1.symm])
  · simp only [pay41_at]
    rfl

theorem out20_at (j : Fin 512) : out0_20 x0 x1 x2 x3 x4 x5 x6 x7 x8 x9 x10 x11 x12 x13 (ix2 r j)
    = oVm (ZR x0 x1 x2 x3 x4 r) (fun j => x10 (ix2 0 j)) (fun k j => x13 (ix2 k j)) j := by
  refine Eq.trans ?_ ((pay37_at r (k0_pay43 x0 x1 x2 x3 x4 x5 x6 x7 x8 x9 x10 x11 x12 x13) x13 j).trans ?_)
  · unfold out0_20
    rw [ld19]
    generalize k0_pay37 (F := Ideal) _ _ = b
    canon_tiles x p
    exact congrArg b (by funext a; fin_cases a; exacts [Fin.ext p0.symm, Fin.ext p1.symm])
  · simp only [pay43_at]
    rfl

theorem out21_at (j : Fin 256) : out0_21 x0 x1 x2 x3 x4 x5 x6 x7 x8 x9 x10 x11 x12 x13 (ix2 r j)
    = oU (ZR x0 x1 x2 x3 x4 r) j := by
  refine Eq.trans ?_ ((pay2_at r (k0_pay44 x0 x1 x2 x3 x4 x5 x6 x7 x8 x9 x10 x11 x12 x13) (k0_pay45 x0 x1 x2 x3 x4 x5 x6 x7 x8 x9 x10 x11 x12 x13) (k0_pay46 x0 x1 x2 x3 x4 x5 x6 x7 x8 x9 x10 x11 x12 x13) j).trans ?_)
  · unfold out0_21
    generalize k0_pay2 (F := Ideal) _ _ _ = b
    canon_tiles x p
    exact congrArg b (by funext a; fin_cases a; exacts [Fin.ext p0.symm, Fin.ext p1.symm])
  · simp only [gelu_at]
    rfl

theorem out22_at (j : Fin 256) : out0_22 x0 x1 x2 x3 x4 x5 x6 x7 x8 x9 x10 x11 x12 x13 (ix2 r j)
    = oN (ZR x0 x1 x2 x3 x4 r) j := by
  refine Eq.trans ?_ ((pay3_at r (k0_pay44 x0 x1 x2 x3 x4 x5 x6 x7 x8 x9 x10 x11 x12 x13) (k0_pay45 x0 x1 x2 x3 x4 x5 x6 x7 x8 x9 x10 x11 x12 x13) (k0_pay46 x0 x1 x2 x3 x4 x5 x6 x7 x8 x9 x10 x11 x12 x13) j).trans ?_)
  · unfold out0_22
    generalize k0_pay3 (F := Ideal) _ _ _ = b
    canon_tiles x p
    exact congrArg b (by funext a; fin_cases a; exacts [Fin.ext p0.symm, Fin.ext p1.symm])
  · simp only [gelu_at]
    simp only [← Nat.add_assoc]
    rfl

theorem hq_at (h : Fin 4) (l : Fin 128) : hq r x7 x8 (k0_pay42 x0 x1 x2 x3 x4 x5 x6 x7 x8 x9 x10 x11 x12 x13) l h
    = oQm (ZR x0 x1 x2 x3 x4 r) (fun j => x9 (ix2 0 j)) (fun k j => x11 (ix2 k j)) (fun j => x7 (ix2 r j)) (fun j => x8 (ix2 r j)) h l := by
  unfold hq
  simp only [pay42_at]
  rfl

theorem h0_at (l : Fin 128) : k0_pay21 x7 x8 (k0_pay17 (k0_pay41 x0 x1 x2 x3 x4 x5 x6 x7 x8 x9 x10 x11 x12 x13) (View.ld x4 r0_9) (View.ld x9 r0_10) (View.ld x11 r0_11))
    (Scalar.select (Scalar.cmpi .eq 2#32 0#32) 1#32 2#32) k0_pay18 k0_pay19 k0_pay20
      (Scalar.cmpi .slt (Scalar.select (Scalar.cmpi .eq 2#32 0#32) 1#32 2#32) 0#32) (ix2 r l) = hq r x7 x8 (k0_pay42 x0 x1 x2 x3 x4 x5 x6 x7 x8 x9 x10 x11 x12 x13) l 0 := by
  rw [pay21_at]
  simp only [pay17_at]
  rfl

/-- Lane `l` of head `h` lies in the head's own piece. -/
theorem piece (b : FVec Ideal S512x128 .bf16) (f : Fin 128 → Fin 4 → EReal) (k : Fin 4) (o : ℕ) (ho : o = 128 * (k : ℕ))
    (e : ∀ l, b (ix2 r l) = f l k) (h : Fin 4) (l : Fin 128) (x : S512x128.Idx) (p0 : (r : ℕ) = x 0) (p1 : 128 * (h : ℕ) + l = o + x 1) :
    b x = f l h := by
  have hx : (x 1 : ℕ) < 128 := (x 1).isLt
  have hh : (h : ℕ) = k := by omega
  have hl : (l : ℕ) = x 1 := by omega
  obtain rfl : h = k := Fin.ext hh
  rw [← e l]
  exact congrArg b (by funext a; fin_cases a; exacts [Fin.ext p0.symm, Fin.ext hl.symm])

theorem out18_at (h : Fin 4) (l : Fin 128) : out0_18 x0 x1 x2 x3 x4 x5 x6 x7 x8 x9 x10 x11 x12 x13 (ix2 r (lane h l))
    = oQm (ZR x0 x1 x2 x3 x4 r) (fun j => x9 (ix2 0 j)) (fun k j => x11 (ix2 k j)) (fun j => x7 (ix2 r j)) (fun j => x8 (ix2 r j)) h l := by
  rw [← hq_at r x0 x1 x2 x3 x4 x5 x6 x7 x8 x9 x10 x11 x12 x13]
  have e0 := h0_at r x0 x1 x2 x3 x4 x5 x6 x7 x8 x9 x10 x11 x12 x13
  have e1 := pay25_at r x7 x8 (k0_pay42 x0 x1 x2 x3 x4 x5 x6 x7 x8 x9 x10 x11 x12 x13)
  have e2 := pay26_at r x7 x8 (k0_pay42 x0 x1 x2 x3 x4 x5 x6 x7 x8 x9 x10 x11 x12 x13)
  have e3 := pay29_at r x7 x8 (k0_pay42 x0 x1 x2 x3 x4 x5 x6 x7 x8 x9 x10 x11 x12 x13)
  unfold out0_18
  rw [ld7, ld7]
  generalize k0_pay21 (F := Ideal) _ _ _ _ _ _ _ _ = b0 at e0 ⊢
  generalize k0_pay25 (F := Ideal) _ _ = b1 at e1 ⊢
  generalize k0_pay26 (F := Ideal) _ _ _ = b2 at e2 ⊢
  generalize k0_pay29 (F := Ideal) _ _ _ _ _ _ = b3 at e3 ⊢
  unfold lane
  canon_tiles x p
  · exact piece r b3 (fun l h => hq r x7 x8 (k0_pay42 x0 x1 x2 x3 x4 x5 x6 x7 x8 x9 x10 x11 x12 x13) l h) 3 _ rfl e3 h l x p0 p1
  · exact piece r b2 (fun l h => hq r x7 x8 (k0_pay42 x0 x1 x2 x3 x4 x5 x6 x7 x8 x9 x10 x11 x12 x13) l h) 2 _ rfl e2 h l x p0 p1
  · exact piece r b1 (fun l h => hq r x7 x8 (k0_pay42 x0 x1 x2 x3 x4 x5 x6 x7 x8 x9 x10 x11 x12 x13) l h) 1 _ rfl e1 h l x p0 p1
  · exact piece r b0 (fun l h => hq r x7 x8 (k0_pay42 x0 x1 x2 x3 x4 x5 x6 x7 x8 x9 x10 x11 x12 x13) l h) 0 0 rfl e0 h l x p0 (p1.trans (Nat.zero_add _).symm)

/-- A head's keys, as the kernel adds them. -/
def hk (l : Fin 128) (h : Fin 4) : EReal :=
  thr (fun q => k0_pay43 x0 x1 x2 x3 x4 x5 x6 x7 x8 x9 x10 x11 x12 x13 (ix2 r q)) (fun q j => x12 (ix2 q j)) (lane h l) + k0_pay31 (k0_pay41 x0 x1 x2 x3 x4 x5 x6 x7 x8 x9 x10 x11 x12 x13) x7 x8 (cols128 x4 1280 (by omega)) (ix2 r l)

theorem hk_at (h : Fin 4) (l : Fin 128) : hk r x0 x1 x2 x3 x4 x5 x6 x7 x8 x9 x10 x11 x12 x13 l h
    = oKm (ZR x0 x1 x2 x3 x4 r) (fun j => x10 (ix2 0 j)) (fun k j => x12 (ix2 k j)) (fun j => x7 (ix2 r j)) (fun j => x8 (ix2 r j)) h l := by
  unfold hk
  rw [pay31_at]
  simp only [pay43_at, pay41_at]
  rfl

theorem out19_at (h : Fin 4) (l : Fin 128) : out0_19 x0 x1 x2 x3 x4 x5 x6 x7 x8 x9 x10 x11 x12 x13 (ix2 r (lane h l))
    = oKm (ZR x0 x1 x2 x3 x4 r) (fun j => x10 (ix2 0 j)) (fun k j => x12 (ix2 k j)) (fun j => x7 (ix2 r j)) (fun j => x8 (ix2 r j)) h l := by
  rw [← hk_at r x0 x1 x2 x3 x4 x5 x6 x7 x8 x9 x10 x11 x12 x13]
  have e0 := fun l => pay33_at r x7 x8 l (k0_pay43 x0 x1 x2 x3 x4 x5 x6 x7 x8 x9 x10 x11 x12 x13) x12 (k0_pay41 x0 x1 x2 x3 x4 x5 x6 x7 x8 x9 x10 x11 x12 x13) (cols128 x4 1280 (by omega))
  have e1 := fun l => pay34_at r x7 x8 l (k0_pay43 x0 x1 x2 x3 x4 x5 x6 x7 x8 x9 x10 x11 x12 x13) x12 (k0_pay41 x0 x1 x2 x3 x4 x5 x6 x7 x8 x9 x10 x11 x12 x13) (cols128 x4 1280 (by omega))
  have e2 := fun l => pay35_at r x7 x8 l (k0_pay43 x0 x1 x2 x3 x4 x5 x6 x7 x8 x9 x10 x11 x12 x13) x12 (k0_pay41 x0 x1 x2 x3 x4 x5 x6 x7 x8 x9 x10 x11 x12 x13) (cols128 x4 1280 (by omega))
  have e3 := fun l => pay36_at r x7 x8 l (k0_pay43 x0 x1 x2 x3 x4 x5 x6 x7 x8 x9 x10 x11 x12 x13) x12 (k0_pay41 x0 x1 x2 x3 x4 x5 x6 x7 x8 x9 x10 x11 x12 x13) (cols128 x4 1280 (by omega))
  unfold out0_19
  rw [ld7, ld7, ld18, ld19]
  generalize k0_pay33 (F := Ideal) _ _ _ _ _ _ = b0 at e0 ⊢
  generalize k0_pay34 (F := Ideal) _ _ _ _ _ _ = b1 at e1 ⊢
  generalize k0_pay35 (F := Ideal) _ _ _ _ _ _ = b2 at e2 ⊢
  generalize k0_pay36 (F := Ideal) _ _ = b3 at e3 ⊢
  unfold lane
  canon_tiles x p
  · exact piece r b3 (hk r x0 x1 x2 x3 x4 x5 x6 x7 x8 x9 x10 x11 x12 x13) 3 _ rfl e3 h l x p0 p1
  · exact piece r b2 (hk r x0 x1 x2 x3 x4 x5 x6 x7 x8 x9 x10 x11 x12 x13) 2 _ rfl e2 h l x p0 p1
  · exact piece r b1 (hk r x0 x1 x2 x3 x4 x5 x6 x7 x8 x9 x10 x11 x12 x13) 1 _ rfl e1 h l x p0 p1
  · exact piece r b0 (hk r x0 x1 x2 x3 x4 x5 x6 x7 x8 x9 x10 x11 x12 x13) 0 0 rfl e0 h l x p0 (p1.trans (Nat.zero_add _).symm)
end

end Cert.InsIdeal.Val
end
-- ==== Proof.InsOut.lean ====
/- The input projection's nine result arrays after the run. Point `t` is one tile of 512 tokens, and its batch is `t / 16`. -/
module

public import proofs.«01_k».proof.Proof.InsBody
public import proofs.«01_k».proof.Proof.Gen.InsIdeal.Value

@[expose] public section

set_option maxRecDepth 16384
set_option Elab.async false

noncomputable section

namespace Cert.InsIdeal.Val

open Cert.InsIdeal Cert.InsIdeal.Gen Cert.Inp Idealize.ShloMosaic Idealize.ShloMosaic.TcCoe Idealize.SL.Sem

variable (m : (ℓ : Loc nD τ sig) → Buf (Elt Ideal) ℓ) (c : Dev nD)

/-- The tokens. -/
def Ha : S32768x1024.Idx → EReal := m ((c : Thread nD τ).loc main_arg0)
/-- The normalisation's weights. -/
def Ga : S1x1024.Idx → EReal := m ((c : Thread nD τ).loc main_arg1)
/-- The shift, one row a batch. -/
def Sh : S4x1x1024.Idx → EReal := m ((c : Thread nD τ).loc main_arg2)
/-- The scale, one row a batch. -/
def Sc : S4x1x1024.Idx → EReal := m ((c : Thread nD τ).loc main_arg3)
/-- The weights. -/
def Wa : S1024x1920.Idx → EReal := m ((c : Thread nD τ).loc main_arg4)
/-- The first rotation's cosines. -/
def Cw : S8192x256.Idx → EReal := m ((c : Thread nD τ).loc main_arg5)
/-- The first rotation's sines. -/
def Sw : S8192x256.Idx → EReal := m ((c : Thread nD τ).loc main_arg6)
/-- The second rotation's cosines. -/
def Cm : S8192x128.Idx → EReal := m ((c : Thread nD τ).loc main_arg7)
/-- The second rotation's sines. -/
def Sm : S8192x128.Idx → EReal := m ((c : Thread nD τ).loc main_arg8)
/-- The weights of the queries' normalisation. -/
def Gq : S1x256.Idx → EReal := m ((c : Thread nD τ).loc main_arg9)
/-- The weights of the keys' and values' normalisation. -/
def Gk : S1x128.Idx → EReal := m ((c : Thread nD τ).loc main_arg10)
/-- The queries' second weights. -/
def Wq : S256x512.Idx → EReal := m ((c : Thread nD τ).loc main_arg11)
/-- The keys' second weights. -/
def Wk : S128x512.Idx → EReal := m ((c : Thread nD τ).loc main_arg12)
/-- The values' second weights. -/
def Wv : S128x512.Idx → EReal := m ((c : Thread nD τ).loc main_arg13)

/-! ## Where the blocks lie -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val / 16, 0, 0] := (by decide +kernel : ∀ t : Fin grid0.N, _)
theorem idx3 : ∀ t : Fin cfg0.N, win0_3.index t = ![t.val / 16, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val % 16, 0] := (by decide +kernel : ∀ t : Fin grid0.N, _)
theorem idx6 : ∀ t : Fin cfg0.N, win0_6.index t = ![t.val % 16, 0] := (by decide +kernel : ∀ t : Fin grid0.N, _)
theorem idx7 : ∀ t : Fin cfg0.N, win0_7.index t = ![t.val % 16, 0] := (by decide +kernel : ∀ t : Fin grid0.N, _)
theorem idx8 : ∀ t : Fin cfg0.N, win0_8.index t = ![t.val % 16, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![t.val, 0] := (by decide +kernel : ∀ t : Fin grid0.N, _)
theorem idx17 : ∀ t : Fin cfg0.N, win0_17.index t = ![t.val, 0] := (by decide +kernel : ∀ t : Fin grid0.N, _)
theorem idx18 : ∀ t : Fin cfg0.N, win0_18.index t = ![t.val, 0] := (by decide +kernel : ∀ t : Fin grid0.N, _)
theorem idx19 : ∀ t : Fin cfg0.N, win0_19.index t = ![t.val, 0] := (by decide +kernel : ∀ t : Fin grid0.N, _)
theorem idx20 : ∀ t : Fin cfg0.N, win0_20.index t = ![t.val, 0] := (by decide +kernel : ∀ t : Fin grid0.N, _)
theorem idx21 : ∀ t : Fin cfg0.N, win0_21.index t = ![t.val, 0] := (by decide +kernel : ∀ t : Fin grid0.N, _)
theorem idx22 : ∀ t : Fin cfg0.N, win0_22.index t = ![t.val, 0] := (by decide +kernel : ∀ t : Fin grid0.N, _)

section
variable (t : Fin cfg0.N)
theorem emb0 (r : Fin 512) (e : Fin 1024) (s : Fin 32768) (hs : (s : ℕ) = t.val * 512 + r) :
    ((cfg0.win 0).blk t).view.emb (ix2 r e) = ix2 s e := by
  blk_ext [idx0 t]
theorem emb1 (j : Fin 1024) :
    ((cfg0.win 1).blk t).view.emb (ix2 0 j) = ix2 0 j := by
  blk_ext [idx1 t]
theorem emb2 (j : Fin 1024) (b : Fin 4) (hb : (b : ℕ) = t.val / 16) :
    ((cfg0.win 2).blk t).view.emb (ix3 0 0 j) = ix3 b 0 j := by
  blk_ext [idx2 t]
theorem emb3 (j : Fin 1024) (b : Fin 4) (hb : (b : ℕ) = t.val / 16) :
    ((cfg0.win 3).blk t).view.emb (ix3 0 0 j) = ix3 b 0 j := by
  blk_ext [idx3 t]
theorem emb4 (k : Fin 1024) (j : Fin 1920) :
    ((cfg0.win 4).blk t).view.emb (ix2 k j) = ix2 k j := by
  blk_ext [idx4 t]
theorem emb5 (r : Fin 512) (e : Fin 256) (n : Fin 8192) (hn : (n : ℕ) = t.val % 16 * 512 + r) :
    ((cfg0.win 5).blk t).view.emb (ix2 r e) = ix2 n e := by
  blk_ext [idx5 t]
theorem emb6 (r : Fin 512) (e : Fin 256) (n : Fin 8192) (hn : (n : ℕ) = t.val % 16 * 512 + r) :
    ((cfg0.win 6).blk t).view.emb (ix2 r e) = ix2 n e := by
  blk_ext [idx6 t]
theorem emb7 (r : Fin 512) (e : Fin 128) (n : Fin 8192) (hn : (n : ℕ) = t.val % 16 * 512 + r) :
    ((cfg0.win 7).blk t).view.emb (ix2 r e) = ix2 n e := by
  blk_ext [idx7 t]
theorem emb8 (r : Fin 512) (e : Fin 128) (n : Fin 8192) (hn : (n : ℕ) = t.val % 16 * 512 + r) :
    ((cfg0.win 8).blk t).view.emb (ix2 r e) = ix2 n e := by
  blk_ext [idx8 t]
theorem emb9 (j : Fin 256) :
    ((cfg0.win 9).blk t).view.emb (ix2 0 j) = ix2 0 j := by
  blk_ext [idx9 t]
theorem emb10 (j : Fin 128) :
    ((cfg0.win 10).blk t).view.emb (ix2 0 j) = ix2 0 j := by
  blk_ext [idx10 t]
theorem emb11 (k : Fin 256) (j : Fin 512) :
    ((cfg0.win 11).blk t).view.emb (ix2 k j) = ix2 k j := by
  blk_ext [idx11 t]
theorem emb12 (k : Fin 128) (j : Fin 512) :
    ((cfg0.win 12).blk t).view.emb (ix2 k j) = ix2 k j := by
  blk_ext [idx12 t]
theorem emb13 (k : Fin 128) (j : Fin 512) :
    ((cfg0.win 13).blk t).view.emb (ix2 k j) = ix2 k j := by
  blk_ext [idx13 t]

variable (f : (b : Ref sig .tc) → Buf (Elt Ideal) ((c : Thread nD τ).loc b))
theorem rd0 (y : S512x1024.Idx) : ((cfg0.win 0).blk t).view.read (Elt Ideal) (f (Pipeline.arrRef spec0 0)) y
    = f main_arg0 (((cfg0.win 0).blk t).view.emb y) := rfl
theorem rd1 (y : S1x1024.Idx) : ((cfg0.win 1).blk t).view.read (Elt Ideal) (f (Pipeline.arrRef spec0 1)) y
    = f main_arg1 (((cfg0.win 1).blk t).view.emb y) := rfl
theorem rd2 (y : S1x1x1024.Idx) : ((cfg0.win 2).blk t).view.read (Elt Ideal) (f (Pipeline.arrRef spec0 2)) y
    = f main_arg2 (((cfg0.win 2).blk t).view.emb y) := rfl
theorem rd3 (y : S1x1x1024.Idx) : ((cfg0.win 3).blk t).view.read (Elt Ideal) (f (Pipeline.arrRef spec0 3)) y
    = f main_arg3 (((cfg0.win 3).blk t).view.emb y) := rfl
theorem rd4 (y : S1024x1920.Idx) : ((cfg0.win 4).blk t).view.read (Elt Ideal) (f (Pipeline.arrRef spec0 4)) y
    = f main_arg4 (((cfg0.win 4).blk t).view.emb y) := rfl
theorem rd5 (y : S512x256.Idx) : ((cfg0.win 5).blk t).view.read (Elt Ideal) (f (Pipeline.arrRef spec0 5)) y
    = f main_arg5 (((cfg0.win 5).blk t).view.emb y) := rfl
theorem rd6 (y : S512x256.Idx) : ((cfg0.win 6).blk t).view.read (Elt Ideal) (f (Pipeline.arrRef spec0 6)) y
    = f main_arg6 (((cfg0.win 6).blk t).view.emb y) := rfl
theorem rd7 (y : S512x128.Idx) : ((cfg0.win 7).blk t).view.read (Elt Ideal) (f (Pipeline.arrRef spec0 7)) y
    = f main_arg7 (((cfg0.win 7).blk t).view.emb y) := rfl
theorem rd8 (y : S512x128.Idx) : ((cfg0.win 8).blk t).view.read (Elt Ideal) (f (Pipeline.arrRef spec0 8)) y
    = f main_arg8 (((cfg0.win 8).blk t).view.emb y) := rfl
theorem rd9 (y : S1x256.Idx) : ((cfg0.win 9).blk t).view.read (Elt Ideal) (f (Pipeline.arrRef spec0 9)) y
    = f main_arg9 (((cfg0.win 9).blk t).view.emb y) := rfl
theorem rd10 (y : S1x128.Idx) : ((cfg0.win 10).blk t).view.read (Elt Ideal) (f (Pipeline.arrRef spec0 10)) y
    = f main_arg10 (((cfg0.win 10).blk t).view.emb y) := rfl
theorem rd11 (y : S256x512.Idx) : ((cfg0.win 11).blk t).view.read (Elt Ideal) (f (Pipeline.arrRef spec0 11)) y
    = f main_arg11 (((cfg0.win 11).blk t).view.emb y) := rfl
theorem rd12 (y : S128x512.Idx) : ((cfg0.win 12).blk t).view.read (Elt Ideal) (f (Pipeline.arrRef spec0 12)) y
    = f main_arg12 (((cfg0.win 12).blk t).view.emb y) := rfl
theorem rd13 (y : S128x512.Idx) : ((cfg0.win 13).blk t).view.read (Elt Ideal) (f (Pipeline.arrRef spec0 13)) y
    = f main_arg13 (((cfg0.win 13).blk t).view.emb y) := rfl
end

section
variable (t : Fin cfg0.N)
theorem in0 (r : Fin 512) (e : Fin 1024) (s : Fin 32768) (hs : (s : ℕ) = t.val * 512 + r) :
    iblk m c 0 t (ix2 r e) = Ha m c (ix2 s e) := by
  unfold iblk
  exact (rd0 c t (fun b => V m c b) _).trans (congrArg (Ha m c) (emb0 t r e s hs))
theorem in1 (j : Fin 1024) :
    iblk m c 1 t (ix2 0 j) = Ga m c (ix2 0 j) := by
  unfold iblk
  exact (rd1 c t (fun b => V m c b) _).trans (congrArg (Ga m c) (emb1 t j))
theorem in2 (j : Fin 1024) (b : Fin 4) (hb : (b : ℕ) = t.val / 16) :
    iblk m c 2 t (ix3 0 0 j) = Sh m c (ix3 b 0 j) := by
  unfold iblk
  exact (rd2 c t (fun b => V m c b) _).trans (congrArg (Sh m c) (emb2 t j b hb))
theorem in3 (j : Fin 1024) (b : Fin 4) (hb : (b : ℕ) = t.val / 16) :
    iblk m c 3 t (ix3 0 0 j) = Sc m c (ix3 b 0 j) := by
  unfold iblk
  exact (rd3 c t (fun b => V m c b) _).trans (congrArg (Sc m c) (emb3 t j b hb))
theorem in4 (k : Fin 1024) (j : Fin 1920) :
    iblk m c 4 t (ix2 k j) = Wa m c (ix2 k j) := by
  unfold iblk
  exact (rd4 c t (fun b => V m c b) _).trans (congrArg (Wa m c) (emb4 t k j))
theorem in5 (r : Fin 512) (e : Fin 256) (n : Fin 8192) (hn : (n : ℕ) = t.val % 16 * 512 + r) :
    iblk m c 5 t (ix2 r e) = Cw m c (ix2 n e) := by
  unfold iblk
  exact (rd5 c t (fun b => V m c b) _).trans (congrArg (Cw m c) (emb5 t r e n hn))
theorem in6 (r : Fin 512) (e : Fin 256) (n : Fin 8192) (hn : (n : ℕ) = t.val % 16 * 512 + r) :
    iblk m c 6 t (ix2 r e) = Sw m c (ix2 n e) := by
  unfold iblk
  exact (rd6 c t (fun b => V m c b) _).trans (congrArg (Sw m c) (emb6 t r e n hn))
theorem in7 (r : Fin 512) (e : Fin 128) (n : Fin 8192) (hn : (n : ℕ) = t.val % 16 * 512 + r) :
    iblk m c 7 t (ix2 r e) = Cm m c (ix2 n e) := by
  unfold iblk
  exact (rd7 c t (fun b => V m c b) _).trans (congrArg (Cm m c) (emb7 t r e n hn))
theorem in8 (r : Fin 512) (e : Fin 128) (n : Fin 8192) (hn : (n : ℕ) = t.val % 16 * 512 + r) :
    iblk m c 8 t (ix2 r e) = Sm m c (ix2 n e) := by
  unfold iblk
  exact (rd8 c t (fun b => V m c b) _).trans (congrArg (Sm m c) (emb8 t r e n hn))
theorem in9 (j : Fin 256) :
    iblk m c 9 t (ix2 0 j) = Gq m c (ix2 0 j) := by
  unfold iblk
  exact (rd9 c t (fun b => V m c b) _).trans (congrArg (Gq m c) (emb9 t j))
theorem in10 (j : Fin 128) :
    iblk m c 10 t (ix2 0 j) = Gk m c (ix2 0 j) := by
  unfold iblk
  exact (rd10 c t (fun b => V m c b) _).trans (congrArg (Gk m c) (emb10 t j))
theorem in11 (k : Fin 256) (j : Fin 512) :
    iblk m c 11 t (ix2 k j) = Wq m c (ix2 k j) := by
  unfold iblk
  exact (rd11 c t (fun b => V m c b) _).trans (congrArg (Wq m c) (emb11 t k j))
theorem in12 (k : Fin 128) (j : Fin 512) :
    iblk m c 12 t (ix2 k j) = Wk m c (ix2 k j) := by
  unfold iblk
  exact (rd12 c t (fun b => V m c b) _).trans (congrArg (Wk m c) (emb12 t k j))
theorem in13 (k : Fin 128) (j : Fin 512) :
    iblk m c 13 t (ix2 k j) = Wv m c (ix2 k j) := by
  unfold iblk
  exact (rd13 c t (fun b => V m c b) _).trans (congrArg (Wv m c) (emb13 t k j))
end

/-! ## The results -/

/-- The batch of a token. -/
def bat (s : Fin 32768) : Fin 4 := ⟨s / 8192, by omega⟩
/-- The place of a token in its batch. -/
def plc (s : Fin 32768) : Fin 8192 := ⟨(s : ℕ) % 8192, by omega⟩

/-- The projected row of a token. -/
def ZS (s : Fin 32768) : Fin 1920 → EReal :=
  zrow (fun d => Ha m c (ix2 s d)) (fun d => Ga m c (ix2 0 d)) (fun d => Sh m c (ix3 (bat s) 0 d)) (fun d => Sc m c (ix3 (bat s) 0 d)) (fun d q => Wa m c (ix2 d q))

/-- The first result at a token. -/
def resA (s : Fin 32768) (j : Fin 256) : EReal :=
  oA (ZS m c s) j
/-- The first result array. -/
def arrA : S32768x256.Idx → EReal := fun q => resA m c (q 0) (q 1)
/-- The second result at a token. -/
def resQ (s : Fin 32768) (j : Fin 256) : EReal :=
  oQ (ZS m c s) (fun j => Cw m c (ix2 (plc s) j)) (fun j => Sw m c (ix2 (plc s) j)) j
/-- The second result array. -/
def arrQ : S32768x256.Idx → EReal := fun q => resQ m c (q 0) (q 1)
/-- The third result at a token. -/
def resK (s : Fin 32768) (j : Fin 128) : EReal :=
  oK (ZS m c s) (fun j => Cw m c (ix2 (plc s) j)) (fun j => Sw m c (ix2 (plc s) j)) j
/-- The third result array. -/
def arrK : S32768x128.Idx → EReal := fun q => resK m c (q 0) (q 1)
/-- The fourth result at a token. -/
def resV (s : Fin 32768) (j : Fin 256) : EReal :=
  oV (ZS m c s) j
/-- The fourth result array. -/
def arrV : S32768x256.Idx → EReal := fun q => resV m c (q 0) (q 1)
/-- The fifth result at a token. -/
def resQm (s : Fin 32768) (j : Fin 512) : EReal :=
  oQm (ZS m c s) (fun j => Gq m c (ix2 0 j)) (fun k j => Wq m c (ix2 k j)) (fun j => Cm m c (ix2 (plc s) j)) (fun j => Sm m c (ix2 (plc s) j)) (hd (j)) (ln (j))
/-- The fifth result array. -/
def arrQm : S32768x512.Idx → EReal := fun q => resQm m c (q 0) (q 1)
/-- The sixth result at a token. -/
def resKm (s : Fin 32768) (j : Fin 512) : EReal :=
  oKm (ZS m c s) (fun j => Gk m c (ix2 0 j)) (fun k j => Wk m c (ix2 k j)) (fun j => Cm m c (ix2 (plc s) j)) (fun j => Sm m c (ix2 (plc s) j)) (hd (j)) (ln (j))
/-- The sixth result array. -/
def arrKm : S32768x512.Idx → EReal := fun q => resKm m c (q 0) (q 1)
/-- The seventh result at a token. -/
def resVm (s : Fin 32768) (j : Fin 512) : EReal :=
  oVm (ZS m c s) (fun j => Gk m c (ix2 0 j)) (fun k j => Wv m c (ix2 k j)) j
/-- The seventh result array. -/
def arrVm : S32768x512.Idx → EReal := fun q => resVm m c (q 0) (q 1)
/-- The eighth result at a token. -/
def resU (s : Fin 32768) (j : Fin 256) : EReal :=
  oU (ZS m c s) j
/-- The eighth result array. -/
def arrU : S32768x256.Idx → EReal := fun q => resU m c (q 0) (q 1)
/-- The ninth result at a token. -/
def resN (s : Fin 32768) (j : Fin 256) : EReal :=
  oN (ZS m c s) j
/-- The ninth result array. -/
def arrN : S32768x256.Idx → EReal := fun q => resN m c (q 0) (q 1)

theorem lane_split (j : Fin 512) : lane (hd j) (ln j) = j := Fin.ext (by show 128 * ((j : ℕ) / 128) + (j : ℕ) % 128 = j; omega)

section
variable (t : Fin cfg0.N) (r : Fin 512) (s : Fin 32768) (hs : (s : ℕ) = t.val * 512 + r)
include hs

theorem row_at : ZR (iblk m c 0 t) (iblk m c 1 t) (iblk m c 2 t) (iblk m c 3 t) (iblk m c 4 t) r = ZS m c s := by
  have hb : ((bat s : Fin 4) : ℕ) = t.val / 16 := by show (s : ℕ) / 8192 = _; omega
  unfold ZR ZS
  simp only [in0 m c t r _ s hs, in1 m c t, in2 m c t _ (bat s) hb, in3 m c t _ (bat s) hb, in4 m c t]

theorem plc_at : ((plc s : Fin 8192) : ℕ) = t.val % 16 * 512 + r := by
  have ht : (t : ℕ) < 64 := t.isLt
  show (s : ℕ) % 8192 = _
  omega

theorem atA (j : Fin 256) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j) = resA m c s j := by
  rw [out14_at, row_at m c t r s hs]
  rfl

theorem atQ (j : Fin 256) : out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j) = resQ m c s j := by
  have hn := plc_at t r s hs
  rw [out15_at, row_at m c t r s hs]
  simp only [in5 m c t r _ (plc s) hn, in6 m c t r _ (plc s) hn]
  rfl

theorem atK (j : Fin 128) : out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j) = resK m c s j := by
  have hn := plc_at t r s hs
  rw [out16_at, row_at m c t r s hs]
  simp only [in5 m c t r _ (plc s) hn, in6 m c t r _ (plc s) hn]
  rfl

theorem atV (j : Fin 256) : out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j) = resV m c s j := by
  rw [out17_at, row_at m c t r s hs]
  rfl

theorem atQm (j : Fin 512) : out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j) = resQm m c s j := by
  have hn := plc_at t r s hs
  refine (congrArg (fun j => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j)) (lane_split j).symm).trans ?_
  refine (out18_at r _ _ _ _ _ _ _ _ _ _ _ _ _ _ (hd j) (ln j)).trans ?_
  rw [row_at m c t r s hs]
  simp only [in7 m c t r _ (plc s) hn, in8 m c t r _ (plc s) hn, in9 m c t, in11 m c t]
  rfl

theorem atKm (j : Fin 512) : out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j) = resKm m c s j := by
  have hn := plc_at t r s hs
  refine (congrArg (fun j => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j)) (lane_split j).symm).trans ?_
  refine (out19_at r _ _ _ _ _ _ _ _ _ _ _ _ _ _ (hd j) (ln j)).trans ?_
  rw [row_at m c t r s hs]
  simp only [in7 m c t r _ (plc s) hn, in8 m c t r _ (plc s) hn, in10 m c t, in12 m c t]
  rfl

theorem atVm (j : Fin 512) : out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j) = resVm m c s j := by
  rw [out20_at, row_at m c t r s hs]
  simp only [in10 m c t, in13 m c t]
  rfl

theorem atU (j : Fin 256) : out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j) = resU m c s j := by
  rw [out21_at, row_at m c t r s hs]
  rfl

theorem atN (j : Fin 256) : out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j) = resN m c s j := by
  rw [out22_at, row_at m c t r s hs]
  rfl

end

theorem getA (t : Fin cfg0.N) (y : S512x256.Idx) (q : S32768x256.Idx) (e0 : (q 0 : ℕ) = t.val * 512 + y 0) (e1 : (q 1 : ℕ) = y 1) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = arrA m c q := by
  have hy : y = ix2 (y 0) (q 1) := by funext a; fin_cases a; exacts [rfl, Fin.ext e1.symm]
  rw [hy]
  exact atA m c t (y 0) (q 0) e0 (q 1)

/-- The first result array after the run. -/
theorem arr14_eq : (dats m 0 c).arrAt 14 cfg0.N = arrA m c := by
  refine (dats m 0 c).arrAt_eq_of_covers 14 (arrA m c) (by decide +kernel) fun t _ y => ?_
  blk_simp
  rw [after0_14]
  refine getA m c t y _ ?_ ?_ <;> blk_simp [idx14 t] <;> try omega

theorem getQ (t : Fin cfg0.N) (y : S512x256.Idx) (q : S32768x256.Idx) (e0 : (q 0 : ℕ) = t.val * 512 + y 0) (e1 : (q 1 : ℕ) = y 1) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = arrQ m c q := by
  have hy : y = ix2 (y 0) (q 1) := by funext a; fin_cases a; exacts [rfl, Fin.ext e1.symm]
  rw [hy]
  exact atQ m c t (y 0) (q 0) e0 (q 1)

/-- The second result array after the run. -/
theorem arr15_eq : (dats m 0 c).arrAt 15 cfg0.N = arrQ m c := by
  refine (dats m 0 c).arrAt_eq_of_covers 15 (arrQ m c) (by decide +kernel) fun t _ y => ?_
  blk_simp
  rw [after0_15]
  refine getQ m c t y _ ?_ ?_ <;> blk_simp [idx15 t] <;> try omega

theorem getK (t : Fin cfg0.N) (y : S512x128.Idx) (q : S32768x128.Idx) (e0 : (q 0 : ℕ) = t.val * 512 + y 0) (e1 : (q 1 : ℕ) = y 1) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = arrK m c q := by
  have hy : y = ix2 (y 0) (q 1) := by funext a; fin_cases a; exacts [rfl, Fin.ext e1.symm]
  rw [hy]
  exact atK m c t (y 0) (q 0) e0 (q 1)

/-- The third result array after the run. -/
theorem arr16_eq : (dats m 0 c).arrAt 16 cfg0.N = arrK m c := by
  refine (dats m 0 c).arrAt_eq_of_covers 16 (arrK m c) (by decide +kernel) fun t _ y => ?_
  blk_simp
  rw [after0_16]
  refine getK m c t y _ ?_ ?_ <;> blk_simp [idx16 t] <;> try omega

theorem getV (t : Fin cfg0.N) (y : S512x256.Idx) (q : S32768x256.Idx) (e0 : (q 0 : ℕ) = t.val * 512 + y 0) (e1 : (q 1 : ℕ) = y 1) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = arrV m c q := by
  have hy : y = ix2 (y 0) (q 1) := by funext a; fin_cases a; exacts [rfl, Fin.ext e1.symm]
  rw [hy]
  exact atV m c t (y 0) (q 0) e0 (q 1)

/-- The fourth result array after the run. -/
theorem arr17_eq : (dats m 0 c).arrAt 17 cfg0.N = arrV m c := by
  refine (dats m 0 c).arrAt_eq_of_covers 17 (arrV m c) (by decide +kernel) fun t _ y => ?_
  blk_simp
  rw [after0_17]
  refine getV m c t y _ ?_ ?_ <;> blk_simp [idx17 t] <;> try omega

theorem getQm (t : Fin cfg0.N) (y : S512x512.Idx) (q : S32768x512.Idx) (e0 : (q 0 : ℕ) = t.val * 512 + y 0) (e1 : (q 1 : ℕ) = y 1) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = arrQm m c q := by
  have hy : y = ix2 (y 0) (q 1) := by funext a; fin_cases a; exacts [rfl, Fin.ext e1.symm]
  rw [hy]
  exact atQm m c t (y 0) (q 0) e0 (q 1)

/-- The fifth result array after the run. -/
theorem arr18_eq : (dats m 0 c).arrAt 18 cfg0.N = arrQm m c := by
  refine (dats m 0 c).arrAt_eq_of_covers 18 (arrQm m c) (by decide +kernel) fun t _ y => ?_
  blk_simp
  rw [after0_18]
  refine getQm m c t y _ ?_ ?_ <;> blk_simp [idx18 t] <;> try omega

theorem getKm (t : Fin cfg0.N) (y : S512x512.Idx) (q : S32768x512.Idx) (e0 : (q 0 : ℕ) = t.val * 512 + y 0) (e1 : (q 1 : ℕ) = y 1) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = arrKm m c q := by
  have hy : y = ix2 (y 0) (q 1) := by funext a; fin_cases a; exacts [rfl, Fin.ext e1.symm]
  rw [hy]
  exact atKm m c t (y 0) (q 0) e0 (q 1)

/-- The sixth result array after the run. -/
theorem arr19_eq : (dats m 0 c).arrAt 19 cfg0.N = arrKm m c := by
  refine (dats m 0 c).arrAt_eq_of_covers 19 (arrKm m c) (by decide +kernel) fun t _ y => ?_
  blk_simp
  rw [after0_19]
  refine getKm m c t y _ ?_ ?_ <;> blk_simp [idx19 t] <;> try omega

theorem getVm (t : Fin cfg0.N) (y : S512x512.Idx) (q : S32768x512.Idx) (e0 : (q 0 : ℕ) = t.val * 512 + y 0) (e1 : (q 1 : ℕ) = y 1) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = arrVm m c q := by
  have hy : y = ix2 (y 0) (q 1) := by funext a; fin_cases a; exacts [rfl, Fin.ext e1.symm]
  rw [hy]
  exact atVm m c t (y 0) (q 0) e0 (q 1)

/-- The seventh result array after the run. -/
theorem arr20_eq : (dats m 0 c).arrAt 20 cfg0.N = arrVm m c := by
  refine (dats m 0 c).arrAt_eq_of_covers 20 (arrVm m c) (by decide +kernel) fun t _ y => ?_
  blk_simp
  rw [after0_20]
  refine getVm m c t y _ ?_ ?_ <;> blk_simp [idx20 t] <;> try omega

theorem getU (t : Fin cfg0.N) (y : S512x256.Idx) (q : S32768x256.Idx) (e0 : (q 0 : ℕ) = t.val * 512 + y 0) (e1 : (q 1 : ℕ) = y 1) :
    out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = arrU m c q := by
  have hy : y = ix2 (y 0) (q 1) := by funext a; fin_cases a; exacts [rfl, Fin.ext e1.symm]
  rw [hy]
  exact atU m c t (y 0) (q 0) e0 (q 1)

/-- The eighth result array after the run. -/
theorem arr21_eq : (dats m 0 c).arrAt 21 cfg0.N = arrU m c := by
  refine (dats m 0 c).arrAt_eq_of_covers 21 (arrU m c) (by decide +kernel) fun t _ y => ?_
  blk_simp
  rw [after0_21]
  refine getU m c t y _ ?_ ?_ <;> blk_simp [idx21 t] <;> try omega

theorem getN (t : Fin cfg0.N) (y : S512x256.Idx) (q : S32768x256.Idx) (e0 : (q 0 : ℕ) = t.val * 512 + y 0) (e1 : (q 1 : ℕ) = y 1) :
    out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = arrN m c q := by
  have hy : y = ix2 (y 0) (q 1) := by funext a; fin_cases a; exacts [rfl, Fin.ext e1.symm]
  rw [hy]
  exact atN m c t (y 0) (q 0) e0 (q 1)

/-- The ninth result array after the run. -/
theorem arr22_eq : (dats m 0 c).arrAt 22 cfg0.N = arrN m c := by
  refine (dats m 0 c).arrAt_eq_of_covers 22 (arrN m c) (by decide +kernel) fun t _ y => ?_
  blk_simp
  rw [after0_22]
  refine getN m c t y _ ?_ ?_ <;> blk_simp [idx22 t] <;> try omega

end Cert.InsIdeal.Val
end
-- ==== Proof.InsRef.lean ====
/- The input projection's reference at one entry of each of its nine results. -/
module

public import proofs.«01_k».proof.Proof.InsTerm
public import proofs.«01_k».proof.Proof.Gen.InsRefIdeal.Read
public import Idealize.ShloMosaic.Lib.Pointwise

@[expose] public section

set_option maxRecDepth 16384

noncomputable section

namespace Cert.InsRefIdeal.Val

open Cert.InsRefIdeal Cert.InsRefIdeal.Read Cert.Inp Idealize.ShloMosaic Idealize.ShloMosaic.TcCoe

variable (x0 : Vec Ideal S32768x1024 .f32) (x1 : Vec Ideal S1x1024 .f32) (x2 x3 : Vec Ideal S4x1x1024 .f32) (x4 : Vec Ideal S1024x1920 .bf16)
  (x5 x6 : Vec Ideal S8192x256 .f32) (x7 x8 : Vec Ideal S8192x128 .f32) (x9 : Vec Ideal S1x256 .f32) (x10 : Vec Ideal S1x128 .f32)
  (x11 : Vec Ideal S256x512 .bf16) (x12 x13 : Vec Ideal S128x512 .bf16)
variable (s : Fin 32768)

/-- The place of a token in its batch. -/
def pos (s : Fin 32768) : Fin 8192 := ⟨(s : ℕ) % 8192, by omega⟩

theorem v11_at (d : Fin 1024) : val_main_v11 (F := Ideal) x0 x1 (ix2 s d)
    = nrm (Ideal.ofBits .f32 0x44800000#32) (fun d => x0 (ix2 s d)) d * x1 (ix2 0 d) := by
  pointwise [val_main_v11, val_main_v10, val_main_v9, val_main_v8, val_main_v7, val_main_v6, val_main_v5, val_main_v4, val_main_v3, val_main_v2,
    val_main_v1, val_main_v0, val_main_cst, val_main_cst_0, val_main_cst_1, nrm, ep]

theorem v18_at (b : Fin 4) (n : Fin 8192) (hs : (s : ℕ) = b * 8192 + n) (d : Fin 1024) :
    val_main_v18 (F := Ideal) x0 x1 x2 x3 (ix3 b n d)
      = axr (fun d => x0 (ix2 s d)) (fun d => x1 (ix2 0 d)) (fun d => x2 (ix3 b 0 d)) (fun d => x3 (ix3 b 0 d)) d := by
  unfold axr
  rw [← v11_at]
  have lt : (b : ℕ) * 8192 + n < 32768 := by omega
  obtain rfl : s = ⟨(b : ℕ) * 8192 + n, lt⟩ := Fin.ext hs
  unfold val_main_v18 val_main_v16 val_main_v12
  generalize val_main_v11 (F := Ideal) x0 x1 = u
  pointwise [val_main_v13, val_main_v14, val_main_v15, val_main_v17, val_main_cst_2]

theorem v19_at (b : Fin 4) (n : Fin 8192) (hs : (s : ℕ) = b * 8192 + n) (d : Fin 1024) :
    val_main_v19 (F := Ideal) x0 x1 x2 x3 (ix2 s d)
      = axr (fun d => x0 (ix2 s d)) (fun d => x1 (ix2 0 d)) (fun d => x2 (ix3 b 0 d)) (fun d => x3 (ix3 b 0 d)) d := by
  rw [← v18_at x0 x1 x2 x3 s b n hs, val_main_v19_apply]
  refine congrArg _ (funext fun a => ?_)
  have hj := d.isLt
  fin_cases a
  · exact Fin.ext (by show ((s : ℕ) * 1024 + (d : ℕ)) / 8388608 = b; omega)
  · exact Fin.ext (by show ((s : ℕ) * 1024 + (d : ℕ)) / 1024 % 8192 = n; omega)
  · exact Fin.ext (by show ((s : ℕ) * 1024 + (d : ℕ)) % 1024 = d; omega)

/-- A row of the projection. -/
theorem v21_at (b : Fin 4) (n : Fin 8192) (hs : (s : ℕ) = b * 8192 + n) :
    (fun q => val_main_v21 (F := Ideal) x0 x1 x2 x3 x4 (ix2 s q))
      = zrow (fun d => x0 (ix2 s d)) (fun d => x1 (ix2 0 d)) (fun d => x2 (ix3 b 0 d)) (fun d => x3 (ix3 b 0 d)) (fun d q => x4 (ix2 d q)) := by
  funext q
  unfold zrow
  simp only [← v19_at x0 x1 x2 x3 s b n hs]
  unfold val_main_v21
  generalize val_main_v19 (F := Ideal) x0 x1 x2 x3 = u
  pointwise [val_main_v20]

/-! ## The tables -/

theorem cw_at (j : Fin 256) : val_main_v33 (F := Ideal) x5 (ix2 s j) = x5 (ix2 (pos s) j) := by
  pointwise [val_main_v33, val_main_v32, val_main_v31, pos]
theorem sw_at (j : Fin 256) : val_main_v36 (F := Ideal) x6 (ix2 s j) = x6 (ix2 (pos s) j) := by
  pointwise [val_main_v36, val_main_v35, val_main_v34, pos]
theorem cm_at (j : Fin 128) : val_main_v39 (F := Ideal) x7 (ix2 s j) = x7 (ix2 (pos s) j) := by
  pointwise [val_main_v39, val_main_v38, val_main_v37, pos]
theorem sm_at (j : Fin 128) : val_main_v42 (F := Ideal) x8 (ix2 s j) = x8 (ix2 (pos s) j) := by
  pointwise [val_main_v42, val_main_v41, val_main_v40, pos]
theorem cm4_at (h : Fin 4) (l : Fin 128) : val_main_v87 (F := Ideal) x7 (ix2 s (lane h l)) = x7 (ix2 (pos s) l) := by
  rw [← cm_at x7]
  unfold val_main_v87 val_main_v86 val_main_v85
  generalize val_main_v39 (F := Ideal) x7 = u
  pointwise [lane]
theorem sm4_at (h : Fin 4) (l : Fin 128) : val_main_v90 (F := Ideal) x8 (ix2 s (lane h l)) = x8 (ix2 (pos s) l) := by
  rw [← sm_at x8]
  unfold val_main_v90 val_main_v89 val_main_v88
  generalize val_main_v42 (F := Ideal) x8 = u
  pointwise [lane]

/-! ## The swap of each pair -/

theorem swq_at (j : Fin 256) : val_main_v51 (F := Ideal) x0 x1 x2 x3 x4 (ix2 s j) = val_main_v23 (F := Ideal) x0 x1 x2 x3 x4 (ix2 s (pt256 j)) := by
  unfold val_main_v51 val_main_v50 val_main_v49 val_main_v48 val_main_v47 val_main_v46 val_main_v45 val_main_v44 val_main_v43
  generalize val_main_v23 (F := Ideal) x0 x1 x2 x3 x4 = u
  pointwise []
  split <;> exact congrArg u (congrArg (ix2 s) (Fin.ext (by rw [pt256_val]; simp only; omega)))

theorem swk_at (j : Fin 128) : val_main_v67 (F := Ideal) x0 x1 x2 x3 x4 (ix2 s j) = val_main_v24 (F := Ideal) x0 x1 x2 x3 x4 (ix2 s (pt128 j)) := by
  unfold val_main_v67 val_main_v66 val_main_v65 val_main_v64 val_main_v63 val_main_v62 val_main_v61 val_main_v60 val_main_v59
  generalize val_main_v24 (F := Ideal) x0 x1 x2 x3 x4 = u
  pointwise []
  split <;> exact congrArg u (congrArg (ix2 s) (Fin.ext (by rw [pt128_val]; simp only; omega)))

theorem swr_at (j : Fin 128) : val_main_v127 (F := Ideal) x0 x1 x2 x3 x4 (ix2 s j) = val_main_v28 (F := Ideal) x0 x1 x2 x3 x4 (ix2 s (pt128 j)) := by
  unfold val_main_v127 val_main_v126 val_main_v125 val_main_v124 val_main_v123 val_main_v122 val_main_v121 val_main_v120 val_main_v119
  generalize val_main_v28 (F := Ideal) x0 x1 x2 x3 x4 = u
  pointwise []
  split <;> exact congrArg u (congrArg (ix2 s) (Fin.ext (by rw [pt128_val]; simp only; omega)))

theorem swm_at (h : Fin 4) (l : Fin 128) : val_main_v99 (F := Ideal) x0 x1 x2 x3 x4 x9 x11 (ix2 s (lane h l)) = val_main_v84 (F := Ideal) x0 x1 x2 x3 x4 x9 x11 (ix2 s (lane h (pt128 l))) := by
  unfold val_main_v99 val_main_v98 val_main_v97 val_main_v96 val_main_v95 val_main_v94 val_main_v93 val_main_v92 val_main_v91
  generalize val_main_v84 (F := Ideal) x0 x1 x2 x3 x4 x9 x11 = u
  pointwise [lane]
  split <;> exact congrArg u (congrArg (ix2 s) (Fin.ext (by simp only [pt128_val]; omega)))

/-! ## The results -/

/-- A token's projected row. -/
abbrev Z (q : Fin 1920) : EReal := val_main_v21 (F := Ideal) x0 x1 x2 x3 x4 (ix2 s q)

theorem v22_at (j : Fin 256) : val_main_v22 (F := Ideal) x0 x1 x2 x3 x4 (ix2 s j) = Z x0 x1 x2 x3 x4 s ⟨j, by omega⟩ := by
  unfold Z val_main_v22
  generalize val_main_v21 (F := Ideal) x0 x1 x2 x3 x4 = u
  pointwise []
theorem v23_at (j : Fin 256) : val_main_v23 (F := Ideal) x0 x1 x2 x3 x4 (ix2 s j) = Z x0 x1 x2 x3 x4 s ⟨256 + j, by omega⟩ := by
  unfold Z val_main_v23
  generalize val_main_v21 (F := Ideal) x0 x1 x2 x3 x4 = u
  pointwise []
theorem v24_at (j : Fin 128) : val_main_v24 (F := Ideal) x0 x1 x2 x3 x4 (ix2 s j) = Z x0 x1 x2 x3 x4 s ⟨512 + j, by omega⟩ := by
  unfold Z val_main_v24
  generalize val_main_v21 (F := Ideal) x0 x1 x2 x3 x4 = u
  pointwise []
theorem v25_at (j : Fin 256) : val_main_v25 (F := Ideal) x0 x1 x2 x3 x4 (ix2 s j) = Z x0 x1 x2 x3 x4 s ⟨640 + j, by omega⟩ := by
  unfold Z val_main_v25
  generalize val_main_v21 (F := Ideal) x0 x1 x2 x3 x4 = u
  pointwise []
theorem v26_at (j : Fin 256) : val_main_v26 (F := Ideal) x0 x1 x2 x3 x4 (ix2 s j) = Z x0 x1 x2 x3 x4 s ⟨896 + j, by omega⟩ := by
  unfold Z val_main_v26
  generalize val_main_v21 (F := Ideal) x0 x1 x2 x3 x4 = u
  pointwise []
theorem v27_at (j : Fin 128) : val_main_v27 (F := Ideal) x0 x1 x2 x3 x4 (ix2 s j) = Z x0 x1 x2 x3 x4 s ⟨1152 + j, by omega⟩ := by
  unfold Z val_main_v27
  generalize val_main_v21 (F := Ideal) x0 x1 x2 x3 x4 = u
  pointwise []
theorem v28_at (j : Fin 128) : val_main_v28 (F := Ideal) x0 x1 x2 x3 x4 (ix2 s j) = Z x0 x1 x2 x3 x4 s ⟨1280 + j, by omega⟩ := by
  unfold Z val_main_v28
  generalize val_main_v21 (F := Ideal) x0 x1 x2 x3 x4 = u
  pointwise []
theorem v29_at (j : Fin 256) : val_main_v29 (F := Ideal) x0 x1 x2 x3 x4 (ix2 s j) = Z x0 x1 x2 x3 x4 s ⟨1408 + j, by omega⟩ := by
  unfold Z val_main_v29
  generalize val_main_v21 (F := Ideal) x0 x1 x2 x3 x4 = u
  pointwise []
theorem v30_at (j : Fin 256) : val_main_v30 (F := Ideal) x0 x1 x2 x3 x4 (ix2 s j) = Z x0 x1 x2 x3 x4 s ⟨1664 + j, by omega⟩ := by
  unfold Z val_main_v30
  generalize val_main_v21 (F := Ideal) x0 x1 x2 x3 x4 = u
  pointwise []

theorem refA (j : Fin 256) : val_main_v181 (F := Ideal) x0 x1 x2 x3 x4 (ix2 s j) = oA (Z x0 x1 x2 x3 x4 s) j := by
  unfold oA
  rw [← v22_at]
  unfold val_main_v181
  generalize val_main_v22 (F := Ideal) x0 x1 x2 x3 x4 = u
  pointwise []

theorem v182_at (j : Fin 256) : val_main_v182 (F := Ideal) x0 x1 x2 x3 x4 x5 x6 (ix2 s j)
    = (val_main_v23 (F := Ideal) x0 x1 x2 x3 x4 (ix2 s j) * val_main_v33 (F := Ideal) x5 (ix2 s j) + val_main_v51 (F := Ideal) x0 x1 x2 x3 x4 (ix2 s j) * val_main_v36 (F := Ideal) x6 (ix2 s j)) * Ideal.ofBits .f32 0x3E38AA3B#32 := by
  unfold val_main_v182 val_main_v56 val_main_v54 val_main_v53 val_main_v52
  generalize val_main_v51 (F := Ideal) x0 x1 x2 x3 x4 = t0
  generalize val_main_v23 (F := Ideal) x0 x1 x2 x3 x4 = t1
  generalize val_main_v33 (F := Ideal) x5 = t2
  generalize val_main_v36 (F := Ideal) x6 = t3
  pointwise [val_main_v55, val_main_cst_3]

theorem refQ (j : Fin 256) : val_main_v182 (F := Ideal) x0 x1 x2 x3 x4 x5 x6 (ix2 s j)
    = oQ (Z x0 x1 x2 x3 x4 s) (fun j => x5 (ix2 (pos s) j)) (fun j => x6 (ix2 (pos s) j)) j := by
  rw [v182_at, swq_at, cw_at, sw_at, v23_at, v23_at]
  rfl

theorem v183_at (j : Fin 128) : val_main_v183 (F := Ideal) x0 x1 x2 x3 x4 x5 x6 (ix2 s j)
    = val_main_v24 (F := Ideal) x0 x1 x2 x3 x4 (ix2 s j) * val_main_v33 (F := Ideal) x5 (ix2 s ⟨j, by omega⟩) + val_main_v67 (F := Ideal) x0 x1 x2 x3 x4 (ix2 s j) * val_main_v36 (F := Ideal) x6 (ix2 s ⟨j, by omega⟩) := by
  unfold val_main_v183 val_main_v70 val_main_v69 val_main_v68 val_main_v58 val_main_v57
  generalize val_main_v67 (F := Ideal) x0 x1 x2 x3 x4 = t0
  generalize val_main_v24 (F := Ideal) x0 x1 x2 x3 x4 = t1
  generalize val_main_v33 (F := Ideal) x5 = t2
  generalize val_main_v36 (F := Ideal) x6 = t3
  pointwise []

theorem refK (j : Fin 128) : val_main_v183 (F := Ideal) x0 x1 x2 x3 x4 x5 x6 (ix2 s j)
    = oK (Z x0 x1 x2 x3 x4 s) (fun j => x5 (ix2 (pos s) j)) (fun j => x6 (ix2 (pos s) j)) j := by
  rw [v183_at, swk_at, cw_at, sw_at, v24_at, v24_at]
  rfl

theorem v82_at (j : Fin 256) : val_main_v82 (F := Ideal) x0 x1 x2 x3 x4 x9 (ix2 s j)
    = nrm (Ideal.ofBits .f32 0x43800000#32) (fun j => val_main_v26 (F := Ideal) x0 x1 x2 x3 x4 (ix2 s j)) j * x9 (ix2 0 j) := by
  unfold val_main_v82 val_main_v80 val_main_v79 val_main_v78 val_main_v77 val_main_v75 val_main_v73 val_main_v72 val_main_v71
  generalize val_main_v26 (F := Ideal) x0 x1 x2 x3 x4 = t0
  pointwise [val_main_v81, val_main_v76, val_main_v74, val_main_cst_4, val_main_cst_5, val_main_cst_6, nrm, ep]

theorem lq_at (j : Fin 256) : val_main_v82 (F := Ideal) x0 x1 x2 x3 x4 x9 (ix2 s j) = lq (Z x0 x1 x2 x3 x4 s) (fun j => x9 (ix2 0 j)) j := by
  rw [v82_at]
  simp only [v26_at]
  rfl

theorem v84_at (j : Fin 512) : val_main_v84 (F := Ideal) x0 x1 x2 x3 x4 x9 x11 (ix2 s j) = thr (fun k => val_main_v82 (F := Ideal) x0 x1 x2 x3 x4 x9 (ix2 s k)) (fun k j => x11 (ix2 k j)) j := by
  unfold val_main_v84
  generalize val_main_v82 (F := Ideal) x0 x1 x2 x3 x4 x9 = u
  pointwise [val_main_v83, thr]

theorem v185_at (h : Fin 4) (l : Fin 128) : val_main_v185 (F := Ideal) x0 x1 x2 x3 x4 x7 x8 x9 x11 (ix2 s (lane h l))
    = (val_main_v84 (F := Ideal) x0 x1 x2 x3 x4 x9 x11 (ix2 s (lane h l)) * val_main_v87 (F := Ideal) x7 (ix2 s (lane h l)) + val_main_v99 (F := Ideal) x0 x1 x2 x3 x4 x9 x11 (ix2 s (lane h l)) * val_main_v90 (F := Ideal) x8 (ix2 s (lane h l))) * Ideal.ofBits .f32 0x3E16C740#32 := by
  unfold val_main_v185 val_main_v104 val_main_v102 val_main_v101 val_main_v100
  generalize val_main_v99 (F := Ideal) x0 x1 x2 x3 x4 x9 x11 = t0
  generalize val_main_v84 (F := Ideal) x0 x1 x2 x3 x4 x9 x11 = t1
  generalize val_main_v87 (F := Ideal) x7 = t2
  generalize val_main_v90 (F := Ideal) x8 = t3
  pointwise [val_main_v103, val_main_cst_7]

theorem refQm (h : Fin 4) (l : Fin 128) : val_main_v185 (F := Ideal) x0 x1 x2 x3 x4 x7 x8 x9 x11 (ix2 s (lane h l))
    = oQm (Z x0 x1 x2 x3 x4 s) (fun j => x9 (ix2 0 j)) (fun k j => x11 (ix2 k j)) (fun j => x7 (ix2 (pos s) j)) (fun j => x8 (ix2 (pos s) j)) h l := by
  rw [v185_at, swm_at, cm4_at, sm4_at, v84_at, v84_at]
  simp only [lq_at]
  rfl

theorem v116_at (j : Fin 128) : val_main_v116 (F := Ideal) x0 x1 x2 x3 x4 x10 (ix2 s j)
    = nrm (Ideal.ofBits .f32 0x43000000#32) (fun j => val_main_v27 (F := Ideal) x0 x1 x2 x3 x4 (ix2 s j)) j * x10 (ix2 0 j) := by
  unfold val_main_v116 val_main_v114 val_main_v113 val_main_v112 val_main_v111 val_main_v109 val_main_v107 val_main_v106 val_main_v105
  generalize val_main_v27 (F := Ideal) x0 x1 x2 x3 x4 = t0
  pointwise [val_main_v115, val_main_v110, val_main_v108, val_main_cst_8, val_main_cst_9, val_main_cst_10, nrm, ep]

theorem lkv_at (j : Fin 128) : val_main_v116 (F := Ideal) x0 x1 x2 x3 x4 x10 (ix2 s j) = lkv (Z x0 x1 x2 x3 x4 s) (fun j => x10 (ix2 0 j)) j := by
  rw [v116_at]
  simp only [v27_at]
  rfl

theorem v118_at (j : Fin 512) : val_main_v118 (F := Ideal) x0 x1 x2 x3 x4 x10 x12 (ix2 s j) = thr (fun k => val_main_v116 (F := Ideal) x0 x1 x2 x3 x4 x10 (ix2 s k)) (fun k j => x12 (ix2 k j)) j := by
  unfold val_main_v118
  generalize val_main_v116 (F := Ideal) x0 x1 x2 x3 x4 x10 = u
  pointwise [val_main_v117, thr]

theorem v166_at (j : Fin 512) : val_main_v166 (F := Ideal) x0 x1 x2 x3 x4 x10 x13 (ix2 s j) = thr (fun k => val_main_v116 (F := Ideal) x0 x1 x2 x3 x4 x10 (ix2 s k)) (fun k j => x13 (ix2 k j)) j := by
  unfold val_main_v166
  generalize val_main_v116 (F := Ideal) x0 x1 x2 x3 x4 x10 = u
  pointwise [val_main_v165, thr]

theorem v130_at (j : Fin 128) : val_main_v130 (F := Ideal) x0 x1 x2 x3 x4 x7 x8 (ix2 s j)
    = val_main_v28 (F := Ideal) x0 x1 x2 x3 x4 (ix2 s j) * val_main_v39 (F := Ideal) x7 (ix2 s j) + val_main_v127 (F := Ideal) x0 x1 x2 x3 x4 (ix2 s j) * val_main_v42 (F := Ideal) x8 (ix2 s j) := by
  unfold val_main_v130 val_main_v129 val_main_v128
  generalize val_main_v127 (F := Ideal) x0 x1 x2 x3 x4 = t0
  generalize val_main_v28 (F := Ideal) x0 x1 x2 x3 x4 = t1
  generalize val_main_v39 (F := Ideal) x7 = t2
  generalize val_main_v42 (F := Ideal) x8 = t3
  pointwise []

theorem v186_at (h : Fin 4) (l : Fin 128) : val_main_v186 (F := Ideal) x0 x1 x2 x3 x4 x7 x8 x10 x12 (ix2 s (lane h l))
    = val_main_v118 (F := Ideal) x0 x1 x2 x3 x4 x10 x12 (ix2 s (lane h l)) + val_main_v130 (F := Ideal) x0 x1 x2 x3 x4 x7 x8 (ix2 s l) := by
  unfold val_main_v186 val_main_v134 val_main_v133 val_main_v132 val_main_v131
  generalize val_main_v118 (F := Ideal) x0 x1 x2 x3 x4 x10 x12 = t0
  generalize val_main_v130 (F := Ideal) x0 x1 x2 x3 x4 x7 x8 = t1
  pointwise [lane]

theorem refKm (h : Fin 4) (l : Fin 128) : val_main_v186 (F := Ideal) x0 x1 x2 x3 x4 x7 x8 x10 x12 (ix2 s (lane h l))
    = oKm (Z x0 x1 x2 x3 x4 s) (fun j => x10 (ix2 0 j)) (fun k j => x12 (ix2 k j)) (fun j => x7 (ix2 (pos s) j)) (fun j => x8 (ix2 (pos s) j)) h l := by
  rw [v186_at, v130_at, swr_at, cm_at, sm_at, v28_at, v28_at, v118_at]
  simp only [lkv_at]
  rfl

/-- The lanes 64. -/
theorem is64 : ∀ j : Fin 128, IntOp.cmpi CmpIPredicate.eq (BitVec.ofNat 32 j) 64#32 = if (j : ℕ) = 64 then 1#1 else 0#1 := by decide +kernel

theorem sel64 {α : Type} (k : ℕ) (hk : k < 128) (a b : α) :
    Scalar.select (IntOp.cmpi CmpIPredicate.eq (BitVec.ofNat 32 k) 64#32) a b = if k = 64 then a else b := by
  rw [is64 ⟨k, hk⟩]
  show Scalar.select (if k = 64 then 1#1 else 0#1) a b = _
  split <;> rfl

theorem v184_at_one (i : S_.Idx) : val_main_call0_v0 (F := Ideal) i = 1 := by
  show val_main_cst_19 (F := Ideal) i = 1
  obtain rfl : i = ix0 := funext fun a => a.elim0
  pointwise [val_main_cst_19]

theorem v184_at (j : Fin 256) : val_main_v184 (F := Ideal) x0 x1 x2 x3 x4 (ix2 s j) = if (j : ℕ) % 128 = 64 then 1 else val_main_v25 (F := Ideal) x0 x1 x2 x3 x4 (ix2 s j) := by
  rw [← sel64 _ (Nat.mod_lt _ (by decide))]
  unfold val_main_v184 val_main_v164 val_main_v163 val_main_v162
  generalize val_main_v25 (F := Ideal) x0 x1 x2 x3 x4 = u
  pointwise [val_main_call0_v1, val_main_call0_v2, val_main_v161, val_main_v160, val_main_v159, val_main_c]
  rw [v184_at_one]

theorem v187_at_one (i : S_.Idx) : val_main_call1_v0 (F := Ideal) i = 1 := by
  show val_main_cst_21 (F := Ideal) i = 1
  obtain rfl : i = ix0 := funext fun a => a.elim0
  pointwise [val_main_cst_21]

theorem v187_at (j : Fin 512) : val_main_v187 (F := Ideal) x0 x1 x2 x3 x4 x10 x13 (ix2 s j) = if (j : ℕ) % 128 = 64 then 1 else val_main_v166 (F := Ideal) x0 x1 x2 x3 x4 x10 x13 (ix2 s j) := by
  rw [← sel64 _ (Nat.mod_lt _ (by decide))]
  unfold val_main_v187 val_main_v172 val_main_v171 val_main_v170
  generalize val_main_v166 (F := Ideal) x0 x1 x2 x3 x4 x10 x13 = u
  pointwise [val_main_call1_v1, val_main_call1_v2, val_main_v169, val_main_v168, val_main_v167, val_main_c_20]
  rw [v187_at_one]

theorem refV (j : Fin 256) : val_main_v184 (F := Ideal) x0 x1 x2 x3 x4 (ix2 s j) = oV (Z x0 x1 x2 x3 x4 s) j := by
  rw [v184_at, v25_at]
  rfl

theorem refVm (j : Fin 512) : val_main_v187 (F := Ideal) x0 x1 x2 x3 x4 x10 x13 (ix2 s j)
    = oVm (Z x0 x1 x2 x3 x4 s) (fun j => x10 (ix2 0 j)) (fun k j => x13 (ix2 k j)) j := by
  rw [v187_at, v166_at]
  simp only [lkv_at]
  rfl

theorem v188_at (j : Fin 256) : val_main_v188 (F := Ideal) x0 x1 x2 x3 x4 (ix2 s j)
    = gel (val_main_v29 (F := Ideal) x0 x1 x2 x3 x4 (ix2 s j)) := by
  unfold val_main_v188 val_main_v180 val_main_v179 val_main_v177 val_main_v176 val_main_v174
  generalize val_main_v29 (F := Ideal) x0 x1 x2 x3 x4 = t0
  pointwise [val_main_v178, val_main_v175, val_main_v173, val_main_cst_22, val_main_cst_23, val_main_cst_24, gel]
  rfl

theorem v142_at (j : Fin 256) : val_main_v142 (F := Ideal) x0 x1 x2 x3 x4 (ix2 s j)
    = gel (val_main_v30 (F := Ideal) x0 x1 x2 x3 x4 (ix2 s j)) := by
  unfold val_main_v142 val_main_v141 val_main_v139 val_main_v138 val_main_v136
  generalize val_main_v30 (F := Ideal) x0 x1 x2 x3 x4 = t0
  pointwise [val_main_v140, val_main_v137, val_main_v135, val_main_cst_11, val_main_cst_12, val_main_cst_13, gel]
  rfl

theorem v189_at (j : Fin 256) : val_main_v189 (F := Ideal) x0 x1 x2 x3 x4 (ix2 s j)
    = nrm (Ideal.ofBits .f32 0x43800000#32) (cen fun j => val_main_v142 (F := Ideal) x0 x1 x2 x3 x4 (ix2 s j)) j := by
  unfold val_main_v189 val_main_v158 val_main_v157 val_main_v156 val_main_v155 val_main_v154 val_main_v153 val_main_v152 val_main_v151 val_main_v150 val_main_v149 val_main_v148 val_main_v147 val_main_v146 val_main_v145 val_main_v144 val_main_v143
  generalize val_main_v142 (F := Ideal) x0 x1 x2 x3 x4 = t0
  pointwise [val_main_cst_14, val_main_cst_15, val_main_cst_16, val_main_cst_17, val_main_cst_18, nrm, cen, ep]

theorem refU (j : Fin 256) : val_main_v188 (F := Ideal) x0 x1 x2 x3 x4 (ix2 s j) = oU (Z x0 x1 x2 x3 x4 s) j := by
  rw [v188_at, v29_at]
  rfl

theorem refN (j : Fin 256) : val_main_v189 (F := Ideal) x0 x1 x2 x3 x4 (ix2 s j) = oN (Z x0 x1 x2 x3 x4 s) j := by
  rw [v189_at]
  simp only [v142_at, v30_at]
  rfl

end Cert.InsRefIdeal.Val
end
-- ==== Proof.InsValue.lean ====
/- The input projection kernel computes the reference's nine results at the ideal values. -/
module

public import proofs.«01_k».proof.Proof.InsOut
public import proofs.«01_k».proof.Proof.InsRef
public import proofs.«01_k».proof.Proof.Gen.InsRefIdeal.Run
public import proofs.«01_k».proof.Defs

@[expose] public section

set_option maxRecDepth 16384

noncomputable section

namespace Cert.InsIdeal.Val

open Idealize.ShloMosaic Idealize.ShloMosaic.TcCoe Idealize.SL.Sem Cert.InsIdeal Cert.InsIdeal.Gen Cert.Inp Idealize.ShloMosaic.StableHlo

variable (m : (ℓ : Loc nD τ sig) → Buf (Elt Ideal) ℓ) (c : Dev nD)

theorem split_tok (s : Fin 32768) : (s : ℕ) = (bat s : ℕ) * 8192 + (plc s : ℕ) := by
  show (s : ℕ) = s / 8192 * 8192 + s % 8192
  omega

/-- The two projected rows agree. -/
theorem Z_eq (s : Fin 32768) : Cert.InsRefIdeal.Val.Z (Ha m c) (Ga m c) (Sh m c) (Sc m c) (Wa m c) s = ZS m c s :=
  Cert.InsRefIdeal.Val.v21_at _ _ _ _ _ s (bat s) (plc s) (split_tok s)

/-- The two closed forms of the first result agree. -/
theorem arrA_eq_ref : arrA m c = Cert.InsRefIdeal.Read.val_main_v181 (F := Ideal) (Ha m c) (Ga m c) (Sh m c) (Sc m c) (Wa m c) := by
  funext i
  obtain ⟨s, j, rfl⟩ : ∃ (s : Fin 32768) (j : Fin 256), i = ix2 s j := ⟨i 0, i 1, by funext a; fin_cases a <;> rfl⟩
  rw [Cert.InsRefIdeal.Val.refA, Z_eq]
  rfl

/-- The two closed forms of the second result agree. -/
theorem arrQ_eq_ref : arrQ m c = Cert.InsRefIdeal.Read.val_main_v182 (F := Ideal) (Ha m c) (Ga m c) (Sh m c) (Sc m c) (Wa m c) (Cw m c) (Sw m c) := by
  funext i
  obtain ⟨s, j, rfl⟩ : ∃ (s : Fin 32768) (j : Fin 256), i = ix2 s j := ⟨i 0, i 1, by funext a; fin_cases a <;> rfl⟩
  rw [Cert.InsRefIdeal.Val.refQ, Z_eq]
  rfl

/-- The two closed forms of the third result agree. -/
theorem arrK_eq_ref : arrK m c = Cert.InsRefIdeal.Read.val_main_v183 (F := Ideal) (Ha m c) (Ga m c) (Sh m c) (Sc m c) (Wa m c) (Cw m c) (Sw m c) := by
  funext i
  obtain ⟨s, j, rfl⟩ : ∃ (s : Fin 32768) (j : Fin 128), i = ix2 s j := ⟨i 0, i 1, by funext a; fin_cases a <;> rfl⟩
  rw [Cert.InsRefIdeal.Val.refK, Z_eq]
  rfl

/-- The two closed forms of the fourth result agree. -/
theorem arrV_eq_ref : arrV m c = Cert.InsRefIdeal.Read.val_main_v184 (F := Ideal) (Ha m c) (Ga m c) (Sh m c) (Sc m c) (Wa m c) := by
  funext i
  obtain ⟨s, j, rfl⟩ : ∃ (s : Fin 32768) (j : Fin 256), i = ix2 s j := ⟨i 0, i 1, by funext a; fin_cases a <;> rfl⟩
  rw [Cert.InsRefIdeal.Val.refV, Z_eq]
  rfl

/-- The two closed forms of the fifth result agree. -/
theorem arrQm_eq_ref : arrQm m c = Cert.InsRefIdeal.Read.val_main_v185 (F := Ideal) (Ha m c) (Ga m c) (Sh m c) (Sc m c) (Wa m c) (Cm m c) (Sm m c) (Gq m c) (Wq m c) := by
  funext i
  obtain ⟨s, j, rfl⟩ : ∃ (s : Fin 32768) (j : Fin 512), i = ix2 s j := ⟨i 0, i 1, by funext a; fin_cases a <;> rfl⟩
  refine Eq.trans ?_ (congrArg (fun j => Cert.InsRefIdeal.Read.val_main_v185 (F := Ideal) (Ha m c) (Ga m c) (Sh m c) (Sc m c) (Wa m c) (Cm m c) (Sm m c) (Gq m c) (Wq m c) (ix2 s j)) (lane_split j))
  show _ = Cert.InsRefIdeal.Read.val_main_v185 (F := Ideal) (Ha m c) (Ga m c) (Sh m c) (Sc m c) (Wa m c) (Cm m c) (Sm m c) (Gq m c) (Wq m c) (ix2 s (lane (hd j) (ln j)))
  rw [Cert.InsRefIdeal.Val.refQm, Z_eq]
  rfl

/-- The two closed forms of the sixth result agree. -/
theorem arrKm_eq_ref : arrKm m c = Cert.InsRefIdeal.Read.val_main_v186 (F := Ideal) (Ha m c) (Ga m c) (Sh m c) (Sc m c) (Wa m c) (Cm m c) (Sm m c) (Gk m c) (Wk m c) := by
  funext i
  obtain ⟨s, j, rfl⟩ : ∃ (s : Fin 32768) (j : Fin 512), i = ix2 s j := ⟨i 0, i 1, by funext a; fin_cases a <;> rfl⟩
  refine Eq.trans ?_ (congrArg (fun j => Cert.InsRefIdeal.Read.val_main_v186 (F := Ideal) (Ha m c) (Ga m c) (Sh m c) (Sc m c) (Wa m c) (Cm m c) (Sm m c) (Gk m c) (Wk m c) (ix2 s j)) (lane_split j))
  show _ = Cert.InsRefIdeal.Read.val_main_v186 (F := Ideal) (Ha m c) (Ga m c) (Sh m c) (Sc m c) (Wa m c) (Cm m c) (Sm m c) (Gk m c) (Wk m c) (ix2 s (lane (hd j) (ln j)))
  rw [Cert.InsRefIdeal.Val.refKm, Z_eq]
  rfl

/-- The two closed forms of the seventh result agree. -/
theorem arrVm_eq_ref : arrVm m c = Cert.InsRefIdeal.Read.val_main_v187 (F := Ideal) (Ha m c) (Ga m c) (Sh m c) (Sc m c) (Wa m c) (Gk m c) (Wv m c) := by
  funext i
  obtain ⟨s, j, rfl⟩ : ∃ (s : Fin 32768) (j : Fin 512), i = ix2 s j := ⟨i 0, i 1, by funext a; fin_cases a <;> rfl⟩
  rw [Cert.InsRefIdeal.Val.refVm, Z_eq]
  rfl

/-- The two closed forms of the eighth result agree. -/
theorem arrU_eq_ref : arrU m c = Cert.InsRefIdeal.Read.val_main_v188 (F := Ideal) (Ha m c) (Ga m c) (Sh m c) (Sc m c) (Wa m c) := by
  funext i
  obtain ⟨s, j, rfl⟩ : ∃ (s : Fin 32768) (j : Fin 256), i = ix2 s j := ⟨i 0, i 1, by funext a; fin_cases a <;> rfl⟩
  rw [Cert.InsRefIdeal.Val.refU, Z_eq]
  rfl

/-- The two closed forms of the ninth result agree. -/
theorem arrN_eq_ref : arrN m c = Cert.InsRefIdeal.Read.val_main_v189 (F := Ideal) (Ha m c) (Ga m c) (Sh m c) (Sc m c) (Wa m c) := by
  funext i
  obtain ⟨s, j, rfl⟩ : ∃ (s : Fin 32768) (j : Fin 256), i = ix2 s j := ⟨i 0, i 1, by funext a; fin_cases a <;> rfl⟩
  rw [Cert.InsRefIdeal.Val.refN, Z_eq]
  rfl

/-- The claim that the kernel computes the reference's results at the ideal values. -/
theorem algebraic :
    Cert.algebraic_InsIdeal_InsRefIdeal (hInsIdeal := Cert.InsIdeal.Gen.facts) (hInsRefIdeal := Cert.InsRefIdeal.Gen.facts) := by
  intro m g m' g' _ hag
  refine ⟨fun c => arrA m c, fun c => arrQ m c, fun c => arrK m c, fun c => arrV m c, fun c => arrQm m c, fun c => arrKm m c, fun c => arrVm m c, fun c => arrU m c, fun c => arrN m c, ?_, ?_⟩
  · refine (θ_run _ _ _).mono (fun r h c => ?_) (Cert.InsIdeal.Value.run_blocks m g)
    obtain ⟨h0, h1, h2, h3, h4, h5, h6, h7, h8, ha⟩ := h c
    exact ⟨h0.trans (arr14_eq m c), h1.trans (arr15_eq m c), h2.trans (arr16_eq m c), h3.trans (arr17_eq m c), h4.trans (arr18_eq m c), h5.trans (arr19_eq m c), h6.trans (arr20_eq m c), h7.trans (arr21_eq m c), h8.trans (arr22_eq m c), ha⟩
  · refine (θ_run _ _ _).mono (fun r h c => ?_) (Cert.InsRefIdeal.Value.run (F := Ideal) m' g')
    obtain ⟨h0, h1, h2, h3, h4, h5, h6, h7, h8, ha⟩ := h c
    obtain ⟨e0, e1, e2, e3, e4, e5, e6, e7, e8, e9, e10, e11, e12, e13⟩ := hag c
    have f0 : (launchContents m' c) (Proc.devRef .tc Cert.InsRefIdeal.main_arg0) = Ha m c := e0
    have f1 : (launchContents m' c) (Proc.devRef .tc Cert.InsRefIdeal.main_arg1) = Ga m c := e1
    have f2 : (launchContents m' c) (Proc.devRef .tc Cert.InsRefIdeal.main_arg2) = Sh m c := e2
    have f3 : (launchContents m' c) (Proc.devRef .tc Cert.InsRefIdeal.main_arg3) = Sc m c := e3
    have f4 : (launchContents m' c) (Proc.devRef .tc Cert.InsRefIdeal.main_arg4) = Wa m c := e4
    have f5 : (launchContents m' c) (Proc.devRef .tc Cert.InsRefIdeal.main_arg5) = Cw m c := e5
    have f6 : (launchContents m' c) (Proc.devRef .tc Cert.InsRefIdeal.main_arg6) = Sw m c := e6
    have f7 : (launchContents m' c) (Proc.devRef .tc Cert.InsRefIdeal.main_arg7) = Cm m c := e7
    have f8 : (launchContents m' c) (Proc.devRef .tc Cert.InsRefIdeal.main_arg8) = Sm m c := e8
    have f9 : (launchContents m' c) (Proc.devRef .tc Cert.InsRefIdeal.main_arg9) = Gq m c := e9
    have f10 : (launchContents m' c) (Proc.devRef .tc Cert.InsRefIdeal.main_arg10) = Gk m c := e10
    have f11 : (launchContents m' c) (Proc.devRef .tc Cert.InsRefIdeal.main_arg11) = Wq m c := e11
    have f12 : (launchContents m' c) (Proc.devRef .tc Cert.InsRefIdeal.main_arg12) = Wk m c := e12
    have f13 : (launchContents m' c) (Proc.devRef .tc Cert.InsRefIdeal.main_arg13) = Wv m c := e13
    refine ⟨h0.trans ((Cert.InsRefIdeal.Read.val_main_v181_eq _).trans ?_), h1.trans ((Cert.InsRefIdeal.Read.val_main_v182_eq _).trans ?_), h2.trans ((Cert.InsRefIdeal.Read.val_main_v183_eq _).trans ?_), h3.trans ((Cert.InsRefIdeal.Read.val_main_v184_eq _).trans ?_), h4.trans ((Cert.InsRefIdeal.Read.val_main_v185_eq _).trans ?_), h5.trans ((Cert.InsRefIdeal.Read.val_main_v186_eq _).trans ?_), h6.trans ((Cert.InsRefIdeal.Read.val_main_v187_eq _).trans ?_), h7.trans ((Cert.InsRefIdeal.Read.val_main_v188_eq _).trans ?_), h8.trans ((Cert.InsRefIdeal.Read.val_main_v189_eq _).trans ?_), ha⟩
    · rw [f0, f1, f2, f3, f4]
      exact (arrA_eq_ref m c).symm
    · rw [f0, f1, f2, f3, f4, f5, f6]
      exact (arrQ_eq_ref m c).symm
    · rw [f0, f1, f2, f3, f4, f5, f6]
      exact (arrK_eq_ref m c).symm
    · rw [f0, f1, f2, f3, f4]
      exact (arrV_eq_ref m c).symm
    · rw [f0, f1, f2, f3, f4, f7, f8, f9, f11]
      exact (arrQm_eq_ref m c).symm
    · rw [f0, f1, f2, f3, f4, f7, f8, f10, f12]
      exact (arrKm_eq_ref m c).symm
    · rw [f0, f1, f2, f3, f4, f10, f13]
      exact (arrVm_eq_ref m c).symm
    · rw [f0, f1, f2, f3, f4]
      exact (arrU_eq_ref m c).symm
    · rw [f0, f1, f2, f3, f4]
      exact (arrN_eq_ref m c).symm

end Cert.InsIdeal.Val
end
-- ==== Proof.lean ====
/- The proof of the certificate's claim: the frames of the five kernels, of their ideal forms and of the ideal references,
   and the value claims of Proof/Value.lean (the attention), Proof/ExpertsValue.lean (the experts),
   Proof/DenseValue.lean (the dense feed-forward layer), Proof/MixedValue.lean (the output projection) and
   Proof/InsValue.lean (the input projection). -/
module

public import proofs.«01_k».proof.Defs
public import proofs.«01_k».proof.Proof.Value
public import proofs.«01_k».proof.Proof.ExpertsPre
public import proofs.«01_k».proof.Proof.ExpertsIdealPre
public import proofs.«01_k».proof.Proof.ExpertsValue
public import proofs.«01_k».proof.Proof.DenseValue
public import proofs.«01_k».proof.Proof.MixedValue
public import proofs.«01_k».proof.Proof.InsValue
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Experts
public import proofs.«01_k».proof.Proof.Gen.Experts.Flash.Runs
public import proofs.«01_k».proof.Proof.Gen.ExpertsIdeal
public import proofs.«01_k».proof.Proof.Gen.ExpertsIdeal.Flash.Runs
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.Pre_finite
public import proofs.«01_k».proof.Proof.Gen.Pre_tables
public import proofs.«01_k».proof.Proof.Gen.Dense
public import proofs.«01_k».proof.Proof.Gen.Dense.Frame
public import proofs.«01_k».proof.Proof.Gen.DenseIdeal
public import proofs.«01_k».proof.Proof.Gen.DenseIdeal.Frame
public import proofs.«01_k».proof.Proof.Gen.DenseIdeal.Value
public import proofs.«01_k».proof.Proof.Gen.DenseRefIdeal
public import proofs.«01_k».proof.Proof.Gen.DenseRefIdeal.Run
public import proofs.«01_k».proof.Proof.Gen.DenseRefIdeal.Read
public import proofs.«01_k».proof.Proof.Gen.Mixed
public import proofs.«01_k».proof.Proof.Gen.Mixed.Frame
public import proofs.«01_k».proof.Proof.Gen.MixedIdeal
public import proofs.«01_k».proof.Proof.Gen.MixedIdeal.Frame
public import proofs.«01_k».proof.Proof.Gen.MixedIdeal.Value
public import proofs.«01_k».proof.Proof.Gen.MixedRefIdeal
public import proofs.«01_k».proof.Proof.Gen.MixedRefIdeal.Run
public import proofs.«01_k».proof.Proof.Gen.MixedRefIdeal.Read
public import proofs.«01_k».proof.Proof.Gen.Ins
public import proofs.«01_k».proof.Proof.Gen.Ins.Frame
public import proofs.«01_k».proof.Proof.Gen.InsIdeal
public import proofs.«01_k».proof.Proof.Gen.InsIdeal.Frame
public import proofs.«01_k».proof.Proof.Gen.InsIdeal.Value
public import proofs.«01_k».proof.Proof.Gen.InsRefIdeal
public import proofs.«01_k».proof.Proof.Gen.InsRefIdeal.Run
public import proofs.«01_k».proof.Proof.Gen.InsRefIdeal.Read
public import Idealize.ShloMosaic.Adequacy
public import Idealize.ShloMosaic.Init

@[expose] public section

noncomputable section

namespace Cert.Proof

open Idealize.ShloMosaic Idealize.SL.Sem

/-- The ideal reference runs, leaves its arguments unchanged and has no semaphore to leave raised. -/
theorem frame_ri : Cert.quiescent_ReferenceIdeal (hReferenceIdeal := Cert.ReferenceIdeal.Gen.facts) := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- The same of the experts' ideal reference. -/
theorem frame_ri2 : Cert.quiescent_ExpertsRefIdeal (hExpertsRefIdeal := Cert.ExpertsRefIdeal.Gen.facts) := fun m g _ =>
  (θ_run Cert.ExpertsRefIdeal.defs _ _).mono (fun r h => ⟨fun c => (h c).2,
      Idealize.ShloMosaic.sem_eq_zero_of_no_sems (by decide) r.2⟩)
    (Cert.ExpertsRefIdeal.Value.run (F := Ideal) m g)

/-- The same of the dense layer's ideal reference. -/
theorem frame_ri3 : Cert.quiescent_DenseRefIdeal (hDenseRefIdeal := Cert.DenseRefIdeal.Gen.facts) := fun m g _ =>
  (θ_run Cert.DenseRefIdeal.defs _ _).mono (fun r h => ⟨fun c => (h c).2,
      Idealize.ShloMosaic.sem_eq_zero_of_no_sems (by decide) r.2⟩)
    (Cert.DenseRefIdeal.Value.run (F := Ideal) m g)

/-- The same of the output projection's ideal reference. -/
theorem frame_ri4 : Cert.quiescent_MixedRefIdeal (hMixedRefIdeal := Cert.MixedRefIdeal.Gen.facts) := fun m g _ =>
  (θ_run Cert.MixedRefIdeal.defs _ _).mono (fun r h => ⟨fun c => (h c).2.2,
      Idealize.ShloMosaic.sem_eq_zero_of_no_sems (by decide) r.2⟩)
    (Cert.MixedRefIdeal.Value.run (F := Ideal) m g)

/-- The same of the input projection's ideal reference. -/
theorem frame_ri5 : Cert.quiescent_InsRefIdeal (hInsRefIdeal := Cert.InsRefIdeal.Gen.facts) := fun m g _ =>
  (θ_run Cert.InsRefIdeal.defs _ _).mono (fun r h => ⟨fun c => (h c).2.2.2.2.2.2.2.2.2,
      Idealize.ShloMosaic.sem_eq_zero_of_no_sems (by decide) r.2⟩)
    (Cert.InsRefIdeal.Value.run (F := Ideal) m g)

/-- The whole claim. -/
theorem claim : Cert.Claim :=
  ⟨Cert.Kernel.Gen.facts, Cert.KernelIdeal.Gen.facts, Cert.ReferenceIdeal.Gen.facts, Cert.Experts.Gen.facts,
    Cert.ExpertsIdeal.Gen.facts, Cert.ExpertsRefIdeal.Gen.facts, Cert.Dense.Gen.facts, Cert.DenseIdeal.Gen.facts,
    Cert.DenseRefIdeal.Gen.facts, Cert.Mixed.Gen.facts, Cert.MixedIdeal.Gen.facts, Cert.MixedRefIdeal.Gen.facts,
    Cert.Ins.Gen.facts, Cert.InsIdeal.Gen.facts, Cert.InsRefIdeal.Gen.facts, Cert.Pre_finite.Gen.facts, Cert.Pre_tables.Gen.facts,
    fun m g _ => Cert.Kernel.Gen.frame m g,
    fun m g _ => Cert.KernelIdeal.Gen.frame m g,
    fun m g _ => Cert.KernelIdeal.Gen.frame m g,
    frame_ri,
    fun m g _ => frame_ri m g trivial,
    Cert.Experts.Moe.frame_pre,
    Cert.ExpertsIdeal.Moe.frame_pre,
    frame_ri2,
    fun m g _ => frame_ri2 m g trivial,
    fun m g _ => Cert.Dense.Gen.frame m g,
    fun m g _ => Cert.DenseIdeal.Gen.frame m g,
    frame_ri3,
    fun m g _ => Cert.Mixed.Gen.frame m g,
    fun m g _ => Cert.MixedIdeal.Gen.frame m g,
    frame_ri4,
    fun m g _ => Cert.Ins.Gen.frame m g,
    fun m g _ => Cert.InsIdeal.Gen.frame m g,
    frame_ri5,
    trivial,
    Cert.Attend.algebraic,
    trivial,
    Cert.Moe.algebraic,
    trivial,
    Cert.DenseIdeal.Val.algebraic,
    trivial,
    Cert.MixedIdeal.Val.algebraic,
    trivial,
    Cert.InsIdeal.Val.algebraic⟩

end Cert.Proof

end
